-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "beta_right" .f32 0x3F303025#32 ((Real.log (2010101 / 1010000) : ℝ) : EReal)
  ∧ IdealRules.named_const.Statement Cert.KernelIdeal.κ "log_tail" .f32 0xC0935D8E#32 ((Real.log (1 / 100) : ℝ) : EReal)
  ∧ IdealRules.named_const.Statement Cert.KernelIdeal.κ "beta_left" .f32 0x3ECEC854#32 ((Real.log (3010201 / 2010000) : ℝ) : EReal)
  ∧ IdealRules.named_const.Statement Cert.KernelIdeal.κ "knot_first" .f32 0x3C23D70A#32 ((1 / 100 : ℝ) : EReal)
  ∧ IdealRules.named_const.Statement Cert.KernelIdeal.κ "knot_last" .f32 0x3F7D70A4#32 ((99 / 100 : ℝ) : EReal)
  ∧ IdealRules.named_const.Statement Cert.KernelIdeal.κ "inv_gap" .f32 0x3F68BA2F#32 ((10 / 11 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S16384x200 : Shape := ⟨2, ![16384, 200]⟩
abbrev S128x99 : Shape := ⟨2, ![128, 99]⟩
abbrev S99 : Shape := ⟨1, ![99]⟩
abbrev S_ : Shape := ⟨0, ![]⟩
abbrev S128x128 : Shape := ⟨2, ![128, 128]⟩
abbrev S1 : Shape := ⟨1, ![1]⟩
abbrev S1x128 : Shape := ⟨2, ![1, 128]⟩
abbrev S2 : Shape := ⟨1, ![2]⟩
abbrev S16384x256 : Shape := ⟨2, ![16384, 256]⟩
abbrev S512x128 : Shape := ⟨2, ![512, 128]⟩
abbrev S512x200 : Shape := ⟨2, ![512, 200]⟩
abbrev S512x256 : Shape := ⟨2, ![512, 256]⟩
abbrev S512x1 : Shape := ⟨2, ![512, 1]⟩
abbrev S512x56 : Shape := ⟨2, ![512, 56]⟩
abbrev S64x256 : Shape := ⟨2, ![64, 256]⟩
abbrev S64x128 : Shape := ⟨2, ![64, 128]⟩
abbrev S16 : Shape := ⟨1, ![16]⟩
abbrev S1x16 : Shape := ⟨2, ![1, 16]⟩

abbrev nBuf : Table → Nat
  | .hbm => 22
  | .local .tc .vmem => 12
  | .local .scVector .vmem => 8
  | _ => 0

abbrev bufTy : (tb : Table) → Fin (nBuf tb) → BufTy
  | .hbm, ⟨0, _⟩ => ⟨S16384x128, .f32⟩
  | .hbm, ⟨1, _⟩ => ⟨S16384x200, .f32⟩
  | .hbm, ⟨2, _⟩ => ⟨S128x99, .f32⟩
  | .hbm, ⟨3, _⟩ => ⟨S99, .f32⟩
  | .hbm, ⟨4, _⟩ => ⟨S_, .f32⟩
  | .hbm, ⟨5, _⟩ => ⟨S128x128, .f32⟩
  | .hbm, ⟨6, _⟩ => ⟨S_, .i32⟩
  | .hbm, ⟨7, _⟩ => ⟨S1, .i32⟩
  | .hbm, ⟨8, _⟩ => ⟨S128x128, .f32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S16384x128, .f32⟩
  | .hbm, ⟨18, _⟩ => ⟨S16384x256, .f32⟩
  | .hbm, ⟨19, _⟩ => ⟨S16384x256, .i32⟩
  | .hbm, ⟨20, _⟩ => ⟨S16384x256, .f32⟩
  | .hbm, ⟨21, _⟩ => ⟨S16384x200, .f32⟩
  | .local .tc .vmem, ⟨0, _⟩ => ⟨S512x128, .f32⟩
  | .local .tc .vmem, ⟨1, _⟩ => ⟨S512x128, .f32⟩
  | .local .tc .vmem, ⟨2, _⟩ => ⟨S512x200, .f32⟩
  | .local .tc .vmem, ⟨3, _⟩ => ⟨S512x200, .f32⟩
  | .local .tc .vmem, ⟨4, _⟩ => ⟨S128x128, .f32⟩
  | .local .tc .vmem, ⟨5, _⟩ => ⟨S1x128, .f32⟩
  | .local .tc .vmem, ⟨6, _⟩ => ⟨S512x128, .f32⟩
  | .local .tc .vmem, ⟨7, _⟩ => ⟨S512x128, .f32⟩
  | .local .tc .vmem, ⟨8, _⟩ => ⟨S512x256, .f32⟩
  | .local .tc .vmem, ⟨9, _⟩ => ⟨S512x256, .f32⟩
  | .local .tc .vmem, ⟨10, _⟩ => ⟨S512x256, .i32⟩
  | .local .tc .vmem, ⟨11, _⟩ => ⟨S512x256, .i32⟩
  | .local .scVector .vmem, ⟨0, _⟩ => ⟨S64x256, .f32⟩
  | .local .scVector .vmem, ⟨1, _⟩ => ⟨S64x256, .i32⟩
  | .local .scVector .vmem, ⟨2, _⟩ => ⟨S64x128, .f32⟩
  | .local .scVector .vmem, ⟨3, _⟩ => ⟨S64x256, .f32⟩
  | .local .scVector .vmem, ⟨4, _⟩ => ⟨S64x256, .f32⟩
  | .local .scVector .vmem, ⟨5, _⟩ => ⟨S64x256, .i32⟩
  | .local .scVector .vmem, ⟨6, _⟩ => ⟨S64x128, .f32⟩
  | .local .scVector .vmem, ⟨7, _⟩ => ⟨S64x256, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v8_1_scv : Ref sig .scVector := ⟨.hbm, 18, rfl⟩
abbrev main_v8_2_scv : Ref sig .scVector := ⟨.hbm, 19, rfl⟩
abbrev main_v8_0_scv : Ref sig .scVector := ⟨.hbm, 17, rfl⟩
abbrev main_v9_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k1_off1_at (r : Fin 3) : BitVec 32 :=
  if r.val < 1 then
    0#32
  else
    if r.val < 2 then
      384#32
    else
      448#32
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let v3 : BitVec 32 := Scalar.addi v2 c0_i32
  let c0_i32_4 : BitVec 32 := 0#32
  ![v3.toNat, 0]
@[reducible] def k1_t1_loop : Scf.Loop 32 :=
  let c0_i32_7 : BitVec 32 := 0#32
  let c4_i32 : BitVec 32 := 4#32
  let v10 : BitVec 32 := Scalar.addi c0_i32_7 c4_i32
  let c1_i32 : BitVec 32 := 1#32
  ⟨c0_i32_7, v10, c1_i32⟩
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_14 : BitVec 32 := 2#32
  let c0_i32_7 : BitVec 32 := 0#32
  let c1_i32 : BitVec 32 := 1#32
  let arg20 : BitVec 32 := Scf.iv c0_i32_7 c1_i32 k1_t1
  let v19 : BitVec 32 := Scalar.muli c2_i32_14 arg20
  let c1_i32_15 : BitVec 32 := 1#32
  let v20 : BitVec 32 := Scalar.addi v19 c1_i32_15
  let c64_i32 : BitVec 32 := 64#32
  let v21 : BitVec 32 := Scalar.muli v20 c64_i32
  let v22 : BitVec 32 := Scalar.addi v2 v21
  let c0_i32_16 : BitVec 32 := 0#32
  ![v22.toNat, 0]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_14 : BitVec 32 := 2#32
  let c0_i32_7 : BitVec 32 := 0#32
  let c1_i32 : BitVec 32 := 1#32
  let arg20 : BitVec 32 := Scf.iv c0_i32_7 c1_i32 k1_t1
  let v19 : BitVec 32 := Scalar.muli c2_i32_14 arg20
  let c1_i32_15 : BitVec 32 := 1#32
  let v20 : BitVec 32 := Scalar.addi v19 c1_i32_15
  let c64_i32 : BitVec 32 := 64#32
  let v21 : BitVec 32 := Scalar.muli v20 c64_i32
  let v22 : BitVec 32 := Scalar.addi v2 v21
  let c0_i32_20 : BitVec 32 := 0#32
  ![v22.toNat, 0]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_7 : BitVec 32 := 0#32
  let c1_i32 : BitVec 32 := 1#32
  let arg20 : BitVec 32 := Scf.iv c0_i32_7 c1_i32 k1_t1
  let v18 : BitVec 32 := Scalar.muli c2_i32_13 arg20
  let c64_i32_22 : BitVec 32 := 64#32
  let v29 : BitVec 32 := Scalar.muli v18 c64_i32_22
  let v30 : BitVec 32 := Scalar.addi v2 v29
  let c0_i32_23 : BitVec 32 := 0#32
  ![v30.toNat, 0]
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_7 : BitVec 32 := 0#32
  let c1_i32 : BitVec 32 := 1#32
  let arg20 : BitVec 32 := Scf.iv c0_i32_7 c1_i32 k1_t1
  let v18 : BitVec 32 := Scalar.muli c2_i32_13 arg20
  let c64_i32_22 : BitVec 32 := 64#32
  let v29 : BitVec 32 := Scalar.muli v18 c64_i32_22
  let v30 : BitVec 32 := Scalar.addi v2 v29
  let c0_i32_27 : BitVec 32 := 0#32
  ![v30.toNat, 0]
def k1_cond1 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c0_i32_29 : BitVec 32 := 0#32
  let v37 : BitVec 1 := Scalar.cmpi .sgt arg20 c0_i32_29
  let v38 : BitVec 32 := Scalar.extui v37
  let c0_i32_30 : BitVec 32 := 0#32
  let v39 : BitVec 1 := Scalar.cmpi .ne v38 c0_i32_30
  v39

def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_7 : BitVec 32 := 0#32
  let c1_i32 : BitVec 32 := 1#32
  let arg20 : BitVec 32 := Scf.iv c0_i32_7 c1_i32 k1_t1
  let v18 : BitVec 32 := Scalar.muli c2_i32_13 arg20
  let c2_i32_56 : BitVec 32 := 2#32
  let v64 : BitVec 32 := Scalar.subi v18 c2_i32_56
  let c64_i32_57 : BitVec 32 := 64#32
  let v65 : BitVec 32 := Scalar.muli v64 c64_i32_57
  let v66 : BitVec 32 := Scalar.addi v2 v65
  let c0_i32_58 : BitVec 32 := 0#32
  ![v66.toNat, 0]
@[reducible] def k1_t2_loop : Scf.Loop 32 :=
  let c0_i32_31 : BitVec 32 := 0#32
  let c64_i32_32 : BitVec 32 := 64#32
  let v40 : BitVec 32 := Scalar.addi c0_i32_31 c64_i32_32
  let c1_i32_33 : BitVec 32 := 1#32
  ⟨c0_i32_31, v40, c1_i32_33⟩
def k1_off8 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v66 : Index := Scalar.indexCast v65
  let c0 : Index := 0#32
  ![v66.toNat, 0]

def k1_chk1 (v75 : IVec S16 32) (v77 : IVec S16 32) : Prop :=
  (∀ a x, ((![v75, v77] : Fin 2 → IVec S16 32) a x).toNat < S64x128.size a)
theorem k1_idx1_inb : ∀ (v75 : IVec S16 32) (v77 : IVec S16 32) (k1_hw1 : k1_chk1 v75 v77), ∀ a x, ((![v75, v77] : Fin 2 → IVec S16 32) a x).toNat < S64x128.size a := fun v75 v77 k1_hw1 => k1_hw1

def k1_chk2 (v75 : IVec S16 32) (v80 : IVec S16 32) : Prop :=
  (∀ a x, ((![v75, v80] : Fin 2 → IVec S16 32) a x).toNat < S64x128.size a)
theorem k1_idx2_inb : ∀ (v75 : IVec S16 32) (v80 : IVec S16 32) (k1_hw2 : k1_chk2 v75 v80), ∀ a x, ((![v75, v80] : Fin 2 → IVec S16 32) a x).toNat < S64x128.size a := fun v75 v80 k1_hw2 => k1_hw2
def k1_off9 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v86 : Index := Scalar.indexCast v65
  let c0_61 : Index := 0#32
  ![v86.toNat, 0]
def k1_off10 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v88 : Index := Scalar.indexCast v65
  let c16 : Index := 16#32
  ![v88.toNat, 16]

def k1_chk3 (v97 : IVec S16 32) (v99 : IVec S16 32) : Prop :=
  (∀ a x, ((![v97, v99] : Fin 2 → IVec S16 32) a x).toNat < S64x128.size a)
theorem k1_idx3_inb : ∀ (v97 : IVec S16 32) (v99 : IVec S16 32) (k1_hw3 : k1_chk3 v97 v99), ∀ a x, ((![v97, v99] : Fin 2 → IVec S16 32) a x).toNat < S64x128.size a := fun v97 v99 k1_hw3 => k1_hw3

def k1_chk4 (v97 : IVec S16 32) (v102 : IVec S16 32) : Prop :=
  (∀ a x, ((![v97, v102] : Fin 2 → IVec S16 32) a x).toNat < S64x128.size a)
theorem k1_idx4_inb : ∀ (v97 : IVec S16 32) (v102 : IVec S16 32) (k1_hw4 : k1_chk4 v97 v102), ∀ a x, ((![v97, v102] : Fin 2 → IVec S16 32) a x).toNat < S64x128.size a := fun v97 v102 k1_hw4 => k1_hw4
def k1_off11 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v108 : Index := Scalar.indexCast v65
  let c16_68 : Index := 16#32
  ![v108.toNat, 16]
def k1_off12 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v110 : Index := Scalar.indexCast v65
  let c32 : Index := 32#32
  ![v110.toNat, 32]

def k1_chk5 (v119 : IVec S16 32) (v121 : IVec S16 32) : Prop :=
  (∀ a x, ((![v119, v121] : Fin 2 → IVec S16 32) a x).toNat < S64x128.size a)
theorem k1_idx5_inb : ∀ (v119 : IVec S16 32) (v121 : IVec S16 32) (k1_hw5 : k1_chk5 v119 v121), ∀ a x, ((![v119, v121] : Fin 2 → IVec S16 32) a x).toNat < S64x128.size a := fun v119 v121 k1_hw5 => k1_hw5

def k1_chk6 (v119 : IVec S16 32) (v124 : IVec S16 32) : Prop :=
  (∀ a x, ((![v119, v124] : Fin 2 → IVec S16 32) a x).toNat < S64x128.size a)
theorem k1_idx6_inb : ∀ (v119 : IVec S16 32) (v124 : IVec S16 32) (k1_hw6 : k1_chk6 v119 v124), ∀ a x, ((![v119, v124] : Fin 2 → IVec S16 32) a x).toNat < S64x128.size a := fun v119 v124 k1_hw6 => k1_hw6
def k1_off13 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v130 : Index := Scalar.indexCast v65
  let c32_75 : Index := 32#32
  ![v130.toNat, 32]
def k1_off14 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v132 : Index := Scalar.indexCast v65
  let c48 : Index := 48#32
  ![v132.toNat, 48]

def k1_chk7 (v141 : IVec S16 32) (v143 : IVec S16 32) : Prop :=
  (∀ a x, ((![v141, v143] : Fin 2 → IVec S16 32) a x).toNat < S64x128.size a)
theorem k1_idx7_inb : ∀ (v141 : IVec S16 32) (v143 : IVec S16 32) (k1_hw7 : k1_chk7 v141 v143), ∀ a x, ((![v141, v143] : Fin 2 → IVec S16 32) a x).toNat < S64x128.size a := fun v141 v143 k1_hw7 => k1_hw7

def k1_chk8 (v141 : IVec S16 32) (v146 : IVec S16 32) : Prop :=
  (∀ a x, ((![v141, v146] : Fin 2 → IVec S16 32) a x).toNat < S64x128.size a)
theorem k1_idx8_inb : ∀ (v141 : IVec S16 32) (v146 : IVec S16 32) (k1_hw8 : k1_chk8 v141 v146), ∀ a x, ((![v141, v146] : Fin 2 → IVec S16 32) a x).toNat < S64x128.size a := fun v141 v146 k1_hw8 => k1_hw8
def k1_off15 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v152 : Index := Scalar.indexCast v65
  let c48_82 : Index := 48#32
  ![v152.toNat, 48]
def k1_off16 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v154 : Index := Scalar.indexCast v65
  let c64 : Index := 64#32
  ![v154.toNat, 64]

def k1_chk9 (v163 : IVec S16 32) (v165 : IVec S16 32) : Prop :=
  (∀ a x, ((![v163, v165] : Fin 2 → IVec S16 32) a x).toNat < S64x128.size a)
theorem k1_idx9_inb : ∀ (v163 : IVec S16 32) (v165 : IVec S16 32) (k1_hw9 : k1_chk9 v163 v165), ∀ a x, ((![v163, v165] : Fin 2 → IVec S16 32) a x).toNat < S64x128.size a := fun v163 v165 k1_hw9 => k1_hw9

def k1_chk10 (v163 : IVec S16 32) (v168 : IVec S16 32) : Prop :=
  (∀ a x, ((![v163, v168] : Fin 2 → IVec S16 32) a x).toNat < S64x128.size a)
theorem k1_idx10_inb : ∀ (v163 : IVec S16 32) (v168 : IVec S16 32) (k1_hw10 : k1_chk10 v163 v168), ∀ a x, ((![v163, v168] : Fin 2 → IVec S16 32) a x).toNat < S64x128.size a := fun v163 v168 k1_hw10 => k1_hw10
def k1_off17 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v174 : Index := Scalar.indexCast v65
  let c64_89 : Index := 64#32
  ![v174.toNat, 64]
def k1_off18 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v176 : Index := Scalar.indexCast v65
  let c80 : Index := 80#32
  ![v176.toNat, 80]

def k1_chk11 (v185 : IVec S16 32) (v187 : IVec S16 32) : Prop :=
  (∀ a x, ((![v185, v187] : Fin 2 → IVec S16 32) a x).toNat < S64x128.size a)
theorem k1_idx11_inb : ∀ (v185 : IVec S16 32) (v187 : IVec S16 32) (k1_hw11 : k1_chk11 v185 v187), ∀ a x, ((![v185, v187] : Fin 2 → IVec S16 32) a x).toNat < S64x128.size a := fun v185 v187 k1_hw11 => k1_hw11

def k1_chk12 (v185 : IVec S16 32) (v190 : IVec S16 32) : Prop :=
  (∀ a x, ((![v185, v190] : Fin 2 → IVec S16 32) a x).toNat < S64x128.size a)
theorem k1_idx12_inb : ∀ (v185 : IVec S16 32) (v190 : IVec S16 32) (k1_hw12 : k1_chk12 v185 v190), ∀ a x, ((![v185, v190] : Fin 2 → IVec S16 32) a x).toNat < S64x128.size a := fun v185 v190 k1_hw12 => k1_hw12
def k1_off19 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v196 : Index := Scalar.indexCast v65
  let c80_96 : Index := 80#32
  ![v196.toNat, 80]
def k1_off20 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v198 : Index := Scalar.indexCast v65
  let c96 : Index := 96#32
  ![v198.toNat, 96]

def k1_chk13 (v207 : IVec S16 32) (v209 : IVec S16 32) : Prop :=
  (∀ a x, ((![v207, v209] : Fin 2 → IVec S16 32) a x).toNat < S64x128.size a)
theorem k1_idx13_inb : ∀ (v207 : IVec S16 32) (v209 : IVec S16 32) (k1_hw13 : k1_chk13 v207 v209), ∀ a x, ((![v207, v209] : Fin 2 → IVec S16 32) a x).toNat < S64x128.size a := fun v207 v209 k1_hw13 => k1_hw13

def k1_chk14 (v207 : IVec S16 32) (v212 : IVec S16 32) : Prop :=
  (∀ a x, ((![v207, v212] : Fin 2 → IVec S16 32) a x).toNat < S64x128.size a)
theorem k1_idx14_inb : ∀ (v207 : IVec S16 32) (v212 : IVec S16 32) (k1_hw14 : k1_chk14 v207 v212), ∀ a x, ((![v207, v212] : Fin 2 → IVec S16 32) a x).toNat < S64x128.size a := fun v207 v212 k1_hw14 => k1_hw14
def k1_off21 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v218 : Index := Scalar.indexCast v65
  let c96_103 : Index := 96#32
  ![v218.toNat, 96]
def k1_off22 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v220 : Index := Scalar.indexCast v65
  let c112 : Index := 112#32
  ![v220.toNat, 112]

def k1_chk15 (v229 : IVec S16 32) (v231 : IVec S16 32) : Prop :=
  (∀ a x, ((![v229, v231] : Fin 2 → IVec S16 32) a x).toNat < S64x128.size a)
theorem k1_idx15_inb : ∀ (v229 : IVec S16 32) (v231 : IVec S16 32) (k1_hw15 : k1_chk15 v229 v231), ∀ a x, ((![v229, v231] : Fin 2 → IVec S16 32) a x).toNat < S64x128.size a := fun v229 v231 k1_hw15 => k1_hw15

def k1_chk16 (v229 : IVec S16 32) (v234 : IVec S16 32) : Prop :=
  (∀ a x, ((![v229, v234] : Fin 2 → IVec S16 32) a x).toNat < S64x128.size a)
theorem k1_idx16_inb : ∀ (v229 : IVec S16 32) (v234 : IVec S16 32) (k1_hw16 : k1_chk16 v229 v234), ∀ a x, ((![v229, v234] : Fin 2 → IVec S16 32) a x).toNat < S64x128.size a := fun v229 v234 k1_hw16 => k1_hw16
def k1_off23 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v240 : Index := Scalar.indexCast v65
  let c112_110 : Index := 112#32
  ![v240.toNat, 112]
def k1_off24 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v242 : Index := Scalar.indexCast v65
  let c128 : Index := 128#32
  ![v242.toNat, 128]

def k1_chk17 (v251 : IVec S16 32) (v253 : IVec S16 32) : Prop :=
  (∀ a x, ((![v251, v253] : Fin 2 → IVec S16 32) a x).toNat < S64x128.size a)
theorem k1_idx17_inb : ∀ (v251 : IVec S16 32) (v253 : IVec S16 32) (k1_hw17 : k1_chk17 v251 v253), ∀ a x, ((![v251, v253] : Fin 2 → IVec S16 32) a x).toNat < S64x128.size a := fun v251 v253 k1_hw17 => k1_hw17

def k1_chk18 (v251 : IVec S16 32) (v256 : IVec S16 32) : Prop :=
  (∀ a x, ((![v251, v256] : Fin 2 → IVec S16 32) a x).toNat < S64x128.size a)
theorem k1_idx18_inb : ∀ (v251 : IVec S16 32) (v256 : IVec S16 32) (k1_hw18 : k1_chk18 v251 v256), ∀ a x, ((![v251, v256] : Fin 2 → IVec S16 32) a x).toNat < S64x128.size a := fun v251 v256 k1_hw18 => k1_hw18
def k1_off25 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v262 : Index := Scalar.indexCast v65
  let c128_117 : Index := 128#32
  ![v262.toNat, 128]
def k1_off26 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v264 : Index := Scalar.indexCast v65
  let c144 : Index := 144#32
  ![v264.toNat, 144]

def k1_chk19 (v273 : IVec S16 32) (v275 : IVec S16 32) : Prop :=
  (∀ a x, ((![v273, v275] : Fin 2 → IVec S16 32) a x).toNat < S64x128.size a)
theorem k1_idx19_inb : ∀ (v273 : IVec S16 32) (v275 : IVec S16 32) (k1_hw19 : k1_chk19 v273 v275), ∀ a x, ((![v273, v275] : Fin 2 → IVec S16 32) a x).toNat < S64x128.size a := fun v273 v275 k1_hw19 => k1_hw19

def k1_chk20 (v273 : IVec S16 32) (v278 : IVec S16 32) : Prop :=
  (∀ a x, ((![v273, v278] : Fin 2 → IVec S16 32) a x).toNat < S64x128.size a)
theorem k1_idx20_inb : ∀ (v273 : IVec S16 32) (v278 : IVec S16 32) (k1_hw20 : k1_chk20 v273 v278), ∀ a x, ((![v273, v278] : Fin 2 → IVec S16 32) a x).toNat < S64x128.size a := fun v273 v278 k1_hw20 => k1_hw20
def k1_off27 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v284 : Index := Scalar.indexCast v65
  let c144_124 : Index := 144#32
  ![v284.toNat, 144]
def k1_off28 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v286 : Index := Scalar.indexCast v65
  let c160 : Index := 160#32
  ![v286.toNat, 160]

def k1_chk21 (v295 : IVec S16 32) (v297 : IVec S16 32) : Prop :=
  (∀ a x, ((![v295, v297] : Fin 2 → IVec S16 32) a x).toNat < S64x128.size a)
theorem k1_idx21_inb : ∀ (v295 : IVec S16 32) (v297 : IVec S16 32) (k1_hw21 : k1_chk21 v295 v297), ∀ a x, ((![v295, v297] : Fin 2 → IVec S16 32) a x).toNat < S64x128.size a := fun v295 v297 k1_hw21 => k1_hw21

def k1_chk22 (v295 : IVec S16 32) (v300 : IVec S16 32) : Prop :=
  (∀ a x, ((![v295, v300] : Fin 2 → IVec S16 32) a x).toNat < S64x128.size a)
theorem k1_idx22_inb : ∀ (v295 : IVec S16 32) (v300 : IVec S16 32) (k1_hw22 : k1_chk22 v295 v300), ∀ a x, ((![v295, v300] : Fin 2 → IVec S16 32) a x).toNat < S64x128.size a := fun v295 v300 k1_hw22 => k1_hw22
def k1_off29 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v306 : Index := Scalar.indexCast v65
  let c160_131 : Index := 160#32
  ![v306.toNat, 160]
def k1_off30 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v308 : Index := Scalar.indexCast v65
  let c176 : Index := 176#32
  ![v308.toNat, 176]

def k1_chk23 (v317 : IVec S16 32) (v319 : IVec S16 32) : Prop :=
  (∀ a x, ((![v317, v319] : Fin 2 → IVec S16 32) a x).toNat < S64x128.size a)
theorem k1_idx23_inb : ∀ (v317 : IVec S16 32) (v319 : IVec S16 32) (k1_hw23 : k1_chk23 v317 v319), ∀ a x, ((![v317, v319] : Fin 2 → IVec S16 32) a x).toNat < S64x128.size a := fun v317 v319 k1_hw23 => k1_hw23

def k1_chk24 (v317 : IVec S16 32) (v322 : IVec S16 32) : Prop :=
  (∀ a x, ((![v317, v322] : Fin 2 → IVec S16 32) a x).toNat < S64x128.size a)
theorem k1_idx24_inb : ∀ (v317 : IVec S16 32) (v322 : IVec S16 32) (k1_hw24 : k1_chk24 v317 v322), ∀ a x, ((![v317, v322] : Fin 2 → IVec S16 32) a x).toNat < S64x128.size a := fun v317 v322 k1_hw24 => k1_hw24
def k1_off31 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v328 : Index := Scalar.indexCast v65
  let c176_138 : Index := 176#32
  ![v328.toNat, 176]
def k1_off32 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v330 : Index := Scalar.indexCast v65
  let c192 : Index := 192#32
  ![v330.toNat, 192]

def k1_chk25 (v339 : IVec S16 32) (v341 : IVec S16 32) : Prop :=
  (∀ a x, ((![v339, v341] : Fin 2 → IVec S16 32) a x).toNat < S64x128.size a)
theorem k1_idx25_inb : ∀ (v339 : IVec S16 32) (v341 : IVec S16 32) (k1_hw25 : k1_chk25 v339 v341), ∀ a x, ((![v339, v341] : Fin 2 → IVec S16 32) a x).toNat < S64x128.size a := fun v339 v341 k1_hw25 => k1_hw25

def k1_chk26 (v339 : IVec S16 32) (v344 : IVec S16 32) : Prop :=
  (∀ a x, ((![v339, v344] : Fin 2 → IVec S16 32) a x).toNat < S64x128.size a)
theorem k1_idx26_inb : ∀ (v339 : IVec S16 32) (v344 : IVec S16 32) (k1_hw26 : k1_chk26 v339 v344), ∀ a x, ((![v339, v344] : Fin 2 → IVec S16 32) a x).toNat < S64x128.size a := fun v339 v344 k1_hw26 => k1_hw26
def k1_off33 (k1_t2 : Fin k1_t2_loop.trips) : Fin 2 → Nat :=
  let c0_i32_57 : BitVec 32 := 0#32
  let c0_i32_31 : BitVec 32 := 0#32
  let c1_i32_33 : BitVec 32 := 1#32
  let arg22 : BitVec 32 := Scf.iv c0_i32_31 c1_i32_33 k1_t2
  let c1_i32_56 : BitVec 32 := 1#32
  let v64 : BitVec 32 := Scalar.muli arg22 c1_i32_56
  let v65 : BitVec 32 := Scalar.addi c0_i32_57 v64
  let v350 : Index := Scalar.indexCast v65
  let c192_145 : Index := 192#32
  ![v350.toNat, 192]
def k1_cond2 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c3_i32 : BitVec 32 := 3#32
  let v45 : BitVec 1 := Scalar.cmpi .slt arg20 c3_i32
  let v46 : BitVec 32 := Scalar.extui v45
  let c0_i32_38 : BitVec 32 := 0#32
  let v47 : BitVec 1 := Scalar.cmpi .ne v46 c0_i32_38
  v47

def k1_off34 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_14 : BitVec 32 := 2#32
  let c0_i32_7 : BitVec 32 := 0#32
  let c1_i32 : BitVec 32 := 1#32
  let arg20 : BitVec 32 := Scf.iv c0_i32_7 c1_i32 k1_t1
  let v19 : BitVec 32 := Scalar.muli c2_i32_14 arg20
  let c1_i32_15 : BitVec 32 := 1#32
  let v20 : BitVec 32 := Scalar.addi v19 c1_i32_15
  let c1_i32_56 : BitVec 32 := 1#32
  let v64 : BitVec 32 := Scalar.addi v20 c1_i32_56
  let c64_i32_57 : BitVec 32 := 64#32
  let v65 : BitVec 32 := Scalar.muli v64 c64_i32_57
  let v66 : BitVec 32 := Scalar.addi v2 v65
  let c0_i32_58 : BitVec 32 := 0#32
  ![v66.toNat, 0]
def k1_off35 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_14 : BitVec 32 := 2#32
  let c0_i32_7 : BitVec 32 := 0#32
  let c1_i32 : BitVec 32 := 1#32
  let arg20 : BitVec 32 := Scf.iv c0_i32_7 c1_i32 k1_t1
  let v19 : BitVec 32 := Scalar.muli c2_i32_14 arg20
  let c1_i32_15 : BitVec 32 := 1#32
  let v20 : BitVec 32 := Scalar.addi v19 c1_i32_15
  let c1_i32_56 : BitVec 32 := 1#32
  let v64 : BitVec 32 := Scalar.addi v20 c1_i32_56
  let c64_i32_57 : BitVec 32 := 64#32
  let v65 : BitVec 32 := Scalar.muli v64 c64_i32_57
  let v66 : BitVec 32 := Scalar.addi v2 v65
  let c0_i32_62 : BitVec 32 := 0#32
  ![v66.toNat, 0]
def k1_cond3 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c0_i32_46 : BitVec 32 := 0#32
  let v56 : BitVec 1 := Scalar.cmpi .sgt arg20 c0_i32_46
  let v57 : BitVec 32 := Scalar.extui v56
  let c0_i32_47 : BitVec 32 := 0#32
  let v58 : BitVec 1 := Scalar.cmpi .ne v57 c0_i32_47
  v58

def k1_off36 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_14 : BitVec 32 := 2#32
  let c0_i32_7 : BitVec 32 := 0#32
  let c1_i32 : BitVec 32 := 1#32
  let arg20 : BitVec 32 := Scf.iv c0_i32_7 c1_i32 k1_t1
  let v19 : BitVec 32 := Scalar.muli c2_i32_14 arg20
  let c1_i32_15 : BitVec 32 := 1#32
  let v20 : BitVec 32 := Scalar.addi v19 c1_i32_15
  let c2_i32_56 : BitVec 32 := 2#32
  let v64 : BitVec 32 := Scalar.subi v20 c2_i32_56
  let c64_i32_57 : BitVec 32 := 64#32
  let v65 : BitVec 32 := Scalar.muli v64 c64_i32_57
  let v66 : BitVec 32 := Scalar.addi v2 v65
  let c0_i32_58 : BitVec 32 := 0#32
  ![v66.toNat, 0]
@[reducible] def k1_t3_loop : Scf.Loop 32 :=
  let c0_i32_48 : BitVec 32 := 0#32
  let c64_i32_49 : BitVec 32 := 64#32
  let v59 : BitVec 32 := Scalar.addi c0_i32_48 c64_i32_49
  let c1_i32_50 : BitVec 32 := 1#32
  ⟨c0_i32_48, v59, c1_i32_50⟩
def k1_off37 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v66 : Index := Scalar.indexCast v65
  let c0 : Index := 0#32
  ![v66.toNat, 0]

def k1_chk27 (v75 : IVec S16 32) (v77 : IVec S16 32) : Prop :=
  (∀ a x, ((![v75, v77] : Fin 2 → IVec S16 32) a x).toNat < S64x128.size a)
theorem k1_idx27_inb : ∀ (v75 : IVec S16 32) (v77 : IVec S16 32) (k1_hw27 : k1_chk27 v75 v77), ∀ a x, ((![v75, v77] : Fin 2 → IVec S16 32) a x).toNat < S64x128.size a := fun v75 v77 k1_hw27 => k1_hw27

def k1_chk28 (v75 : IVec S16 32) (v80 : IVec S16 32) : Prop :=
  (∀ a x, ((![v75, v80] : Fin 2 → IVec S16 32) a x).toNat < S64x128.size a)
theorem k1_idx28_inb : ∀ (v75 : IVec S16 32) (v80 : IVec S16 32) (k1_hw28 : k1_chk28 v75 v80), ∀ a x, ((![v75, v80] : Fin 2 → IVec S16 32) a x).toNat < S64x128.size a := fun v75 v80 k1_hw28 => k1_hw28
def k1_off38 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v86 : Index := Scalar.indexCast v65
  let c0_61 : Index := 0#32
  ![v86.toNat, 0]
def k1_off39 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v88 : Index := Scalar.indexCast v65
  let c16 : Index := 16#32
  ![v88.toNat, 16]

def k1_chk29 (v97 : IVec S16 32) (v99 : IVec S16 32) : Prop :=
  (∀ a x, ((![v97, v99] : Fin 2 → IVec S16 32) a x).toNat < S64x128.size a)
theorem k1_idx29_inb : ∀ (v97 : IVec S16 32) (v99 : IVec S16 32) (k1_hw29 : k1_chk29 v97 v99), ∀ a x, ((![v97, v99] : Fin 2 → IVec S16 32) a x).toNat < S64x128.size a := fun v97 v99 k1_hw29 => k1_hw29

def k1_chk30 (v97 : IVec S16 32) (v102 : IVec S16 32) : Prop :=
  (∀ a x, ((![v97, v102] : Fin 2 → IVec S16 32) a x).toNat < S64x128.size a)
theorem k1_idx30_inb : ∀ (v97 : IVec S16 32) (v102 : IVec S16 32) (k1_hw30 : k1_chk30 v97 v102), ∀ a x, ((![v97, v102] : Fin 2 → IVec S16 32) a x).toNat < S64x128.size a := fun v97 v102 k1_hw30 => k1_hw30
def k1_off40 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v108 : Index := Scalar.indexCast v65
  let c16_68 : Index := 16#32
  ![v108.toNat, 16]
def k1_off41 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v110 : Index := Scalar.indexCast v65
  let c32 : Index := 32#32
  ![v110.toNat, 32]

def k1_chk31 (v119 : IVec S16 32) (v121 : IVec S16 32) : Prop :=
  (∀ a x, ((![v119, v121] : Fin 2 → IVec S16 32) a x).toNat < S64x128.size a)
theorem k1_idx31_inb : ∀ (v119 : IVec S16 32) (v121 : IVec S16 32) (k1_hw31 : k1_chk31 v119 v121), ∀ a x, ((![v119, v121] : Fin 2 → IVec S16 32) a x).toNat < S64x128.size a := fun v119 v121 k1_hw31 => k1_hw31

def k1_chk32 (v119 : IVec S16 32) (v124 : IVec S16 32) : Prop :=
  (∀ a x, ((![v119, v124] : Fin 2 → IVec S16 32) a x).toNat < S64x128.size a)
theorem k1_idx32_inb : ∀ (v119 : IVec S16 32) (v124 : IVec S16 32) (k1_hw32 : k1_chk32 v119 v124), ∀ a x, ((![v119, v124] : Fin 2 → IVec S16 32) a x).toNat < S64x128.size a := fun v119 v124 k1_hw32 => k1_hw32
def k1_off42 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v130 : Index := Scalar.indexCast v65
  let c32_75 : Index := 32#32
  ![v130.toNat, 32]
def k1_off43 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v132 : Index := Scalar.indexCast v65
  let c48 : Index := 48#32
  ![v132.toNat, 48]

def k1_chk33 (v141 : IVec S16 32) (v143 : IVec S16 32) : Prop :=
  (∀ a x, ((![v141, v143] : Fin 2 → IVec S16 32) a x).toNat < S64x128.size a)
theorem k1_idx33_inb : ∀ (v141 : IVec S16 32) (v143 : IVec S16 32) (k1_hw33 : k1_chk33 v141 v143), ∀ a x, ((![v141, v143] : Fin 2 → IVec S16 32) a x).toNat < S64x128.size a := fun v141 v143 k1_hw33 => k1_hw33

def k1_chk34 (v141 : IVec S16 32) (v146 : IVec S16 32) : Prop :=
  (∀ a x, ((![v141, v146] : Fin 2 → IVec S16 32) a x).toNat < S64x128.size a)
theorem k1_idx34_inb : ∀ (v141 : IVec S16 32) (v146 : IVec S16 32) (k1_hw34 : k1_chk34 v141 v146), ∀ a x, ((![v141, v146] : Fin 2 → IVec S16 32) a x).toNat < S64x128.size a := fun v141 v146 k1_hw34 => k1_hw34
def k1_off44 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v152 : Index := Scalar.indexCast v65
  let c48_82 : Index := 48#32
  ![v152.toNat, 48]
def k1_off45 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v154 : Index := Scalar.indexCast v65
  let c64 : Index := 64#32
  ![v154.toNat, 64]

def k1_chk35 (v163 : IVec S16 32) (v165 : IVec S16 32) : Prop :=
  (∀ a x, ((![v163, v165] : Fin 2 → IVec S16 32) a x).toNat < S64x128.size a)
theorem k1_idx35_inb : ∀ (v163 : IVec S16 32) (v165 : IVec S16 32) (k1_hw35 : k1_chk35 v163 v165), ∀ a x, ((![v163, v165] : Fin 2 → IVec S16 32) a x).toNat < S64x128.size a := fun v163 v165 k1_hw35 => k1_hw35

def k1_chk36 (v163 : IVec S16 32) (v168 : IVec S16 32) : Prop :=
  (∀ a x, ((![v163, v168] : Fin 2 → IVec S16 32) a x).toNat < S64x128.size a)
theorem k1_idx36_inb : ∀ (v163 : IVec S16 32) (v168 : IVec S16 32) (k1_hw36 : k1_chk36 v163 v168), ∀ a x, ((![v163, v168] : Fin 2 → IVec S16 32) a x).toNat < S64x128.size a := fun v163 v168 k1_hw36 => k1_hw36
def k1_off46 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v174 : Index := Scalar.indexCast v65
  let c64_89 : Index := 64#32
  ![v174.toNat, 64]
def k1_off47 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v176 : Index := Scalar.indexCast v65
  let c80 : Index := 80#32
  ![v176.toNat, 80]

def k1_chk37 (v185 : IVec S16 32) (v187 : IVec S16 32) : Prop :=
  (∀ a x, ((![v185, v187] : Fin 2 → IVec S16 32) a x).toNat < S64x128.size a)
theorem k1_idx37_inb : ∀ (v185 : IVec S16 32) (v187 : IVec S16 32) (k1_hw37 : k1_chk37 v185 v187), ∀ a x, ((![v185, v187] : Fin 2 → IVec S16 32) a x).toNat < S64x128.size a := fun v185 v187 k1_hw37 => k1_hw37

def k1_chk38 (v185 : IVec S16 32) (v190 : IVec S16 32) : Prop :=
  (∀ a x, ((![v185, v190] : Fin 2 → IVec S16 32) a x).toNat < S64x128.size a)
theorem k1_idx38_inb : ∀ (v185 : IVec S16 32) (v190 : IVec S16 32) (k1_hw38 : k1_chk38 v185 v190), ∀ a x, ((![v185, v190] : Fin 2 → IVec S16 32) a x).toNat < S64x128.size a := fun v185 v190 k1_hw38 => k1_hw38
def k1_off48 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v196 : Index := Scalar.indexCast v65
  let c80_96 : Index := 80#32
  ![v196.toNat, 80]
def k1_off49 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v198 : Index := Scalar.indexCast v65
  let c96 : Index := 96#32
  ![v198.toNat, 96]

def k1_chk39 (v207 : IVec S16 32) (v209 : IVec S16 32) : Prop :=
  (∀ a x, ((![v207, v209] : Fin 2 → IVec S16 32) a x).toNat < S64x128.size a)
theorem k1_idx39_inb : ∀ (v207 : IVec S16 32) (v209 : IVec S16 32) (k1_hw39 : k1_chk39 v207 v209), ∀ a x, ((![v207, v209] : Fin 2 → IVec S16 32) a x).toNat < S64x128.size a := fun v207 v209 k1_hw39 => k1_hw39

def k1_chk40 (v207 : IVec S16 32) (v212 : IVec S16 32) : Prop :=
  (∀ a x, ((![v207, v212] : Fin 2 → IVec S16 32) a x).toNat < S64x128.size a)
theorem k1_idx40_inb : ∀ (v207 : IVec S16 32) (v212 : IVec S16 32) (k1_hw40 : k1_chk40 v207 v212), ∀ a x, ((![v207, v212] : Fin 2 → IVec S16 32) a x).toNat < S64x128.size a := fun v207 v212 k1_hw40 => k1_hw40
def k1_off50 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v218 : Index := Scalar.indexCast v65
  let c96_103 : Index := 96#32
  ![v218.toNat, 96]
def k1_off51 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v220 : Index := Scalar.indexCast v65
  let c112 : Index := 112#32
  ![v220.toNat, 112]

def k1_chk41 (v229 : IVec S16 32) (v231 : IVec S16 32) : Prop :=
  (∀ a x, ((![v229, v231] : Fin 2 → IVec S16 32) a x).toNat < S64x128.size a)
theorem k1_idx41_inb : ∀ (v229 : IVec S16 32) (v231 : IVec S16 32) (k1_hw41 : k1_chk41 v229 v231), ∀ a x, ((![v229, v231] : Fin 2 → IVec S16 32) a x).toNat < S64x128.size a := fun v229 v231 k1_hw41 => k1_hw41

def k1_chk42 (v229 : IVec S16 32) (v234 : IVec S16 32) : Prop :=
  (∀ a x, ((![v229, v234] : Fin 2 → IVec S16 32) a x).toNat < S64x128.size a)
theorem k1_idx42_inb : ∀ (v229 : IVec S16 32) (v234 : IVec S16 32) (k1_hw42 : k1_chk42 v229 v234), ∀ a x, ((![v229, v234] : Fin 2 → IVec S16 32) a x).toNat < S64x128.size a := fun v229 v234 k1_hw42 => k1_hw42
def k1_off52 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v240 : Index := Scalar.indexCast v65
  let c112_110 : Index := 112#32
  ![v240.toNat, 112]
def k1_off53 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v242 : Index := Scalar.indexCast v65
  let c128 : Index := 128#32
  ![v242.toNat, 128]

def k1_chk43 (v251 : IVec S16 32) (v253 : IVec S16 32) : Prop :=
  (∀ a x, ((![v251, v253] : Fin 2 → IVec S16 32) a x).toNat < S64x128.size a)
theorem k1_idx43_inb : ∀ (v251 : IVec S16 32) (v253 : IVec S16 32) (k1_hw43 : k1_chk43 v251 v253), ∀ a x, ((![v251, v253] : Fin 2 → IVec S16 32) a x).toNat < S64x128.size a := fun v251 v253 k1_hw43 => k1_hw43

def k1_chk44 (v251 : IVec S16 32) (v256 : IVec S16 32) : Prop :=
  (∀ a x, ((![v251, v256] : Fin 2 → IVec S16 32) a x).toNat < S64x128.size a)
theorem k1_idx44_inb : ∀ (v251 : IVec S16 32) (v256 : IVec S16 32) (k1_hw44 : k1_chk44 v251 v256), ∀ a x, ((![v251, v256] : Fin 2 → IVec S16 32) a x).toNat < S64x128.size a := fun v251 v256 k1_hw44 => k1_hw44
def k1_off54 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v262 : Index := Scalar.indexCast v65
  let c128_117 : Index := 128#32
  ![v262.toNat, 128]
def k1_off55 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v264 : Index := Scalar.indexCast v65
  let c144 : Index := 144#32
  ![v264.toNat, 144]

def k1_chk45 (v273 : IVec S16 32) (v275 : IVec S16 32) : Prop :=
  (∀ a x, ((![v273, v275] : Fin 2 → IVec S16 32) a x).toNat < S64x128.size a)
theorem k1_idx45_inb : ∀ (v273 : IVec S16 32) (v275 : IVec S16 32) (k1_hw45 : k1_chk45 v273 v275), ∀ a x, ((![v273, v275] : Fin 2 → IVec S16 32) a x).toNat < S64x128.size a := fun v273 v275 k1_hw45 => k1_hw45

def k1_chk46 (v273 : IVec S16 32) (v278 : IVec S16 32) : Prop :=
  (∀ a x, ((![v273, v278] : Fin 2 → IVec S16 32) a x).toNat < S64x128.size a)
theorem k1_idx46_inb : ∀ (v273 : IVec S16 32) (v278 : IVec S16 32) (k1_hw46 : k1_chk46 v273 v278), ∀ a x, ((![v273, v278] : Fin 2 → IVec S16 32) a x).toNat < S64x128.size a := fun v273 v278 k1_hw46 => k1_hw46
def k1_off56 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v284 : Index := Scalar.indexCast v65
  let c144_124 : Index := 144#32
  ![v284.toNat, 144]
def k1_off57 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v286 : Index := Scalar.indexCast v65
  let c160 : Index := 160#32
  ![v286.toNat, 160]

def k1_chk47 (v295 : IVec S16 32) (v297 : IVec S16 32) : Prop :=
  (∀ a x, ((![v295, v297] : Fin 2 → IVec S16 32) a x).toNat < S64x128.size a)
theorem k1_idx47_inb : ∀ (v295 : IVec S16 32) (v297 : IVec S16 32) (k1_hw47 : k1_chk47 v295 v297), ∀ a x, ((![v295, v297] : Fin 2 → IVec S16 32) a x).toNat < S64x128.size a := fun v295 v297 k1_hw47 => k1_hw47

def k1_chk48 (v295 : IVec S16 32) (v300 : IVec S16 32) : Prop :=
  (∀ a x, ((![v295, v300] : Fin 2 → IVec S16 32) a x).toNat < S64x128.size a)
theorem k1_idx48_inb : ∀ (v295 : IVec S16 32) (v300 : IVec S16 32) (k1_hw48 : k1_chk48 v295 v300), ∀ a x, ((![v295, v300] : Fin 2 → IVec S16 32) a x).toNat < S64x128.size a := fun v295 v300 k1_hw48 => k1_hw48
def k1_off58 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v306 : Index := Scalar.indexCast v65
  let c160_131 : Index := 160#32
  ![v306.toNat, 160]
def k1_off59 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v308 : Index := Scalar.indexCast v65
  let c176 : Index := 176#32
  ![v308.toNat, 176]

def k1_chk49 (v317 : IVec S16 32) (v319 : IVec S16 32) : Prop :=
  (∀ a x, ((![v317, v319] : Fin 2 → IVec S16 32) a x).toNat < S64x128.size a)
theorem k1_idx49_inb : ∀ (v317 : IVec S16 32) (v319 : IVec S16 32) (k1_hw49 : k1_chk49 v317 v319), ∀ a x, ((![v317, v319] : Fin 2 → IVec S16 32) a x).toNat < S64x128.size a := fun v317 v319 k1_hw49 => k1_hw49

def k1_chk50 (v317 : IVec S16 32) (v322 : IVec S16 32) : Prop :=
  (∀ a x, ((![v317, v322] : Fin 2 → IVec S16 32) a x).toNat < S64x128.size a)
theorem k1_idx50_inb : ∀ (v317 : IVec S16 32) (v322 : IVec S16 32) (k1_hw50 : k1_chk50 v317 v322), ∀ a x, ((![v317, v322] : Fin 2 → IVec S16 32) a x).toNat < S64x128.size a := fun v317 v322 k1_hw50 => k1_hw50
def k1_off60 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v328 : Index := Scalar.indexCast v65
  let c176_138 : Index := 176#32
  ![v328.toNat, 176]
def k1_off61 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v330 : Index := Scalar.indexCast v65
  let c192 : Index := 192#32
  ![v330.toNat, 192]

def k1_chk51 (v339 : IVec S16 32) (v341 : IVec S16 32) : Prop :=
  (∀ a x, ((![v339, v341] : Fin 2 → IVec S16 32) a x).toNat < S64x128.size a)
theorem k1_idx51_inb : ∀ (v339 : IVec S16 32) (v341 : IVec S16 32) (k1_hw51 : k1_chk51 v339 v341), ∀ a x, ((![v339, v341] : Fin 2 → IVec S16 32) a x).toNat < S64x128.size a := fun v339 v341 k1_hw51 => k1_hw51

def k1_chk52 (v339 : IVec S16 32) (v344 : IVec S16 32) : Prop :=
  (∀ a x, ((![v339, v344] : Fin 2 → IVec S16 32) a x).toNat < S64x128.size a)
theorem k1_idx52_inb : ∀ (v339 : IVec S16 32) (v344 : IVec S16 32) (k1_hw52 : k1_chk52 v339 v344), ∀ a x, ((![v339, v344] : Fin 2 → IVec S16 32) a x).toNat < S64x128.size a := fun v339 v344 k1_hw52 => k1_hw52
def k1_off62 (k1_t3 : Fin k1_t3_loop.trips) : Fin 2 → Nat :=
  let c0_i32_57 : BitVec 32 := 0#32
  let c0_i32_48 : BitVec 32 := 0#32
  let c1_i32_50 : BitVec 32 := 1#32
  let arg22 : BitVec 32 := Scf.iv c0_i32_48 c1_i32_50 k1_t3
  let c1_i32_56 : BitVec 32 := 1#32
  let v64 : BitVec 32 := Scalar.muli arg22 c1_i32_56
  let v65 : BitVec 32 := Scalar.addi c0_i32_57 v64
  let v350 : Index := Scalar.indexCast v65
  let c192_145 : Index := 192#32
  ![v350.toNat, 192]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "beta_left" => some ((Real.log (3010201 / 2010000) : ℝ) : EReal)
  | "beta_right" => some ((Real.log (2010101 / 1010000) : ℝ) : EReal)
  | "inv_gap" => some ((10 / 11 : ℝ) : EReal)
  | "knot_first" => some ((1 / 100 : ℝ) : EReal)
  | "knot_last" => some ((99 / 100 : ℝ) : EReal)
  | "log_tail" => some ((Real.log (1 / 100) : ℝ) : EReal)
  | _ => none
-- ==== ReferenceIdeal.lean ====
abbrev S16384x128 : Shape := ⟨2, ![16384, 128]⟩
abbrev S16384x200 : Shape := ⟨2, ![16384, 200]⟩
abbrev S128x99 : Shape := ⟨2, ![128, 99]⟩
abbrev S99 : Shape := ⟨1, ![99]⟩
abbrev S_ : Shape := ⟨0, ![]⟩
abbrev S16384x99 : Shape := ⟨2, ![16384, 99]⟩
abbrev S1x99 : Shape := ⟨2, ![1, 99]⟩
abbrev S1 : Shape := ⟨1, ![1]⟩
abbrev S16384x1 : Shape := ⟨2, ![16384, 1]⟩
abbrev S16384x200x1 : Shape := ⟨3, ![16384, 200, 1]⟩
abbrev S1x1x99 : Shape := ⟨3, ![1, 1, 99]⟩
abbrev S16384x200x99 : Shape := ⟨3, ![16384, 200, 99]⟩
abbrev S1x1x1 : Shape := ⟨3, ![1, 1, 1]⟩

abbrev nBuf : Space → Nat
  | .hbm => 224
  | .vmem => 0
  | .smem => 0
  | _ => 0

abbrev hbmTy0_0 (i : Nat) : BufTy := match i % 128 with
  | 0 => ⟨S16384x128, .f32⟩
  | 1 => ⟨S16384x200, .f32⟩
  | 2 => ⟨S128x99, .f32⟩
  | 3 => ⟨S99, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S99, .f32⟩
  | 11 => ⟨S_, .f32⟩
  | 12 => ⟨S99, .f32⟩
  | 13 => ⟨S99, .f32⟩
  | 14 => ⟨S_, .f32⟩
  | 15 => ⟨S99, .f32⟩
  | 16 => ⟨S99, .f32⟩
  | 17 => ⟨S16384x99, .f32⟩
  | 18 => ⟨S1x99, .f32⟩
  | 19 => ⟨S16384x99, .f32⟩
  | 20 => ⟨S16384x99, .f32⟩
  | 21 => ⟨S_, .f32⟩
  | 22 => ⟨S16384x99, .f32⟩
  | 23 => ⟨S16384x99, .f32⟩
  | 24 => ⟨S16384x99, .f32⟩
  | 25 => ⟨S16384x99, .f32⟩
  | 26 => ⟨S16384x99, .i1⟩
  | 27 => ⟨S16384x99, .f32⟩
  | 28 => ⟨S16384x99, .f32⟩
  | 29 => ⟨S16384x99, .f32⟩
  | 30 => ⟨S16384x99, .f32⟩
  | 31 => ⟨S16384x99, .f32⟩
  | 32 => ⟨S16384x99, .f32⟩
  | 33 => ⟨S16384x99, .f32⟩
  | 34 => ⟨S16384x99, .f32⟩
  | 35 => ⟨S_, .f32⟩
  | 36 => ⟨S_, .f32⟩
  | 37 => ⟨S16384x99, .f32⟩
  | 38 => ⟨S1, .f32⟩
  | 39 => ⟨S_, .f32⟩
  | 40 => ⟨S_, .f32⟩
  | 41 => ⟨S_, .f32⟩
  | 42 => ⟨S_, .f32⟩
  | 43 => ⟨S1, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S16384x1, .f32⟩
  | 52 => ⟨S16384x1, .f32⟩
  | 53 => ⟨S16384x1, .f32⟩
  | 54 => ⟨S16384x1, .f32⟩
  | 55 => ⟨S16384x1, .f32⟩
  | 56 => ⟨S1, .f32⟩
  | 57 => ⟨S_, .f32⟩
  | 58 => ⟨S_, .f32⟩
  | 59 => ⟨S1, .f32⟩
  | 60 => ⟨S_, .f32⟩
  | 61 => ⟨S_, .f32⟩
  | 62 => ⟨S_, .f32⟩
  | 63 => ⟨S_, .f32⟩
  | 64 => ⟨S_, .f32⟩
  | 65 => ⟨S16384x1, .f32⟩
  | 66 => ⟨S16384x1, .f32⟩
  | 67 => ⟨S16384x1, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1, .f32⟩
  | 74 => ⟨S1, .f32⟩
  | 75 => ⟨S_, .f32⟩
  | 76 => ⟨S_, .f32⟩
  | 77 => ⟨S_, .f32⟩
  | 78 => ⟨S_, .f32⟩
  | 79 => ⟨S16384x1, .f32⟩
  | 80 => ⟨S16384x1, .f32⟩
  | 81 => ⟨S16384x1, .f32⟩
  | 82 => ⟨S16384x1, .f32⟩
  | 83 => ⟨S_, .f32⟩
  | 84 => ⟨S16384x200, .f32⟩
  | 85 => ⟨S16384x200, .f32⟩
  | 86 => ⟨S16384x200, .f32⟩
  | 87 => ⟨S16384x200, .f32⟩
  | 88 => ⟨S16384x200, .f32⟩
  | 89 => ⟨S16384x200, .f32⟩
  | 90 => ⟨S16384x200, .f32⟩
  | 91 => ⟨S_, .f32⟩
  | 92 => ⟨S16384x1, .f32⟩
  | 93 => ⟨S16384x1, .f32⟩
  | 94 => ⟨S16384x1, .f32⟩
  | 95 => ⟨S1, .f32⟩
  | 96 => ⟨S_, .f32⟩
  | 97 => ⟨S_, .f32⟩
  | 98 => ⟨S16384x1, .f32⟩
  | 99 => ⟨S16384x1, .f32⟩
  | 100 => ⟨S16384x1, .f32⟩
  | 101 => ⟨S16384x1, .f32⟩
  | 102 => ⟨S16384x200, .f32⟩
  | 103 => ⟨S16384x200, .f32⟩
  | 104 => ⟨S16384x200, .f32⟩
  | 105 => ⟨S16384x200, .f32⟩
  | 106 => ⟨S16384x200, .f32⟩
  | 107 => ⟨S1, .f32⟩
  | 108 => ⟨S_, .f32⟩
  | 109 => ⟨S16384x200, .f32⟩
  | 110 => ⟨S16384x200, .i1⟩
  | 111 => ⟨S1, .f32⟩
  | 112 => ⟨S_, .f32⟩
  | 113 => ⟨S16384x200, .f32⟩
  | 114 => ⟨S16384x200, .i1⟩
  | 115 => ⟨S16384x200, .i1⟩
  | 116 => ⟨S16384x200, .i1⟩
  | 117 => ⟨S16384x200, .i1⟩
  | 118 => ⟨S16384x200x1, .f32⟩
  | 119 => ⟨S1x1x99, .f32⟩
  | 120 => ⟨S16384x200x99, .f32⟩
  | 121 => ⟨S16384x200x99, .f32⟩
  | 122 => ⟨S16384x200x99, .i1⟩
  | 123 => ⟨S16384x200x99, .i32⟩
  | 124 => ⟨S_, .i32⟩
  | 125 => ⟨S16384x200, .i32⟩
  | 126 => ⟨S_, .i32⟩
  | 127 => ⟨S16384x200, .i32⟩
  | _ => ⟨S16384x128, .f32⟩

abbrev hbmTy0_1 (i : Nat) : BufTy := match i % 128 with
  | 0 => ⟨S16384x200, .i1⟩
  | 1 => ⟨S_, .i32⟩
  | 2 => ⟨S_, .i32⟩
  | 3 => ⟨S16384x200, .i32⟩
  | 4 => ⟨S16384x200, .i32⟩
  | 5 => ⟨S_, .i32⟩
  | 6 => ⟨S16384x200, .i32⟩
  | 7 => ⟨S16384x200, .i32⟩
  | 8 => ⟨S_, .i32⟩
  | 9 => ⟨S16384x200, .i32⟩
  | 10 => ⟨S16384x200, .i1⟩
  | 11 => ⟨S_, .i32⟩
  | 12 => ⟨S16384x200, .i32⟩
  | 13 => ⟨S16384x200, .i32⟩
  | 14 => ⟨S_, .i32⟩
  | 15 => ⟨S_, .i32⟩
  | 16 => ⟨S16384x200, .i32⟩
  | 17 => ⟨S16384x200, .i32⟩
  | 18 => ⟨S_, .i32⟩
  | 19 => ⟨S16384x200, .i32⟩
  | 20 => ⟨S16384x200, .i1⟩
  | 21 => ⟨S_, .i32⟩
  | 22 => ⟨S16384x200, .i32⟩
  | 23 => ⟨S16384x200, .i32⟩
  | 24 => ⟨S16384x200, .i32⟩
  | 25 => ⟨S16384x200x1, .i32⟩
  | 26 => ⟨S1, .i32⟩
  | 27 => ⟨S_, .i32⟩
  | 28 => ⟨S16384x200x1, .i32⟩
  | 29 => ⟨S16384x200x1, .i1⟩
  | 30 => ⟨S1x1x1, .i32⟩
  | 31 => ⟨S16384x200x1, .i32⟩
  | 32 => ⟨S16384x200x1, .i1⟩
  | 33 => ⟨S16384x200x1, .i1⟩
  | 34 => ⟨S_, .i1⟩
  | 35 => ⟨S16384x200, .i1⟩
  | 36 => ⟨S16384x200, .f32⟩
  | 37 => ⟨S_, .f32⟩
  | 38 => ⟨S16384x200, .f32⟩
  | 39 => ⟨S16384x200, .f32⟩
  | 40 => ⟨S_, .i32⟩
  | 41 => ⟨S16384x200, .i32⟩
  | 42 => ⟨S16384x200, .i1⟩
  | 43 => ⟨S_, .i32⟩
  | 44 => ⟨S16384x200, .i32⟩
  | 45 => ⟨S16384x200, .i32⟩
  | 46 => ⟨S16384x200, .i32⟩
  | 47 => ⟨S16384x200x1, .i32⟩
  | 48 => ⟨S1, .i32⟩
  | 49 => ⟨S_, .i32⟩
  | 50 => ⟨S16384x200x1, .i32⟩
  | 51 => ⟨S16384x200x1, .i1⟩
  | 52 => ⟨S1x1x1, .i32⟩
  | 53 => ⟨S16384x200x1, .i32⟩
  | 54 => ⟨S16384x200x1, .i1⟩
  | 55 => ⟨S16384x200x1, .i1⟩
  | 56 => ⟨S_, .i1⟩
  | 57 => ⟨S16384x200, .i1⟩
  | 58 => ⟨S16384x200, .f32⟩
  | 59 => ⟨S_, .f32⟩
  | 60 => ⟨S16384x200, .f32⟩
  | 61 => ⟨S16384x200, .f32⟩
  | 62 => ⟨S_, .i32⟩
  | 63 => ⟨S16384x200, .i32⟩
  | 64 => ⟨S16384x200, .i1⟩
  | 65 => ⟨S_, .i32⟩
  | 66 => ⟨S16384x200, .i32⟩
  | 67 => ⟨S16384x200, .i32⟩
  | 68 => ⟨S16384x200, .i32⟩
  | 69 => ⟨S16384x200x1, .i32⟩
  | 70 => ⟨S16384x200, .f32⟩
  | 71 => ⟨S_, .i32⟩
  | 72 => ⟨S16384x200, .i32⟩
  | 73 => ⟨S16384x200, .i1⟩
  | 74 => ⟨S_, .i32⟩
  | 75 => ⟨S16384x200, .i32⟩
  | 76 => ⟨S16384x200, .i32⟩
  | 77 => ⟨S16384x200, .i32⟩
  | 78 => ⟨S16384x200x1, .i32⟩
  | 79 => ⟨S16384x200, .f32⟩
  | 80 => ⟨S16384x200, .f32⟩
  | 81 => ⟨S16384x200, .f32⟩
  | 82 => ⟨S16384x200, .f32⟩
  | 83 => ⟨S16384x200, .f32⟩
  | 84 => ⟨S16384x200, .f32⟩
  | 85 => ⟨S16384x200, .f32⟩
  | 86 => ⟨S16384x200, .f32⟩
  | 87 => ⟨S16384x200, .f32⟩
  | 88 => ⟨S16384x200, .f32⟩
  | 89 => ⟨S16384x200, .f32⟩
  | 90 => ⟨S16384x200, .f32⟩
  | 91 => ⟨S16384x200, .f32⟩
  | 92 => ⟨S16384x200, .f32⟩
  | 93 => ⟨S16384x200, .f32⟩
  | 94 => ⟨S16384x200, .f32⟩
  | 95 => ⟨S16384x200, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_cst_2 : Ref sig .tc := ⟨.hbm, 8, rfl⟩
abbrev main_v1 : Ref sig .tc := ⟨.hbm, 9, rfl⟩
abbrev main_v2 : Ref sig .tc := ⟨.hbm, 10, rfl⟩
abbrev main_cst_3 : Ref sig .tc := ⟨.hbm, 11, rfl⟩
abbrev main_v3 : Ref sig .tc := ⟨.hbm, 12, rfl⟩
abbrev main_v4 : Ref sig .tc := ⟨.hbm, 13, rfl⟩
abbrev main_cst_4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v11 : Ref sig .tc := ⟨.hbm, 34, rfl⟩
abbrev main_call1_call0_cst : Ref sig .tc := ⟨.hbm, 35, rfl⟩
abbrev main_call1_call0_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_5 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_v93 : Ref sig .tc := ⟨.hbm, 125, rfl⟩
abbrev main_c_11 : Ref sig .tc := ⟨.hbm, 126, rfl⟩
abbrev main_v94 : Ref sig .tc := ⟨.hbm, 127, rfl⟩
abbrev main_v95 : Ref sig .tc := ⟨.hbm, 128, rfl⟩
abbrev main_c_12 : Ref sig .tc := ⟨.hbm, 129, rfl⟩
abbrev main_call2_v0 : Ref sig .tc := ⟨.hbm, 130, rfl⟩
abbrev main_call2_v1 : Ref sig .tc := ⟨.hbm, 131, rfl⟩
abbrev main_v96 : Ref sig .tc := ⟨.hbm, 132, rfl⟩
abbrev main_c_13 : Ref sig .tc := ⟨.hbm, 133, rfl⟩
abbrev main_v97 : Ref sig .tc := ⟨.hbm, 134, rfl⟩
abbrev main_v98 : Ref sig .tc := ⟨.hbm, 135, rfl⟩
abbrev main_c_14 : Ref sig .tc := ⟨.hbm, 136, rfl⟩
abbrev main_v99 : Ref sig .tc := ⟨.hbm, 137, rfl⟩
abbrev main_v100 : Ref sig .tc := ⟨.hbm, 138, rfl⟩
abbrev main_c_15 : Ref sig .tc := ⟨.hbm, 139, rfl⟩
abbrev main_v101 : Ref sig .tc := ⟨.hbm, 140, rfl⟩
abbrev main_v102 : Ref sig .tc := ⟨.hbm, 141, rfl⟩
abbrev main_c_16 : Ref sig .tc := ⟨.hbm, 142, rfl⟩
abbrev main_call3_v0 : Ref sig .tc := ⟨.hbm, 143, rfl⟩
abbrev main_call3_v1 : Ref sig .tc := ⟨.hbm, 144, rfl⟩
abbrev main_v103 : Ref sig .tc := ⟨.hbm, 145, rfl⟩
abbrev main_call4_c : Ref sig .tc := ⟨.hbm, 146, rfl⟩
abbrev main_call4_v0 : Ref sig .tc := ⟨.hbm, 147, rfl⟩
abbrev main_call4_v1 : Ref sig .tc := ⟨.hbm, 148, rfl⟩
abbrev main_call4_c_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_c_1 : Ref sig .tc := ⟨.hbm, 154, rfl⟩
abbrev main_call4_c_2 : Ref sig .tc := ⟨.hbm, 155, rfl⟩
abbrev main_call4_v6 : Ref sig .tc := ⟨.hbm, 156, rfl⟩
abbrev main_call4_v7 : Ref sig .tc := ⟨.hbm, 157, rfl⟩
abbrev main_call4_v8 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_c_3 : Ref sig .tc := ⟨.hbm, 162, rfl⟩
abbrev main_call4_v12 : Ref sig .tc := ⟨.hbm, 163, rfl⟩
abbrev main_call4_v13 : Ref sig .tc := ⟨.hbm, 164, rfl⟩
abbrev main_call4_cst : Ref sig .tc := ⟨.hbm, 165, rfl⟩
abbrev main_call4_v14 : Ref sig .tc := ⟨.hbm, 166, rfl⟩
abbrev main_v104 : Ref sig .tc := ⟨.hbm, 167, rfl⟩
abbrev main_call5_c : Ref sig .tc := ⟨.hbm, 168, rfl⟩
abbrev main_call5_v0 : Ref sig .tc := ⟨.hbm, 169, rfl⟩
abbrev main_call5_v1 : Ref sig .tc := ⟨.hbm, 170, rfl⟩
abbrev main_call5_c_0 : Ref sig .tc := ⟨.hbm, 171, rfl⟩
abbrev main_call5_v2 : Ref sig .tc := ⟨.hbm, 172, rfl⟩
abbrev main_call5_v3 : Ref sig .tc := ⟨.hbm, 173, rfl⟩
abbrev main_call5_v4 : Ref sig .tc := ⟨.hbm, 174, rfl⟩
abbrev main_call5_v5 : Ref sig .tc := ⟨.hbm, 175, rfl⟩
abbrev main_call5_c_1 : Ref sig .tc := ⟨.hbm, 176, rfl⟩
abbrev main_call5_c_2 : Ref sig .tc := ⟨.hbm, 177, rfl⟩
abbrev main_call5_v6 : Ref sig .tc := ⟨.hbm, 178, rfl⟩
abbrev main_call5_v7 : Ref sig .tc := ⟨.hbm, 179, rfl⟩
abbrev main_call5_v8 : Ref sig .tc := ⟨.hbm, 180, rfl⟩
abbrev main_call5_v9 : Ref sig .tc := ⟨.hbm, 181, rfl⟩
abbrev main_call5_v10 : Ref sig .tc := ⟨.hbm, 182, rfl⟩
abbrev main_call5_v11 : Ref sig .tc := ⟨.hbm, 183, rfl⟩
abbrev main_call5_c_3 : Ref sig .tc := ⟨.hbm, 184, rfl⟩
abbrev main_call5_v12 : Ref sig .tc := ⟨.hbm, 185, rfl⟩
abbrev main_call5_v13 : Ref sig .tc := ⟨.hbm, 186, rfl⟩
abbrev main_call5_cst : Ref sig .tc := ⟨.hbm, 187, rfl⟩
abbrev main_call5_v14 : Ref sig .tc := ⟨.hbm, 188, rfl⟩
abbrev main_v105 : Ref sig .tc := ⟨.hbm, 189, rfl⟩
abbrev main_c_17 : Ref sig .tc := ⟨.hbm, 190, rfl⟩
abbrev main_v106 : Ref sig .tc := ⟨.hbm, 191, rfl⟩
abbrev main_v107 : Ref sig .tc := ⟨.hbm, 192, rfl⟩
abbrev main_c_18 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_c_19 : Ref sig .tc := ⟨.hbm, 199, rfl⟩
abbrev main_v113 : Ref sig .tc := ⟨.hbm, 200, rfl⟩
abbrev main_v114 : Ref sig .tc := ⟨.hbm, 201, rfl⟩
abbrev main_c_20 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩

abbrev nD : Nat := 1
abbrev τ : Topo := Topo.v7x

variable {F : FTy → Type} [FloatOps F]
-- ==== Proof.Common.lean ====
/-
  The program as the launch theorem sees it, the resource algebra, and the buffers' names.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Batch
public import Idealize.ShloMosaic.Lib.ValueIdxCore
public import Idealize.ShloMosaic.Lib.WritesUnit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

abbrev EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance : (EH (F := F)).LandsIn (upEmb : UEmb _ 𝕄) := by unfold EH; infer_instance
instance : (EP (F := F)).LandsIn (upEmb : UEmb _ 𝕄) := by unfold EP; infer_instance

/-- The transfers' counters, in the machine's algebra. -/
abbrev EC : UEmb Counters (MT nD τ sig (HIx 1) (Elt F) ℕ UU ℕ) := countersEmb

/-! ## A buffer readable by everyone who holds any share of it -/

/-- Some share of a buffer known to hold `f`. -/
def RD (ℓ : Loc nD τ sig) (f : Buf (Elt F) ℓ) : sProp 𝕄 := iprop(∃ q : PosShare TreeShare, ℓ ↦{q} f)

instance (ℓ : Loc nD τ sig) (f : Buf (Elt F) ℓ) : Storable (upEmb : UEmb _ 𝕄) (RD ℓ f) := by unfold RD; infer_instance

theorem RD_intro (ℓ : Loc nD τ sig) (q : PosShare TreeShare) (f : Buf (Elt F) ℓ) : (ℓ ↦{q} f : sProp 𝕄) ⊢ RD ℓ f := by
  unfold RD; iintro H; iexists q; iexact H

theorem RD_dup (ℓ : Loc nD τ sig) (f : Buf (Elt F) ℓ) : (RD ℓ f : sProp 𝕄) ⊢ iprop(RD ℓ f ∗ RD ℓ f) := by
  unfold RD
  iintro ⟨%q, H⟩
  ihave H' := (pointsTo_share (PosShare.mem_left_op_right q)).1 $$ H
  icases H' with ⟨H1, H2⟩
  isplitl [H1]
  · iexists q.left; iexact H1
  · iexists q.right; iexact H2

/-- A readable buffer may be handed to any number of readers. -/
theorem RD_many {ι : Type} (s : Finset ι) (ℓ : Loc nD τ sig) (f : Buf (Elt F) ℓ) :
    (RD ℓ f : sProp 𝕄) ⊢ bigSep s fun _ => RD ℓ f := by
  classical
  induction s using Finset.induction_on with
  | empty => rw [bigSep_empty]; iintro -; iempintro
  | insert a s ha ih =>
    rw [bigSep_insert ha]
    refine (RD_dup ℓ f).trans ?_
    exact sep_mono .rfl ih

end Cert.Proof

end
-- ==== Proof.Row.lean ====
/-
  One row of the SparseCore kernel's inner loop, as thirteen equal steps of sixteen columns each.
  A step loads sixteen words of the two tables, gathers the two knots a word names, interpolates
  between them and stores the sixteen results.
-/
module

public import proofs.«01_k».proof.Defs
public import proofs.«01_k».proof.Proof.Gen.KernelIdeal
public import proofs.«01_k».proof.Proof.Gen.KernelIdeal.Skeleton

@[expose] public section

noncomputable section

namespace Cert.Proof.Row

open Cert.KernelIdeal Cert.KernelIdeal.Gen
open Idealize.ShloMosaic Idealize.SL.Sem

variable {F : FTy → Type} [FloatOps F] [Named F]

/-- Sixteen columns of one row: what is loaded, checked, gathered, combined and stored. -/
def vecStep (i : grid1.Coords) (A1 : Memref sig .scVector .vmem S64x256 .f32) (A2 : Memref sig .scVector .vmem S64x256 .i32)
    (Q : Memref sig .scVector .vmem S64x128 .f32) (O : Memref sig .scVector .vmem S64x256 .f32)
    (p : Fin 2 → ℕ) (hp : ∀ a, p a + S1x16.size a ≤ S64x256.size a) (o : Fin 2 → ℕ) (ho : ∀ a, o a + S1x16.size a ≤ S64x256.size a) :
    Prog (TpuEff nD τ sig (Elt F) Λ₀ (.scVector ((i 0).castLE hcore1) ((i 1).castLE hsub1))) PUnit := do
  let x : Vec F S1x16 .f32 ← Prog.lift (.load A1 (Rect.unit (s := S64x256) p S1x16.size hp).toLoadRect (View.loadsAt_vmem h_S1x16))
  let w : Vec F S1x16 .i32 ← Prog.lift (.load A2 (Rect.unit (s := S64x256) p S1x16.size hp).toLoadRect (View.loadsAt_vmem h_S1x16))
  have h1 : k1_chk1 (k1_pay3 w) (k1_pay4 w) := (← Prog.lift (TpuEff.assume (k1_chk1 (k1_pay3 w) (k1_pay4 w)) (k1_chk1.dec (k1_pay3 w) (k1_pay4 w)))).down
  let l : Vec F S16 .f32 ← SparseCore.vectorLoadIdx Q ![k1_pay3 w, k1_pay4 w] (k1_idx1_inb (k1_pay3 w) (k1_pay4 w) h1) (View.loads_vmem h_S64x128)
  have h2 : k1_chk1 (k1_pay3 w) (k1_pay5 (k1_pay4 w)) := (← Prog.lift (TpuEff.assume (k1_chk1 (k1_pay3 w) (k1_pay5 (k1_pay4 w))) (k1_chk1.dec (k1_pay3 w) (k1_pay5 (k1_pay4 w))))).down
  let r : Vec F S16 .f32 ← SparseCore.vectorLoadIdx Q ![k1_pay3 w, k1_pay5 (k1_pay4 w)] (k1_idx1_inb (k1_pay3 w) (k1_pay5 (k1_pay4 w)) h2) (View.loads_vmem h_S64x128)
  let _u : Vec F S1x16 .f32 ← Prog.lift (.load O (Rect.unit (s := S64x256) o S1x16.size ho).toLoadRect (View.loadsAt_vmem h_S1x16))
  Prog.lift (.store O (Rect.unit (s := S64x256) o S1x16.size ho) (shapeCast S1x16 (k1_pay6 x w l r) shapeCasts_S16_S1x16) Finset.univ (View.stores_vmem_bits_univ h_S1x16 rfl) (.inl rfl))

/-- A row of the even chunks. -/
def rowE (i : grid1.Coords) (A1 : Memref sig .scVector .vmem S64x256 .f32) (A2 : Memref sig .scVector .vmem S64x256 .i32)
    (Q : Memref sig .scVector .vmem S64x128 .f32) (O : Memref sig .scVector .vmem S64x256 .f32) (t : Fin k1_t2_loop.trips) :
    Prog (TpuEff nD τ sig (Elt F) Λ₀ (.scVector ((i 0).castLE hcore1) ((i 1).castLE hsub1))) PUnit := do
  vecStep i A1 A2 Q O (k1_off8 t) (k1_off8_inb t) (k1_off9 t) (k1_off9_inb t)
  vecStep i A1 A2 Q O (k1_off10 t) (k1_off10_inb t) (k1_off11 t) (k1_off11_inb t)
  vecStep i A1 A2 Q O (k1_off12 t) (k1_off12_inb t) (k1_off13 t) (k1_off13_inb t)
  vecStep i A1 A2 Q O (k1_off14 t) (k1_off14_inb t) (k1_off15 t) (k1_off15_inb t)
  vecStep i A1 A2 Q O (k1_off16 t) (k1_off16_inb t) (k1_off17 t) (k1_off17_inb t)
  vecStep i A1 A2 Q O (k1_off18 t) (k1_off18_inb t) (k1_off19 t) (k1_off19_inb t)
  vecStep i A1 A2 Q O (k1_off20 t) (k1_off20_inb t) (k1_off21 t) (k1_off21_inb t)
  vecStep i A1 A2 Q O (k1_off22 t) (k1_off22_inb t) (k1_off23 t) (k1_off23_inb t)
  vecStep i A1 A2 Q O (k1_off24 t) (k1_off24_inb t) (k1_off25 t) (k1_off25_inb t)
  vecStep i A1 A2 Q O (k1_off26 t) (k1_off26_inb t) (k1_off27 t) (k1_off27_inb t)
  vecStep i A1 A2 Q O (k1_off28 t) (k1_off28_inb t) (k1_off29 t) (k1_off29_inb t)
  vecStep i A1 A2 Q O (k1_off30 t) (k1_off30_inb t) (k1_off31 t) (k1_off31_inb t)
  vecStep i A1 A2 Q O (k1_off32 t) (k1_off32_inb t) (k1_off33 t) (k1_off33_inb t)
  pure ⟨⟩

/-- A row of the odd chunks. -/
def rowO (i : grid1.Coords) (A1 : Memref sig .scVector .vmem S64x256 .f32) (A2 : Memref sig .scVector .vmem S64x256 .i32)
    (Q : Memref sig .scVector .vmem S64x128 .f32) (O : Memref sig .scVector .vmem S64x256 .f32) (t : Fin k1_t3_loop.trips) :
    Prog (TpuEff nD τ sig (Elt F) Λ₀ (.scVector ((i 0).castLE hcore1) ((i 1).castLE hsub1))) PUnit := do
  vecStep i A1 A2 Q O (k1_off37 t) (k1_off37_inb t) (k1_off38 t) (k1_off38_inb t)
  vecStep i A1 A2 Q O (k1_off39 t) (k1_off39_inb t) (k1_off40 t) (k1_off40_inb t)
  vecStep i A1 A2 Q O (k1_off41 t) (k1_off41_inb t) (k1_off42 t) (k1_off42_inb t)
  vecStep i A1 A2 Q O (k1_off43 t) (k1_off43_inb t) (k1_off44 t) (k1_off44_inb t)
  vecStep i A1 A2 Q O (k1_off45 t) (k1_off45_inb t) (k1_off46 t) (k1_off46_inb t)
  vecStep i A1 A2 Q O (k1_off47 t) (k1_off47_inb t) (k1_off48 t) (k1_off48_inb t)
  vecStep i A1 A2 Q O (k1_off49 t) (k1_off49_inb t) (k1_off50 t) (k1_off50_inb t)
  vecStep i A1 A2 Q O (k1_off51 t) (k1_off51_inb t) (k1_off52 t) (k1_off52_inb t)
  vecStep i A1 A2 Q O (k1_off53 t) (k1_off53_inb t) (k1_off54 t) (k1_off54_inb t)
  vecStep i A1 A2 Q O (k1_off55 t) (k1_off55_inb t) (k1_off56 t) (k1_off56_inb t)
  vecStep i A1 A2 Q O (k1_off57 t) (k1_off57_inb t) (k1_off58 t) (k1_off58_inb t)
  vecStep i A1 A2 Q O (k1_off59 t) (k1_off59_inb t) (k1_off60 t) (k1_off60_inb t)
  vecStep i A1 A2 Q O (k1_off61 t) (k1_off61_inb t) (k1_off62 t) (k1_off62_inb t)
  pure ⟨⟩

section
variable (i : grid1.Coords) (arg2 : Memref sig .scVector .hbm S16384x256 .f32) (harg2 : arg2.IsWhole) (arg3 : Memref sig .scVector .hbm S16384x256 .i32) (harg3 : arg3.IsWhole) (arg4 : Memref sig .scVector .hbm S16384x128 .f32) (harg4 : arg4.IsWhole) (arg5 : Memref sig .scVector .hbm S16384x256 .f32) (harg5 : arg5.IsWhole) (arg6 : Memref sig .scVector .vmem S64x256 .f32) (harg6 : arg6.IsWhole) (arg7 : Memref sig .scVector .vmem S64x256 .i32) (harg7 : arg7.IsWhole) (arg8 : Memref sig .scVector .vmem S64x128 .f32) (harg8 : arg8.IsWhole) (arg9 : Memref sig .scVector .vmem S64x256 .f32) (harg9 : arg9.IsWhole) (arg10 : Memref sig .scVector .vmem S64x256 .f32) (harg10 : arg10.IsWhole) (arg11 : Memref sig .scVector .vmem S64x256 .i32) (harg11 : arg11.IsWhole) (arg12 : Memref sig .scVector .vmem S64x128 .f32) (harg12 : arg12.IsWhole) (arg13 : Memref sig .scVector .vmem S64x256 .f32) (harg13 : arg13.IsWhole) (arg14 arg15 arg16 arg17 arg18 arg19 : DmaSems sig S_)

set_option maxRecDepth 65536 in
set_option maxHeartbeats 4000000 in
/-- The printed row of the even chunks is the thirteen steps. -/
theorem part8_eq (t : Fin k1_t2_loop.trips) :
    k1_part8 (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 0#32 1#32 t = rowE i arg6 arg7 arg8 arg9 t := rfl

set_option maxRecDepth 65536 in
set_option maxHeartbeats 4000000 in
/-- The printed row of the odd chunks is the thirteen steps. -/
theorem part16_eq (t : Fin k1_t3_loop.trips) :
    k1_part16 (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 0#32 1#32 t = rowO i arg10 arg11 arg12 arg13 t := rfl
end

end Cert.Proof.Row

end
-- ==== Proof.Step.lean ====
/-
  What one step of sixteen columns leaves in the output buffer, and what a row of thirteen steps does.
-/
module

public import proofs.«01_k».proof.Proof.Common
public import proofs.«01_k».proof.Proof.Row
public import Idealize.ShloMosaic.Lib.Pipeline.Value

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row

variable {F : FTy → Type} [FloatOps F] [Named F]

local notation "𝕄" => MT nD τ sig (HIx 1) (Elt F) ℕ UU ℕ

/-- The table row a word names. -/
def rowW (w : BitVec 32) : BitVec 32 := IntOp.shrui .vector (IntOp.andi w 2147483647#32) 7#32
/-- The lane of that row a word names. -/
def laneW (w : BitVec 32) : BitVec 32 := IntOp.andi (IntOp.andi w 2147483647#32) 127#32
/-- A word names a row of the table and a lane that has a right neighbour. -/
def Rng (w : BitVec 32) : Prop := (rowW w).toNat < 64 ∧ (laneW w).toNat < 127

/-- A tail value as it is, or the interpolation between two neighbours. -/
def comb (x : F .f32) (w : BitVec 32) (l r : F .f32) : F .f32 :=
  Scalar.select (IntOp.cmpi .slt w 0#32) x (FloatOps.addf l (FloatOps.mulf x (FloatOps.subf r l)))

/-- The result at one place of a chunk. -/
def colVal (f1 : S64x256.Idx → Elt F .f32) (f2 : S64x256.Idx → Elt F .i32) (fq : S64x128.Idx → Elt F .f32) (y : S64x256.Idx) : Elt F .f32 :=
  comb (F := F) (f1 y) (f2 y) (fq (ix2 ⟨(rowW (f2 y)).toNat % 64, Nat.mod_lt _ (by decide)⟩ ⟨(laneW (f2 y)).toNat % 128, Nat.mod_lt _ (by decide)⟩))
    (fq (ix2 ⟨(rowW (f2 y)).toNat % 64, Nat.mod_lt _ (by decide)⟩ ⟨((laneW (f2 y)).toNat + 1) % 128, Nat.mod_lt _ (by decide)⟩))

/-- Rows before `t`, and the columns before `c` of row `t`, hold the result. -/
def Good (f1 : S64x256.Idx → Elt F .f32) (f2 : S64x256.Idx → Elt F .i32) (fq : S64x128.Idx → Elt F .f32) (t c : ℕ)
    (g : S64x256.Idx → Elt F .f32) : Prop :=
  ∀ y : S64x256.Idx, (y 1).val < 208 → ((y 0).val < t ∨ ((y 0).val = t ∧ (y 1).val < c)) → g y = colVal f1 f2 fq y

theorem Good_next {f1 : S64x256.Idx → Elt F .f32} {f2 : S64x256.Idx → Elt F .i32} {fq : S64x128.Idx → Elt F .f32} {t : ℕ}
    {g : S64x256.Idx → Elt F .f32} (h : Good f1 f2 fq t 208 g) : Good f1 f2 fq (t + 1) 0 g := by
  intro y hy hc
  exact h y hy (by omega)

theorem Good_zero (f1 : S64x256.Idx → Elt F .f32) (f2 : S64x256.Idx → Elt F .i32) (fq : S64x128.Idx → Elt F .f32)
    (g : S64x256.Idx → Elt F .f32) : Good f1 f2 fq 0 0 g := by
  intro y _ hc
  omega

/-- The place in a row of sixteen that an index of sixteen names. -/
abbrev at16 (x : S16.Idx) : S1x16.Idx := ix2 0 (x 0)

theorem cast16 {α : Type} (v : S1x16.Idx → α) (x : S16.Idx) : shapeCast S16 v shapeCasts_S1x16_S16 x = v (at16 x) := by
  refine (shapeCast_dropUnit_apply (d := ![16]) v _ x).trans (congrArg v ?_)
  funext a
  match a with
  | 0 => rfl
  | 1 => rfl

/-- The index of sixteen that a place in a row of sixteen has. -/
abbrev of16 (x : S1x16.Idx) : S16.Idx := fun a => x a.succ

theorem cast116 {α : Type} (v : S16.Idx → α) (x : S1x16.Idx) : shapeCast S1x16 v shapeCasts_S16_S1x16 x = v (of16 x) :=
  shapeCast_addUnit_apply (d := ![16]) v _ x

theorem pay3_at (w : Vec F S1x16 .i32) (x : S16.Idx) : k1_pay3 (F := F) w x = rowW (w (at16 x)) := by
  rw [← cast16 w]; rfl
theorem pay4_at (w : Vec F S1x16 .i32) (x : S16.Idx) : k1_pay4 (F := F) w x = laneW (w (at16 x)) := by
  rw [← cast16 w]; rfl
theorem pay5_at (w : Vec F S1x16 .i32) (x : S16.Idx) : k1_pay5 (k1_pay4 (F := F) w) x = laneW (w (at16 x)) + 1#32 := by
  rw [← pay4_at (F := F)]; rfl
theorem pay6_at (u : Vec F S1x16 .f32) (w : Vec F S1x16 .i32) (l r : Vec F S16 .f32) (x : S16.Idx) :
    k1_pay6 (F := F) u w l r x = comb (F := F) (u (at16 x)) (w (at16 x)) (l x) (r x) := by
  rw [← cast16 u, ← cast16 w]; rfl

theorem lane_next {w : BitVec 32} (h : Rng w) : (laneW w + 1#32).toNat = (laneW w).toNat + 1 := by
  have := h.2
  rw [BitVec.toNat_add]
  show ((laneW w).toNat + 1) % _ = _
  omega

/-- Sixteen words in range make both gathers of a step in range. -/
theorem chk_of_rng (w : Vec F S1x16 .i32) (h : ∀ x, Rng (w x)) :
    k1_chk1 (k1_pay3 (F := F) w) (k1_pay4 w) ∧ k1_chk1 (k1_pay3 (F := F) w) (k1_pay5 (k1_pay4 (F := F) w)) := by
  constructor
  · intro a x
    match a with
    | 0 => show (k1_pay3 (F := F) w x).toNat < 64; rw [pay3_at]; exact (h _).1
    | 1 => show (k1_pay4 (F := F) w x).toNat < 128; rw [pay4_at]; exact Nat.lt_trans (h _).2 (by decide)
  · intro a x
    match a with
    | 0 => show (k1_pay3 (F := F) w x).toNat < 64; rw [pay3_at]; exact (h _).1
    | 1 => show (k1_pay5 (k1_pay4 (F := F) w) x).toNat < 128; rw [pay5_at, lane_next (h _)]; have := (h (at16 x)).2; omega

/-- The result of one step, at one of its sixteen columns. -/
theorem pay6_val (f1 : S64x256.Idx → Elt F .f32) (f2 : S64x256.Idx → Elt F .i32) (fq : S64x128.Idx → Elt F .f32)
    (hr : ∀ y, Rng (f2 y)) (e : S1x16.Idx → S64x256.Idx) (h1) (h2) (x : S1x16.Idx) :
    shapeCast S1x16 (k1_pay6 (F := F) (fun z => f1 (e z)) (fun z => f2 (e z))
      (loadIdx fq ![k1_pay3 (F := F) fun z => f2 (e z), k1_pay4 (F := F) fun z => f2 (e z)] h1)
      (loadIdx fq ![k1_pay3 (F := F) fun z => f2 (e z), k1_pay5 (k1_pay4 (F := F) fun z => f2 (e z))] h2)) shapeCasts_S16_S1x16 x
      = colVal f1 f2 fq (e x) := by
  have hx : at16 (of16 x) = x := by
    funext a
    match a with
    | 0 => exact Fin.ext (by have := (x 0).isLt; show 0 = (x 0).val; change (x 0).val < 1 at this; omega)
    | 1 => rfl
  rw [cast116, pay6_at, hx]
  unfold colVal
  congr 1
  · show fq _ = _
    congr 1
    funext a
    match a with
    | 0 => apply Fin.ext; show (k1_pay3 (F := F) _ _).toNat = _ % 64; rw [pay3_at, hx, Nat.mod_eq_of_lt (hr _).1]
    | 1 => apply Fin.ext; show (k1_pay4 (F := F) _ _).toNat = _ % 128; rw [pay4_at, hx, Nat.mod_eq_of_lt (Nat.lt_trans (hr _).2 (by decide))]
  · show fq _ = _
    congr 1
    funext a
    match a with
    | 0 => apply Fin.ext; show (k1_pay3 (F := F) _ _).toNat = _ % 64; rw [pay3_at, hx, Nat.mod_eq_of_lt (hr _).1]
    | 1 =>
      apply Fin.ext; show (k1_pay5 (k1_pay4 (F := F) _) _).toNat = _ % 128
      have := (hr (e x)).2
      rw [pay5_at, hx, lane_next (hr _), Nat.mod_eq_of_lt (by omega)]

theorem pay6_val' (f1 : S64x256.Idx → Elt F .f32) (f2 : S64x256.Idx → Elt F .i32) (fq : S64x128.Idx → Elt F .f32)
    (hr : ∀ y, Rng (f2 y)) (e : S1x16.Idx → S64x256.Idx) (u : Vec F S1x16 .f32) (w : Vec F S1x16 .i32) (qq : Vec F S64x128 .f32)
    (hu : u = fun z => f1 (e z)) (hw : w = fun z => f2 (e z)) (hq : qq = fq) (h1) (h2) (x : S1x16.Idx) :
    shapeCast S1x16 (k1_pay6 (F := F) u w (loadIdx qq ![k1_pay3 (F := F) w, k1_pay4 (F := F) w] h1)
      (loadIdx qq ![k1_pay3 (F := F) w, k1_pay5 (k1_pay4 (F := F) w)] h2)) shapeCasts_S16_S1x16 x = colVal f1 f2 fq (e x) := by
  subst hu hw hq
  exact pay6_val f1 f2 qq hr e h1 h2 x

/-- The vector thread a tile of the launch runs on. -/
abbrev tV (d : Dev nD) (i : grid1.Coords) : Dev nD × Proc τ := V d ((i 0).castLE hcore1) ((i 1).castLE hsub1)

/-- What a store of sixteen results at row `t`, column `c` leaves. -/
theorem Good_step {f1 : S64x256.Idx → Elt F .f32} {f2 : S64x256.Idx → Elt F .i32} {fq : S64x128.Idx → Elt F .f32} {κ : Kind}
    {O : Memref sig κ .vmem S64x256 .f32} (fo : O.view.ty.Contents (Elt F)) (t c : ℕ) (o : Fin 2 → ℕ) (ho : ∀ a, o a + S1x16.size a ≤ S64x256.size a) (h0 : o = ![t, c])
    (wv : S1x16.Idx → Elt F .f32) (hw : ∀ x, wv x = colVal f1 f2 fq ((Rect.unit (s := S64x256) o S1x16.size ho).emb x))
    (hg : Good f1 f2 fq t c (O.view.read (Elt F) fo)) :
    Good f1 f2 fq t (c + 16) (O.view.read (Elt F) ((O.access (Rect.unit (s := S64x256) o S1x16.size ho)).write (Elt F) fo wv Finset.univ)) := by
  intro y hy hc
  by_cases hm : y ∈ (Rect.unit (s := S64x256) o S1x16.size ho).set
  · obtain ⟨x, rfl⟩ : ∃ x, y = (Rect.unit (s := S64x256) o S1x16.size ho).emb x := by
      rw [← Rect.map_emb_univ] at hm
      obtain ⟨x, _, hx⟩ := Finset.mem_map.mp hm
      exact ⟨x, hx.symm⟩
    exact (View.read_slice_write_emb _ _ _ (Finset.mem_univ x)).trans (hw x)
  · have hm' : y ∉ (Finset.univ.map (Rect.unit (s := S64x256) o S1x16.size ho).emb) := by rwa [Rect.map_emb_univ]
    refine (View.read_slice_write_of_not_mem _ _ _ _ hm').trans (hg y hy ?_)
    rw [Rect.mem_set_unit] at hm
    subst h0
    rcases hc with h | ⟨h, h'⟩
    · exact .inl h
    · refine .inr ⟨h, ?_⟩
      by_contra hlt
      refine hm fun a => ?_
      match a with
      | 0 => exact ⟨by show t ≤ (y 0).val; omega, by show (y 0).val < t + 1; omega⟩
      | 1 => exact ⟨by show c ≤ (y 1).val; omega, by show (y 1).val < c + 16; omega⟩

/-- The four buffers of one parity, held outright. -/
def Bufs (d : Dev nD) (i : grid1.Coords) (A1 : Memref sig .scVector .vmem S64x256 .f32) (A2 : Memref sig .scVector .vmem S64x256 .i32)
    (Q : Memref sig .scVector .vmem S64x128 .f32) (O : Memref sig .scVector .vmem S64x256 .f32)
    (g1 : Buf (Elt F) (A1.view.loc (tV d i))) (g2 : Buf (Elt F) (A2.view.loc (tV d i))) (gq : Buf (Elt F) (Q.view.loc (tV d i))) (go : Buf (Elt F) (O.view.loc (tV d i))) : sProp 𝕄 :=
  iprop((A1.view.loc (tV d i) ↦{fullShare} g1) ∗ (A2.view.loc (tV d i) ↦{fullShare} g2) ∗ (Q.view.loc (tV d i) ↦{fullShare} gq) ∗ (O.view.loc (tV d i) ↦{fullShare} go))

section
variable (d : Dev nD) (i : grid1.Coords) (A1 : Memref sig .scVector .vmem S64x256 .f32) (A2 : Memref sig .scVector .vmem S64x256 .i32)
  (Q : Memref sig .scVector .vmem S64x128 .f32) (O : Memref sig .scVector .vmem S64x256 .f32)
  (g1 : Buf (Elt F) (A1.view.loc (tV d i))) (g2 : Buf (Elt F) (A2.view.loc (tV d i))) (gq : Buf (Elt F) (Q.view.loc (tV d i)))

/-- The four buffers, the output good up to row `t`, column `c`. -/
def Held (t c : ℕ) : sProp 𝕄 :=
  iprop(∃ go : Buf (Elt F) (O.view.loc (tV d i)), ⌜Good (A1.view.read (Elt F) g1) (A2.view.read (Elt F) g2) (Q.view.read (Elt F) gq) t c (O.view.read (Elt F) go)⌝
    ∗ Bufs d i A1 A2 Q O g1 g2 gq go)

variable {A1 A2 Q O g1 g2 gq}

set_option maxHeartbeats 1000000 in
/-- A step moves the good columns on by sixteen. -/
theorem wp_vecStep (p : Fin 2 → ℕ) (hp : ∀ a, p a + S1x16.size a ≤ S64x256.size a) (o : Fin 2 → ℕ) (ho : ∀ a, o a + S1x16.size a ≤ S64x256.size a)
    (t c : ℕ) (hpo : p = ![t, c]) (hot : o = ![t, c]) (hr : ∀ y, Rng (A2.view.read (Elt F) g2 y))
    {α : Type} (k : PUnit → Prog (TpuEff nD τ sig (Elt F) Λ₀ (.scVector ((i 0).castLE hcore1) ((i 1).castLE hsub1))) α) (Φ : α → sProp 𝕄) :
    (Held d i A1 A2 Q O g1 g2 gq t c : sProp 𝕄)
    ⊢ iprop((Held d i A1 A2 Q O g1 g2 gq t (c + 16) -∗ wp frame (wpE (defs₀ (F := F)) 𝒱₀ (tV d i) none) Set.univ (k ⟨⟩) Φ)
      -∗ wp frame (wpE (defs₀ (F := F)) 𝒱₀ (tV d i) none) Set.univ (vecStep i A1 A2 Q O p hp o ho >>= k) Φ) := by
  subst hpo
  have hop : o = ![t, c] := hot
  subst hot
  have hck := chk_of_rng (F := F) (A2.view.readAt (Elt F) (Rect.unit (s := S64x256) ![t, c] S1x16.size hp).toLoadRect g2) (fun x => hr _)
  unfold vecStep Held Bufs
  simp only [Prog.lift, Prog.bind_op, Prog.bind_ret, Prog.pure_eq_ret, bind_assoc]
  iintro ⟨%go, %hg, H1, H2, Hq, Ho⟩ Hk
  iapply (wp_load 𝒱₀ (tV d i) none Set.univ (Finset.subset_univ _)) $$ H1
  iintro H1
  iapply (wp_load 𝒱₀ (tV d i) none Set.univ (Finset.subset_univ _)) $$ H2
  iintro H2
  rw [wp_assume_of _ _ _ _ hck.1]
  iapply (SparseCore.wp_vectorLoadIdx 𝒱₀ (tV d i) none Set.univ (base := Q) (S := Finset.univ) (q := fullShare) (Finset.subset_univ _)) $$ Hq
  iintro Hq
  simp only [Prog.lift, Prog.bind_op, Prog.bind_ret, Prog.pure_eq_ret, bind_assoc]
  rw [wp_assume_of _ _ _ _ hck.2]
  iapply (SparseCore.wp_vectorLoadIdx 𝒱₀ (tV d i) none Set.univ (base := Q) (S := Finset.univ) (q := fullShare) (Finset.subset_univ _)) $$ Hq
  iintro Hq
  simp only [Prog.lift, Prog.bind_op, Prog.bind_ret, Prog.pure_eq_ret, bind_assoc]
  iapply (wp_load 𝒱₀ (tV d i) none Set.univ (Finset.subset_univ _)) $$ Ho
  iintro Ho
  iapply (wp_store 𝒱₀ (tV d i) none Set.univ (m := O) (r := Rect.unit (s := S64x256) ![t, c] S1x16.size ho) (S := Finset.univ) (Finset.subset_univ _)) $$ Ho
  iintro Ho
  iapply Hk
  iexists _
  isplitr
  swap
  · isplitl [H1]; · iexact H1
    isplitl [H2]; · iexact H2
    isplitl [Hq]; · iexact Hq
    iexact Ho
  · ipureintro
    refine Good_step go t c _ ho rfl _ ?_ hg
    intro x
    exact pay6_val' (A1.view.read (Elt F) g1) (A2.view.read (Elt F) g2) (Q.view.read (Elt F) gq) hr (Rect.unit (s := S64x256) ![t, c] S1x16.size ho).emb
      _ _ _ rfl rfl (funext fun z => congrArg (Q.view.read (Elt F) gq) (Rect.emb_whole_apply S64x128 z)) _ _ x

end

end Cert.Proof

end
-- ==== Proof.RowLoop.lean ====
/-
  A row of the inner loop, and the whole of it: sixty-four rows leave the sixty-four rows of a chunk.
-/
module

public import proofs.«01_k».proof.Proof.Step

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row

variable {F : FTy → Type} [FloatOps F] [Named F]

local notation "𝕄" => MT nD τ sig (HIx 1) (Elt F) ℕ UU ℕ

/-- The row a trip works on, as the program computes it. -/
theorem rowNat {n : ℕ} (hn : n ≤ 64) (t : Fin n) :
    (Scalar.indexCast (Scalar.addi 0#32 (Scalar.muli (Scf.iv (0#32 : BitVec 32) 1#32 t.val) 1#32))).toNat = t.val := by
  have ht := t.isLt
  unfold Scalar.indexCast Scalar.addi Scalar.muli Scf.iv
  simp only [IntOp.addi, IntOp.muli, BitVec.toNat_add, BitVec.toNat_mul, BitVec.toNat_ofNat]
  omega

theorem offAt {n : ℕ} (hn : n ≤ 64) (t : Fin n) (c : ℕ) :
    (![(Scalar.indexCast (Scalar.addi 0#32 (Scalar.muli (Scf.iv (0#32 : BitVec 32) 1#32 t.val) 1#32))).toNat, c] : Fin 2 → ℕ) = ![t.val, c] := by
  rw [rowNat hn t]

theorem t2_le : k1_t2_loop.trips ≤ 64 := by decide
theorem t3_le : k1_t3_loop.trips ≤ 64 := by decide
theorem t2_eq : k1_t2_loop.trips = 64 := by decide
theorem t3_eq : k1_t3_loop.trips = 64 := by decide
theorem t1_eq : k1_t1_loop.trips = 4 := by decide

section
variable (d : Dev nD) (i : grid1.Coords) {A1 : Memref sig .scVector .vmem S64x256 .f32} {A2 : Memref sig .scVector .vmem S64x256 .i32}
  {Q : Memref sig .scVector .vmem S64x128 .f32} {O : Memref sig .scVector .vmem S64x256 .f32}
  {g1 : Buf (Elt F) (A1.view.loc (tV d i))} {g2 : Buf (Elt F) (A2.view.loc (tV d i))} {gq : Buf (Elt F) (Q.view.loc (tV d i))}

theorem Held_next (t : ℕ) : (Held d i A1 A2 Q O g1 g2 gq t 208 : sProp 𝕄) ⊢ Held d i A1 A2 Q O g1 g2 gq (t + 1) 0 := by
  unfold Held
  iintro ⟨%go, %hg, H⟩
  iexists go
  isplitr
  · ipureintro; exact Good_next hg
  · iexact H

/-- An even chunk's row. -/
theorem wp_rowE (hr : ∀ y, Rng (A2.view.read (Elt F) g2 y)) (t : Fin k1_t2_loop.trips) :
    (Held d i A1 A2 Q O g1 g2 gq t.val 0 : sProp 𝕄)
    ⊢ wp frame (wpE (defs₀ (F := F)) 𝒱₀ (tV d i) none) Set.univ (rowE i A1 A2 Q O t) fun _ => Held d i A1 A2 Q O g1 g2 gq (t.val + 1) 0 := by
  unfold rowE
  iintro H
  iapply (wp_vecStep d i _ _ _ _ t.val 0 (offAt t2_le t 0) (offAt t2_le t 0) hr) $$ H; iintro H
  iapply (wp_vecStep d i _ _ _ _ t.val 16 (offAt t2_le t 16) (offAt t2_le t 16) hr) $$ H; iintro H
  iapply (wp_vecStep d i _ _ _ _ t.val 32 (offAt t2_le t 32) (offAt t2_le t 32) hr) $$ H; iintro H
  iapply (wp_vecStep d i _ _ _ _ t.val 48 (offAt t2_le t 48) (offAt t2_le t 48) hr) $$ H; iintro H
  iapply (wp_vecStep d i _ _ _ _ t.val 64 (offAt t2_le t 64) (offAt t2_le t 64) hr) $$ H; iintro H
  iapply (wp_vecStep d i _ _ _ _ t.val 80 (offAt t2_le t 80) (offAt t2_le t 80) hr) $$ H; iintro H
  iapply (wp_vecStep d i _ _ _ _ t.val 96 (offAt t2_le t 96) (offAt t2_le t 96) hr) $$ H; iintro H
  iapply (wp_vecStep d i _ _ _ _ t.val 112 (offAt t2_le t 112) (offAt t2_le t 112) hr) $$ H; iintro H
  iapply (wp_vecStep d i _ _ _ _ t.val 128 (offAt t2_le t 128) (offAt t2_le t 128) hr) $$ H; iintro H
  iapply (wp_vecStep d i _ _ _ _ t.val 144 (offAt t2_le t 144) (offAt t2_le t 144) hr) $$ H; iintro H
  iapply (wp_vecStep d i _ _ _ _ t.val 160 (offAt t2_le t 160) (offAt t2_le t 160) hr) $$ H; iintro H
  iapply (wp_vecStep d i _ _ _ _ t.val 176 (offAt t2_le t 176) (offAt t2_le t 176) hr) $$ H; iintro H
  iapply (wp_vecStep d i _ _ _ _ t.val 192 (offAt t2_le t 192) (offAt t2_le t 192) hr) $$ H; iintro H
  rw [Prog.pure_eq_ret, wp_ret]
  imodintro
  iapply (Held_next d i t.val) $$ H

/-- An odd chunk's row. -/
theorem wp_rowO (hr : ∀ y, Rng (A2.view.read (Elt F) g2 y)) (t : Fin k1_t3_loop.trips) :
    (Held d i A1 A2 Q O g1 g2 gq t.val 0 : sProp 𝕄)
    ⊢ wp frame (wpE (defs₀ (F := F)) 𝒱₀ (tV d i) none) Set.univ (rowO i A1 A2 Q O t) fun _ => Held d i A1 A2 Q O g1 g2 gq (t.val + 1) 0 := by
  unfold rowO
  iintro H
  iapply (wp_vecStep d i _ _ _ _ t.val 0 (offAt t3_le t 0) (offAt t3_le t 0) hr) $$ H; iintro H
  iapply (wp_vecStep d i _ _ _ _ t.val 16 (offAt t3_le t 16) (offAt t3_le t 16) hr) $$ H; iintro H
  iapply (wp_vecStep d i _ _ _ _ t.val 32 (offAt t3_le t 32) (offAt t3_le t 32) hr) $$ H; iintro H
  iapply (wp_vecStep d i _ _ _ _ t.val 48 (offAt t3_le t 48) (offAt t3_le t 48) hr) $$ H; iintro H
  iapply (wp_vecStep d i _ _ _ _ t.val 64 (offAt t3_le t 64) (offAt t3_le t 64) hr) $$ H; iintro H
  iapply (wp_vecStep d i _ _ _ _ t.val 80 (offAt t3_le t 80) (offAt t3_le t 80) hr) $$ H; iintro H
  iapply (wp_vecStep d i _ _ _ _ t.val 96 (offAt t3_le t 96) (offAt t3_le t 96) hr) $$ H; iintro H
  iapply (wp_vecStep d i _ _ _ _ t.val 112 (offAt t3_le t 112) (offAt t3_le t 112) hr) $$ H; iintro H
  iapply (wp_vecStep d i _ _ _ _ t.val 128 (offAt t3_le t 128) (offAt t3_le t 128) hr) $$ H; iintro H
  iapply (wp_vecStep d i _ _ _ _ t.val 144 (offAt t3_le t 144) (offAt t3_le t 144) hr) $$ H; iintro H
  iapply (wp_vecStep d i _ _ _ _ t.val 160 (offAt t3_le t 160) (offAt t3_le t 160) hr) $$ H; iintro H
  iapply (wp_vecStep d i _ _ _ _ t.val 176 (offAt t3_le t 176) (offAt t3_le t 176) hr) $$ H; iintro H
  iapply (wp_vecStep d i _ _ _ _ t.val 192 (offAt t3_le t 192) (offAt t3_le t 192) hr) $$ H; iintro H
  rw [Prog.pure_eq_ret, wp_ret]
  imodintro
  iapply (Held_next d i t.val) $$ H

variable (g1 g2 gq) in
/-- The four buffers before the loop, any output; after it every row is good. -/
theorem Held_start (go : Buf (Elt F) (O.view.loc (tV d i))) : (Bufs d i A1 A2 Q O g1 g2 gq go : sProp 𝕄) ⊢ Held d i A1 A2 Q O g1 g2 gq 0 0 := by
  unfold Held
  iintro H
  iexists go
  isplitr
  · ipureintro; exact Good_zero _ _ _ _
  · iexact H

end

end Cert.Proof

end
-- ==== Proof.Fetch.lean ====
/-
  A chunk's copies: the three that bring the chunk in, the three waits for them, and the copy of the
  results out with its wait.
-/
module

public import proofs.«01_k».proof.Proof.RowLoop

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row

variable {F : FTy → Type} [FloatOps F] [Named F]

local notation "𝕄" => MT nD τ sig (HIx 1) (Elt F) ℕ UU ℕ

/-! ## The arrays in HBM -/

/-- The names the vector threads use for the four arrays. -/
abbrev hA1 : Memref sig .scVector .hbm S16384x256 .f32 := Memref.whole main_v8_1_scv
abbrev hA2 : Memref sig .scVector .hbm S16384x256 .i32 := Memref.whole main_v8_2_scv
abbrev hQ : Memref sig .scVector .hbm S16384x128 .f32 := Memref.whole main_v8_0_scv
abbrev hO : Memref sig .scVector .hbm S16384x256 .f32 := Memref.whole main_v9_scv

/-- The four arrays' places on device `d`. -/
abbrev ℓA1 (d : Dev nD) : Loc nD τ sig := (SparseCore.T d : Dev nD × Proc τ).loc main_v8_1
abbrev ℓA2 (d : Dev nD) : Loc nD τ sig := (SparseCore.T d : Dev nD × Proc τ).loc main_v8_2
abbrev ℓQ (d : Dev nD) : Loc nD τ sig := (SparseCore.T d : Dev nD × Proc τ).loc main_v8_0
abbrev ℓO (d : Dev nD) : Loc nD τ sig := (SparseCore.T d : Dev nD × Proc τ).loc main_v9

/-- Sixty-four rows of an array, from row `r` on. -/
def pick256 {α : Type} (f : S16384x256.Idx → α) (r : ℕ) : S64x256.Idx → α := fun y => f (ix2 ⟨(r + (y 0).val) % 16384, Nat.mod_lt _ (by decide)⟩ (y 1))
def pick128 {α : Type} (f : S16384x128.Idx → α) (r : ℕ) : S64x128.Idx → α := fun y => f (ix2 ⟨(r + (y 0).val) % 16384, Nat.mod_lt _ (by decide)⟩ (y 1))

theorem emb256 (r : ℕ) (hr : ∀ a, (![r, 0] : Fin 2 → ℕ) a + S64x256.size a ≤ S16384x256.size a) (y : S64x256.Idx) :
    (Rect.unit (s := S16384x256) ![r, 0] S64x256.size hr).emb y = ix2 ⟨(r + (y 0).val) % 16384, Nat.mod_lt _ (by decide)⟩ (y 1) := by
  have h0 : r + 64 ≤ 16384 := hr 0
  have hy : (y 0).val < 64 := (y 0).isLt
  funext a
  match a with
  | 0 => apply Fin.ext; show r + 1 * (y 0).val = (r + (y 0).val) % 16384; omega
  | 1 => apply Fin.ext; show 0 + 1 * (y 1).val = (y 1).val; omega

theorem emb128 (r : ℕ) (hr : ∀ a, (![r, 0] : Fin 2 → ℕ) a + S64x128.size a ≤ S16384x128.size a) (y : S64x128.Idx) :
    (Rect.unit (s := S16384x128) ![r, 0] S64x128.size hr).emb y = ix2 ⟨(r + (y 0).val) % 16384, Nat.mod_lt _ (by decide)⟩ (y 1) := by
  have h0 : r + 64 ≤ 16384 := hr 0
  have hy : (y 0).val < 64 := (y 0).isLt
  funext a
  match a with
  | 0 => apply Fin.ext; show r + 1 * (y 0).val = (r + (y 0).val) % 16384; omega
  | 1 => apply Fin.ext; show 0 + 1 * (y 1).val = (y 1).val; omega

/-! ## Buffers, and what a thread owes -/

section
variable (d : Dev nD) (i : grid1.Coords)

/-- A scratch buffer with any contents; with contents that read `w`. -/
def Any {s : Shape} {e : EltTy} (B : Memref sig .scVector .vmem s e) : sProp 𝕄 := iprop(∃ g : Buf (Elt F) (B.view.loc (tV d i)), B.view.loc (tV d i) ↦{fullShare} g)
def Got {s : Shape} {e : EltTy} (B : Memref sig .scVector .vmem s e) (w : s.Idx → Elt F e) : sProp 𝕄 :=
  iprop(∃ g : Buf (Elt F) (B.view.loc (tV d i)), ⌜B.view.read (Elt F) g = w⌝ ∗ B.view.loc (tV d i) ↦{fullShare} g)

instance {s : Shape} {e : EltTy} (B : Memref sig .scVector .vmem s e) : Storable (upEmb : UEmb _ 𝕄) (Any (F := F) d i B) := by unfold Any; infer_instance
instance {s : Shape} {e : EltTy} (B : Memref sig .scVector .vmem s e) (w : s.Idx → Elt F e) : Storable (upEmb : UEmb _ 𝕄) (Got d i B w) := by unfold Got; infer_instance

theorem Got_any {s : Shape} {e : EltTy} {B : Memref sig .scVector .vmem s e} {w : s.Idx → Elt F e} : (Got d i B w : sProp 𝕄) ⊢ Any d i B := by
  unfold Got Any
  iintro ⟨%g, -, H⟩
  iexists g; iexact H

/-- What the thread owes, its waits recorded at the level below every handshake's. -/
def Owe (O : CellTallies nD τ sig (HIx 1)) (W : Waits sig (HIx 1)) : sProp 𝕄 :=
  iprop(∃ W', ⌜∀ p ∈ W', p ∈ W ∨ p.2 = none⌝ ∗ owes (tV d i) O W')

variable {O : CellTallies nD τ sig (HIx 1)} {W : Waits sig (HIx 1)}

theorem Owe_insert (W' : Waits sig (HIx 1)) (h : ∀ p ∈ W', p ∈ W ∨ p.2 = none) (sm : SemLoc sig) :
    (owes (tV d i) O (insert (sm, none) W') : sProp 𝕄) ⊢ Owe d i O W := by
  unfold Owe
  iintro H
  iexists _
  isplitr; swap; · iexact H
  ipureintro
  intro p hp
  rcases Finset.mem_insert.mp hp with rfl | hp
  · exact .inr rfl
  · exact h p hp

end

/-! ## The three copies in -/

section
variable (d : Dev nD) (i : grid1.Coords) (B1 : Memref sig .scVector .vmem S64x256 .f32) (B2 : Memref sig .scVector .vmem S64x256 .i32)
  (BQ : Memref sig .scVector .vmem S64x128 .f32) (s sq : DmaSem sig)
  (F1 : S16384x256.Idx → Elt F .f32) (F2 : S16384x256.Idx → Elt F .i32) (FQ : S16384x128.Idx → Elt F .f32)

/-- What the two copies on one semaphore deliver. -/
def dlv (r : ℕ) : Fin 2 → sProp 𝕄
  | 0 => Got d i B1 (pick256 F1 r)
  | 1 => Got d i B2 (pick256 F2 r)

instance (r : ℕ) (t : Fin 2) : Storable (upEmb : UEmb _ 𝕄) (dlv d i B1 B2 F1 F2 r t) := by
  match t with
  | 0 => exact inferInstanceAs (Storable _ (Got d i B1 _))
  | 1 => exact inferInstanceAs (Storable _ (Got d i B2 _))

/-- The three copies of the chunk at row `r`, on their way. -/
def Fetching (r : ℕ) : sProp 𝕄 :=
  iprop(Transfers.Batch EC (tV d i) (.dma s) (none : HIx 1) B1.view.dmaCredit (dlv d i B1 B2 F1 F2 r) 2 0
    ∗ Transfers.Flight EC (tV d i) (.dma sq) (none : HIx 1) BQ.view.dmaCredit (Got d i BQ (pick128 FQ r)))

/-- The three buffers and their two semaphores, idle. -/
def Idle : sProp 𝕄 := iprop(Any d i B1 ∗ Any d i B2 ∗ Any d i BQ ∗ semVal (tV d i, SemLoc.dma s) 0 ∗ semVal (tV d i, SemLoc.dma sq) 0)
/-- The three buffers holding the chunk, the semaphores idle. -/
def Here (r : ℕ) : sProp 𝕄 :=
  iprop(Got d i B1 (pick256 F1 r) ∗ Got d i B2 (pick256 F2 r) ∗ Got d i BQ (pick128 FQ r) ∗ semVal (tV d i, SemLoc.dma s) 0 ∗ semVal (tV d i, SemLoc.dma sq) 0)
/-- The three arrays, readable. -/
def RDs : sProp 𝕄 := iprop(RD (ℓA1 d) F1 ∗ RD (ℓA2 d) F2 ∗ RD (ℓQ d) FQ)

theorem RDs_dup : (RDs d F1 F2 FQ : sProp 𝕄) ⊢ iprop(RDs d F1 F2 FQ ∗ RDs d F1 F2 FQ) := by
  unfold RDs
  iintro ⟨H1, H2, H3⟩
  ihave H1 := (RD_dup _ _) $$ H1
  icases H1 with ⟨H1, H1'⟩
  ihave H2 := (RD_dup _ _) $$ H2
  icases H2 with ⟨H2, H2'⟩
  ihave H3 := (RD_dup _ _) $$ H3
  icases H3 with ⟨H3, H3'⟩
  isplitl [H1 H2 H3]
  · isplitl [H1]; · iexact H1
    isplitl [H2]; · iexact H2
    iexact H3
  · isplitl [H1']; · iexact H1'
    isplitl [H2']; · iexact H2'
    iexact H3'

theorem Here_idle (r : ℕ) : (Here d i B1 B2 BQ s sq F1 F2 FQ r : sProp 𝕄) ⊢ Idle d i B1 B2 BQ s sq := by
  unfold Here Idle
  iintro ⟨H1, H2, H3, H4, H5⟩
  isplitl [H1]; · iapply (Got_any d i) $$ H1
  isplitl [H2]; · iapply (Got_any d i) $$ H2
  isplitl [H3]; · iapply (Got_any d i) $$ H3
  isplitl [H4]; · iexact H4
  iexact H5

variable {B1 B2 BQ s sq F1 F2 FQ}

set_option maxHeartbeats 1000000 in
theorem wp_fetch (hN : B2.view.dmaCredit = B1.view.dmaCredit) (r : ℕ)
    {o1 : Fin 2 → ℕ} {hi1 : ∀ a, o1 a + S64x256.size a ≤ S16384x256.size a} {oq : Fin 2 → ℕ} {hiq : ∀ a, oq a + S64x128.size a ≤ S16384x128.size a}
    (ho1 : o1 = ![r, 0]) (hoq : oq = ![r, 0])
    {w1 w2 w3 w4 w5 w6 t1 t2 t3}
    {α : Type} (k : PUnit → Prog (TpuEff nD τ sig (Elt F) Λ₀ (.scVector ((i 0).castLE hcore1) ((i 1).castLE hsub1))) α) (Φ : α → sProp 𝕄) :
    iprop(Idle d i B1 B2 BQ s sq ∗ RDs d F1 F2 FQ)
    ⊢ iprop((Fetching d i B1 B2 BQ s sq F1 F2 FQ r -∗ wp frame (wpE (defs₀ (F := F)) 𝒱₀ (tV d i) none) Set.univ (k ⟨⟩) Φ)
      -∗ wp frame (wpE (defs₀ (F := F)) 𝒱₀ (tV d i) none) Set.univ
        (.op (.enqueueDma (hA1.slice (Rect.unit (s := S16384x256) o1 S64x256.size hi1) (fun _ => rfl)) (.here B1) (.dma s) w1 w2 t1) fun _ =>
          .op (.enqueueDma (hA2.slice (Rect.unit (s := S16384x256) o1 S64x256.size hi1) (fun _ => rfl)) (.here B2) (.dma s) w3 w4 t2) fun _ =>
          .op (.enqueueDma (hQ.slice (Rect.unit (s := S16384x128) oq S64x128.size hiq) (fun _ => rfl)) (.here BQ) (.dma sq) w5 w6 t3) k) Φ) := by
  subst ho1 hoq
  unfold Idle RDs RD
  iintro ⟨⟨HB1, HB2, HBQ, Hs, Hsq⟩, ⟨%q1, HA1⟩, ⟨%q2, HA2⟩, ⟨%q3, HQ⟩⟩ Hk
  unfold Any
  icases HB1 with ⟨%b1, HB1⟩
  icases HB2 with ⟨%b2, HB2⟩
  icases HBQ with ⟨%b3, HBQ⟩
  ihave HA1 := (show (ℓA1 d ↦{q1} F1 : sProp 𝕄) ⊢ ((hA1.slice (Rect.unit (s := S16384x256) ![r, 0] S64x256.size hi1) (fun _ => rfl)).view.loc (tV d i)
      ↦[(hA1.slice (Rect.unit (s := S16384x256) ![r, 0] S64x256.size hi1) (fun _ => rfl)).view.set]{q1} F1) from
    ((pointsTo_split_subset (Finset.subset_univ _)).1.trans sep_elim_left)) $$ HA1
  ihave HA2 := (show (ℓA2 d ↦{q2} F2 : sProp 𝕄) ⊢ ((hA2.slice (Rect.unit (s := S16384x256) ![r, 0] S64x256.size hi1) (fun _ => rfl)).view.loc (tV d i)
      ↦[(hA2.slice (Rect.unit (s := S16384x256) ![r, 0] S64x256.size hi1) (fun _ => rfl)).view.set]{q2} F2) from
    ((pointsTo_split_subset (Finset.subset_univ _)).1.trans sep_elim_left)) $$ HA2
  ihave HQ := (show (ℓQ d ↦{q3} FQ : sProp 𝕄) ⊢ ((hQ.slice (Rect.unit (s := S16384x128) ![r, 0] S64x128.size hiq) (fun _ => rfl)).view.loc (tV d i)
      ↦[(hQ.slice (Rect.unit (s := S16384x128) ![r, 0] S64x128.size hiq) (fun _ => rfl)).view.set]{q3} FQ) from
    ((pointsTo_split_subset (Finset.subset_univ _)).1.trans sep_elim_left)) $$ HQ
  imod (Transfers.batch_alloc' EC (tV d i) (none : HIx 1) B1.view.dmaCredit (dlv d i B1 B2 F1 F2 r) (E := Set.univ)) $$ Hs with HB
  iapply (Transfers.wp_dmaBatch EC 𝒱₀ (tV d i) none (src := hA1.slice (Rect.unit (s := S16384x256) ![r, 0] S64x256.size hi1) (fun _ => rfl))
    (dst := B1) (via := .same) (fs := F1) (fd := b1) (q := q1) (j := 0) (D := dlv d i B1 B2 F1 F2 r) (u := 0) (Sd := Finset.univ) (none : HIx 1) B1.view.dmaCredit rfl (Finset.subset_univ _) (by decide : 0 < 2) (by omega)
    (by
      show _ ⊢ Got d i B1 (pick256 F1 r)
      unfold Got
      iintro ⟨H, -⟩
      iexists _
      isplitr; swap; · iexact H
      ipureintro
      refine (View.read_write_univ _ _).trans (funext fun y => ?_)
      exact congrArg F1 (emb256 r hi1 y))) $$ [HA1 HB1 HB]
  · isplitl [HA1]; · iexact HA1
    isplitl [HB1]; · iexact HB1
    iexact HB
  iintro HB
  iapply (Transfers.wp_dmaBatch EC 𝒱₀ (tV d i) none (src := hA2.slice (Rect.unit (s := S16384x256) ![r, 0] S64x256.size hi1) (fun _ => rfl))
    (dst := B2) (sm := .dma s) (via := .same) (fs := F2) (fd := b2) (q := q2) (j := 1) (D := dlv d i B1 B2 F1 F2 r) (u := 0) (Sd := Finset.univ) (none : HIx 1) B1.view.dmaCredit hN (Finset.subset_univ _) (by decide : 1 < 2) (by omega)
    (by
      show _ ⊢ Got d i B2 (pick256 F2 r)
      unfold Got
      iintro ⟨H, -⟩
      iexists _
      isplitr; swap; · iexact H
      ipureintro
      refine (View.read_write_univ _ _).trans (funext fun y => ?_)
      exact congrArg F2 (emb256 r hi1 y))) $$ [HA2 HB2 HB]
  · isplitl [HA2]; · iexact HA2
    isplitl [HB2]; · iexact HB2
    iexact HB
  iintro HB
  iapply (Transfers.wp_dmaLocal EC 𝒱₀ (tV d i) none (none : HIx 1) BQ.view.dmaCredit rfl (View.dmaCredit_pos _ (by decide)) (Finset.subset_univ _)) $$ [HQ HBQ Hsq]
  · isplitl [HQ]; · iexact HQ
    isplitl [HBQ]; · iexact HBQ
    iexact Hsq
  iintro HF
  iapply Hk
  unfold Fetching
  isplitl [HB]; · iexact HB
  iapply (Transfers.Flight_mono EC (tV d i) (D' := Got d i BQ (pick128 FQ r)) ?_) $$ HF
  unfold Got
  iintro ⟨H, -⟩
  iexists _
  isplitr; swap; · iexact H
  ipureintro
  refine (View.read_write_univ _ _).trans (funext fun y => ?_)
  exact congrArg FQ (emb128 r hiq y)

set_option maxHeartbeats 1000000 in
theorem wp_await (hN : B2.view.dmaCredit = B1.view.dmaCredit) (r : ℕ)
    {O : CellTallies nD τ sig (HIx 1)} {W : Waits sig (HIx 1)}
    {M1 : Memref sig .scVector .hbm S64x256 .f32} {M2 : Memref sig .scVector .hbm S64x256 .i32} {MQ : Memref sig .scVector .hbm S64x128 .f32}
    {w1 w2 w3 w4 w5 w6}
    {α : Type} (k : PUnit → Prog (TpuEff nD τ sig (Elt F) Λ₀ (.scVector ((i 0).castLE hcore1) ((i 1).castLE hsub1))) α) (Φ : α → sProp 𝕄) :
    iprop(Fetching d i B1 B2 BQ s sq F1 F2 FQ r ∗ Owe d i O W ∗ Transfers.MayWaits (tV d i) (none : HIx 1) O)
    ⊢ iprop((iprop(Here d i B1 B2 BQ s sq F1 F2 FQ r ∗ Owe d i O W) -∗ wp frame (wpE (defs₀ (F := F)) 𝒱₀ (tV d i) none) Set.univ (k ⟨⟩) Φ)
      -∗ wp frame (wpE (defs₀ (F := F)) 𝒱₀ (tV d i) none) Set.univ
        (.op (.waitDma2 s M1 B1 w1 w2) fun _ => .op (.waitDma2 s M2 B2 w3 w4) fun _ => .op (.waitDma2 sq MQ BQ w5 w6) k) Φ) := by
  have hpos : 0 < B1.view.dmaCredit := View.dmaCredit_pos _ (by decide)
  unfold Fetching Owe
  iintro ⟨⟨HB, HF⟩, ⟨%W1, %hW1, HO⟩, #Hmw⟩ Hk
  iapply (Transfers.wp_waitBatchO EC 𝒱₀ (tV d i) none (none : HIx 1) (N := B1.view.dmaCredit) (dstw := B1) (D := dlv d i B1 B2 F1 F2 r) (u := 0) rfl (by omega)) $$ [HB HO]
  · isplitl [HB]; · iexact HB
    isplitl [HO]; · iexact HO
    iapply (Transfers.MayWaits.elim (SemLoc.dma s)) $$ Hmw
  iintro ⟨HB, HO⟩
  iapply (Transfers.wp_waitBatchLastO EC 𝒱₀ (tV d i) none (none : HIx 1) (N := B1.view.dmaCredit) (dstw := B2) (D := dlv d i B1 B2 F1 F2 r) (u := 0 + B1.view.dmaCredit) hN hpos (by omega)) $$ [HB HO]
  · isplitl [HB]; · iexact HB
    isplitl [HO]; · iexact HO
    iapply (Transfers.MayWaits.elim (SemLoc.dma s)) $$ Hmw
  iintro ⟨HD, Hs, HO⟩
  iapply (Transfers.wp_waitLocalO EC 𝒱₀ (tV d i) none (none : HIx 1) rfl) $$ [HF HO]
  · isplitl [HF]; · iexact HF
    isplitl [HO]; · iexact HO
    iapply (Transfers.MayWaits.elim (SemLoc.dma sq)) $$ Hmw
  iintro ⟨HG, Hsq, HO⟩
  iapply Hk
  isplitr [HO]
  · unfold Here
    ihave HD := (show bigSep Finset.univ (dlv d i B1 B2 F1 F2 r) ⊢ iprop(Got d i B1 (pick256 F1 r) ∗ Got d i B2 (pick256 F2 r)) from
      Entails.of_eq (BI.bigSep_fin_two _)) $$ HD
    icases HD with ⟨H1, H2⟩
    isplitl [H1]; · iexact H1
    isplitl [H2]; · iexact H2
    isplitl [HG]; · iexact HG
    isplitl [Hs]; · iexact Hs
    iexact Hsq
  · iexists _
    isplitr; swap; · iexact HO
    ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW1 p hp

end

/-! ## The copy out -/

/-- Sixty-four rows of the result, as a set of places. -/
def rows (r : ℕ) : Finset S16384x256.Idx := Finset.univ.filter fun x => r ≤ (x 0).val ∧ (x 0).val < r + 64

theorem rows_eq (r : ℕ) (hr : ∀ a, (![r, 0] : Fin 2 → ℕ) a + S64x256.size a ≤ S16384x256.size a) :
    (hO.slice (Rect.unit (s := S16384x256) ![r, 0] S64x256.size hr) (fun _ => rfl)).view.set = rows r := by
  refine (View.set_slice_whole _ _).trans (Finset.ext fun x => ?_)
  refine Rect.mem_set_unit.trans ?_
  unfold rows
  rw [Finset.mem_filter]
  have h1 : (x 1).val < 256 := (x 1).isLt
  constructor
  · intro h; exact ⟨Finset.mem_univ _, (h 0).1, (h 0).2⟩
  · rintro ⟨-, h⟩ a
    match a with
    | 0 => exact h
    | 1 => exact ⟨Nat.zero_le _, by show (x 1).val < 0 + 256; omega⟩

/-- The result at one place of the array. -/
def scVal (F1 : S16384x256.Idx → Elt F .f32) (F2 : S16384x256.Idx → Elt F .i32) (FQ : S16384x128.Idx → Elt F .f32) (x : S16384x256.Idx) : Elt F .f32 :=
  comb (F := F) (F1 x) (F2 x)
    (FQ (ix2 ⟨(64 * ((x 0).val / 64) + (rowW (F2 x)).toNat % 64) % 16384, Nat.mod_lt _ (by decide)⟩ ⟨(laneW (F2 x)).toNat % 128, Nat.mod_lt _ (by decide)⟩))
    (FQ (ix2 ⟨(64 * ((x 0).val / 64) + (rowW (F2 x)).toNat % 64) % 16384, Nat.mod_lt _ (by decide)⟩ ⟨((laneW (F2 x)).toNat + 1) % 128, Nat.mod_lt _ (by decide)⟩))

theorem colVal_pick (F1 : S16384x256.Idx → Elt F .f32) (F2 : S16384x256.Idx → Elt F .i32) (FQ : S16384x128.Idx → Elt F .f32) (r : ℕ) (h64 : r % 64 = 0)
    (hr : r + 64 ≤ 16384) (y : S64x256.Idx) :
    colVal (F := F) (pick256 F1 r) (pick256 F2 r) (pick128 FQ r) y = scVal F1 F2 FQ (ix2 ⟨(r + (y 0).val) % 16384, Nat.mod_lt _ (by decide)⟩ (y 1)) := by
  have hy : (y 0).val < 64 := (y 0).isLt
  have hd : 64 * ((r + (y 0).val) % 16384 / 64) = r := by omega
  unfold colVal scVal
  show comb _ _ (FQ (ix2 ⟨(r + _ % 64) % 16384, _⟩ _)) (FQ (ix2 ⟨(r + _ % 64) % 16384, _⟩ _)) = comb _ _ (FQ (ix2 ⟨(64 * ((r + (y 0).val) % 16384 / 64) + _ % 64) % 16384, _⟩ _)) (FQ (ix2 ⟨(64 * ((r + (y 0).val) % 16384 / 64) + _ % 64) % 16384, _⟩ _))
  simp only [hd]
  rfl

section
variable (d : Dev nD) (F1 : S16384x256.Idx → Elt F .f32) (F2 : S16384x256.Idx → Elt F .i32) (FQ : S16384x128.Idx → Elt F .f32)

/-- Sixty-four rows of the result array not yet written, and the same written. -/
def Todo (r : ℕ) : sProp 𝕄 := iprop(∃ f : S16384x256.Idx → Elt F .f32, ℓO d ↦[rows r]{fullShare} f)
def Done (r : ℕ) : sProp 𝕄 :=
  iprop(∃ f : S16384x256.Idx → Elt F .f32, ⌜∀ x ∈ rows r, (x 1).val < 208 → f x = scVal F1 F2 FQ x⌝ ∗ ℓO d ↦[rows r]{fullShare} f)

instance (r : ℕ) : Storable (upEmb : UEmb _ 𝕄) (Todo (F := F) d r) := by unfold Todo; infer_instance
instance (r : ℕ) : Storable (upEmb : UEmb _ 𝕄) (Done d F1 F2 FQ r) := by unfold Done; infer_instance
end

section
variable (d : Dev nD) (i : grid1.Coords) {B1 : Memref sig .scVector .vmem S64x256 .f32} {B2 : Memref sig .scVector .vmem S64x256 .i32}
  {BQ : Memref sig .scVector .vmem S64x128 .f32} (BO : Memref sig .scVector .vmem S64x256 .f32) (so : DmaSem sig)
  (F1 : S16384x256.Idx → Elt F .f32) (F2 : S16384x256.Idx → Elt F .i32) (FQ : S16384x128.Idx → Elt F .f32)

/-- What a copy of sixty-four rows of the result credits. -/
abbrev outCredit : ℕ := (hO.slice (Rect.unit (s := S16384x256) ![0, 0] S64x256.size (by decide)) (fun _ => rfl)).view.dmaCredit

/-- A chunk's results on their way out. -/
def Sending (r : ℕ) : sProp 𝕄 := Transfers.Flight EC (tV d i) (.dma so) (none : HIx 1) outCredit iprop(Done d F1 F2 FQ r ∗ Any d i BO)

/-- The output buffer holding a chunk's results. -/
def Ready (r : ℕ) : sProp 𝕄 :=
  iprop(∃ go : Buf (Elt F) (BO.view.loc (tV d i)),
    ⌜∀ y : S64x256.Idx, (y 1).val < 208 → BO.view.read (Elt F) go y = colVal (pick256 F1 r) (pick256 F2 r) (pick128 FQ r) y⌝ ∗ BO.view.loc (tV d i) ↦{fullShare} go)

variable {BO so F1 F2 FQ}

set_option maxHeartbeats 1000000 in
theorem wp_send (hB : BO.view.set = Finset.univ) (r : ℕ) (h64 : r % 64 = 0) {o : Fin 2 → ℕ} {hi : ∀ a, o a + S64x256.size a ≤ S16384x256.size a} (ho : o = ![r, 0]) {w1 w2 t1}
    {α : Type} (k : PUnit → Prog (TpuEff nD τ sig (Elt F) Λ₀ (.scVector ((i 0).castLE hcore1) ((i 1).castLE hsub1))) α) (Φ : α → sProp 𝕄) :
    iprop(Ready d i BO F1 F2 FQ r ∗ Todo (F := F) d r ∗ semVal (tV d i, SemLoc.dma so) 0)
    ⊢ iprop((Sending d i BO so F1 F2 FQ r -∗ wp frame (wpE (defs₀ (F := F)) 𝒱₀ (tV d i) none) Set.univ (k ⟨⟩) Φ)
      -∗ wp frame (wpE (defs₀ (F := F)) 𝒱₀ (tV d i) none) Set.univ
        (.op (.enqueueDma BO (.here (hO.slice (Rect.unit (s := S16384x256) o S64x256.size hi) (fun _ => rfl))) (.dma so) w1 w2 t1) k) Φ) := by
  subst ho
  have hr : r + 64 ≤ 16384 := hi 0
  unfold Ready Todo
  iintro ⟨⟨%go, %hgo, HB⟩, ⟨%f, HT⟩, Hs⟩ Hk
  ihave HB := (show (BO.view.loc (tV d i) ↦{fullShare} go : sProp 𝕄) ⊢ (BO.view.loc (tV d i) ↦[BO.view.set]{fullShare} go) from
    Entails.of_eq (by rw [hB])) $$ HB
  ihave HT := (show (ℓO d ↦[rows r]{fullShare} f : sProp 𝕄) ⊢ ((hO.slice (Rect.unit (s := S16384x256) ![r, 0] S64x256.size hi) (fun _ => rfl)).view.loc (tV d i)
      ↦[rows r]{fullShare} f) from .rfl) $$ HT
  iapply (Transfers.wp_dmaLocal EC 𝒱₀ (tV d i) none (dst := hO.slice (Rect.unit (s := S16384x256) ![r, 0] S64x256.size hi) (fun _ => rfl))
    (sm := .dma so) (Sd := rows r) (none : HIx 1) outCredit rfl (View.dmaCredit_pos _ (by decide)) (rows_eq r hi).subset) $$ [HB HT Hs]
  · isplitl [HB]; · iexact HB
    isplitl [HT]; · iexact HT
    iexact Hs
  iintro HF
  iapply Hk
  unfold Sending
  iapply (Transfers.Flight_mono EC (tV d i) (D' := iprop(Done d F1 F2 FQ r ∗ Any d i BO)) ?_) $$ HF
  iintro ⟨HD, HB⟩
  isplitl [HD]
  · unfold Done
    iexists _
    isplitr; swap; · iexact HD
    ipureintro
    intro x hx h208
    rw [← rows_eq r hi] at hx
    obtain ⟨y, -, rfl⟩ := Finset.mem_map.mp hx
    have he : (hO.slice (Rect.unit (s := S16384x256) ![r, 0] S64x256.size hi) (fun _ => rfl)).view.emb y = ix2 ⟨(r + (y 0).val) % 16384, Nat.mod_lt _ (by decide)⟩ (y 1) :=
      emb256 r hi y
    refine (View.write_emb_of_mem _ _ (Finset.mem_univ y)).trans ?_
    rw [cast_eq]
    refine (hgo y ?_).trans ?_
    · rw [he] at h208; exact h208
    · rw [he]; exact colVal_pick F1 F2 FQ r h64 hr y
  · unfold Any
    iexists go
    rw [hB]
    iexact HB

set_option maxHeartbeats 1000000 in
theorem wp_sent (r : ℕ) {O : CellTallies nD τ sig (HIx 1)} {W : Waits sig (HIx 1)}
    {o : Fin 2 → ℕ} {hi : ∀ a, o a + S64x256.size a ≤ S16384x256.size a} {w1 w2}
    {α : Type} (k : PUnit → Prog (TpuEff nD τ sig (Elt F) Λ₀ (.scVector ((i 0).castLE hcore1) ((i 1).castLE hsub1))) α) (Φ : α → sProp 𝕄) :
    iprop(Sending d i BO so F1 F2 FQ r ∗ Owe d i O W ∗ Transfers.MayWaits (tV d i) (none : HIx 1) O)
    ⊢ iprop((iprop(Done d F1 F2 FQ r ∗ Any d i BO ∗ semVal (tV d i, SemLoc.dma so) 0 ∗ Owe d i O W) -∗ wp frame (wpE (defs₀ (F := F)) 𝒱₀ (tV d i) none) Set.univ (k ⟨⟩) Φ)
      -∗ wp frame (wpE (defs₀ (F := F)) 𝒱₀ (tV d i) none) Set.univ
        (.op (.waitDma2 so BO (hO.slice (Rect.unit (s := S16384x256) o S64x256.size hi) (fun _ => rfl)) w1 w2) k) Φ) := by
  unfold Sending
  iintro ⟨HF, HW, #Hmw⟩ Hk
  ihave HW := (show Owe d i O W ⊢ iprop(∃ W', ⌜∀ p ∈ W', p ∈ W ∨ p.2 = none⌝ ∗ owes (tV d i) O W') from .rfl) $$ HW
  icases HW with ⟨%W1, %hW1, HO⟩
  iapply (Transfers.wp_waitLocalO EC 𝒱₀ (tV d i) none (dstw := hO.slice (Rect.unit (s := S16384x256) o S64x256.size hi) (fun _ => rfl)) (none : HIx 1) (N := outCredit) rfl) $$ [HF HO]
  · isplitl [HF]; · iexact HF
    isplitl [HO]; · iexact HO
    iapply (Transfers.MayWaits.elim (SemLoc.dma so)) $$ Hmw
  iintro ⟨⟨HD, HA⟩, Hs, HO⟩
  iapply Hk
  isplitl [HD]; · iexact HD
  isplitl [HA]; · iexact HA
  isplitl [Hs]; · iexact Hs
  iapply (Owe_insert d i W1 hW1 (SemLoc.dma so)) $$ HO

end

end Cert.Proof

end
-- ==== Proof.TcBody.lean ====
/-
  The TensorCore kernel's body: what it leaves in its three result blocks, as a function of its four input blocks.
-/
module

public import proofs.«01_k».proof.Proof.Fetch
public import Idealize.ShloMosaic.Lib.Pipeline.FrameBody
public import Idealize.ShloMosaic.Lib.Pipeline.Value

@[expose] public section

noncomputable section

namespace Cert.Proof

open Cert.KernelIdeal Cert.KernelIdeal.Gen
open Idealize.ShloMosaic Idealize.ShloMosaic.ValueIdx Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## The three results of one grid point -/

/-- The running sums. -/
def qoB (x : Vec F S512x128 .f32) (W : Vec F S128x128 .f32) (b : Vec F S1x128 .f32) : Vec F S512x128 .f32 := k0_pay3 x W b

/-- The tail's value where the query lies outside the knots, the interpolation weight elsewhere. -/
def a1B (x : Vec F S512x128 .f32) (q : Vec F S512x200 .f32) (W : Vec F S128x128 .f32) (b : Vec F S1x128 .f32) : Vec F S512x256 .f32 :=
  k0_pay1 (k0_pay6 q) (k0_pay7 (k0_pay3 x W b) q (k0_pay4 x W b) (k0_pay5 x W b) (Named.named κ "log_tail" 0xC0935D8E#32)) (k0_pay10 q)

/-- The packed words. -/
def a2B (q : Vec F S512x200 .f32) : Vec F S512x256 .i32 := k0_pay2 (k0_pay6 q) (k0_pay9 q)

/-! ## The body's triple -/

theorem zz : (![0, 0] : Fin 2 → Nat) = fun _ => 0 := funext fun a => by fin_cases a <;> rfl

abbrev rQ : Rect S512x128 := Rect.unit (s := S512x128) ![0, 0] S512x128.size inb_S512x128_S512x128_0_0
abbrev rA : Rect S512x256 := Rect.unit (s := S512x256) ![0, 0] S512x256.size inb_S512x256_S512x256_0_0

/-- Reading a whole block through its own rectangle reads the block. -/
theorem ldX {e : EltTy} (X : S512x128.Idx → Elt F e) : View.ld X (Rect.unit (s := S512x128) ![0, 0] ![512, 128] inb_S512x128_S512x128_0_0) = X :=
  View.ld_unit_zero (S := S512x128) zz _ X
theorem ldP {e : EltTy} (X : S512x200.Idx → Elt F e) : View.ld X (Rect.unit (s := S512x200) ![0, 0] ![512, 200] inb_S512x200_S512x200_0_0) = X :=
  View.ld_unit_zero (S := S512x200) zz _ X
theorem ldW {e : EltTy} (X : S128x128.Idx → Elt F e) : View.ld X (Rect.unit (s := S128x128) ![0, 0] ![128, 128] inb_S128x128_S128x128_0_0) = X :=
  View.ld_unit_zero (S := S128x128) zz _ X
theorem ldB {e : EltTy} (X : S1x128.Idx → Elt F e) : View.ld X (Rect.unit (s := S1x128) ![0, 0] ![1, 128] inb_S1x128_S1x128_0_0) = X :=
  View.ld_unit_zero (S := S1x128) zz _ X

theorem coverQ {e : EltTy} (p : S512x128.Idx → Elt F e) (y : S512x128.Idx) :
    ∃ pc ∈ ([⟨rQ, p⟩] : List (View.Piece (Elt F) S512x128 e)), y ∈ pc.1.set :=
  View.cover_of_tiled [⟨rQ, p⟩] S512x128.size (by rfl) y
theorem coverA {e : EltTy} (p : S512x256.Idx → Elt F e) (y : S512x256.Idx) :
    ∃ pc ∈ ([⟨rA, p⟩] : List (View.Piece (Elt F) S512x256 e)), y ∈ pc.1.set :=
  View.cover_of_tiled [⟨rA, p⟩] S512x256.size (by rfl) y

theorem tc_kernel [∀ e, Nonempty (Elt F e)] (c : Dev nD) (E : Set ℕ) (i : grid0.Coords)
    (a1 : Memref sig .tc .vmem S512x128 .f32) (h1 : a1.IsWhole) (a2 : Memref sig .tc .vmem S512x200 .f32) (h2 : a2.IsWhole)
    (a3 : Memref sig .tc .vmem S128x128 .f32) (h3 : a3.IsWhole) (a4 : Memref sig .tc .vmem S1x128 .f32) (h4 : a4.IsWhole)
    (a5 : Memref sig .tc .vmem S512x128 .f32) (h5 : a5.IsWhole) (a6 : Memref sig .tc .vmem S512x256 .f32) (h6 : a6.IsWhole)
    (a7 : Memref sig .tc .vmem S512x256 .i32) (h7 : a7.IsWhole)
    (x : Vec F S512x128 .f32) (q : Vec F S512x200 .f32) (W : Vec F S128x128 .f32) (b : Vec F S1x128 .f32) (Q : PUnit → sProp 𝕄) :
    iprop(owns (c : Thread nD τ) a1 fullShare x ∗ owns (c : Thread nD τ) a2 fullShare q ∗ owns (c : Thread nD τ) a3 fullShare W
        ∗ owns (c : Thread nD τ) a4 fullShare b ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare q ∗ owns (c : Thread nD τ) a3 fullShare W
            ∗ owns (c : Thread nD τ) a4 fullShare b ∗ owns (c : Thread nD τ) a5 fullShare (qoB x W b)
            ∗ owns (c : Thread nD τ) a6 fullShare (a1B x q W b) ∗ owns (c : Thread nD τ) a7 fullShare (a2B q)) -∗ Q ⟨⟩))
      ⊢ wp frame (wpE (defs₀ (F := F)) 𝒱₀ c none) E (cc0__tc_body i a1 h1 a2 h2 a3 h3 a4 h4 a5 h5 a6 h6 a7 h7) Q := by
  simp only [cc0__tc_body_eq_skeleton]; unfold cc0__tc_body_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverQ _)).trans ?_
    rw [View.canon_unit_zero zz]
    simp only [View.readAt_eq_ld, ldX, ldP, ldW, ldB]
    rfl
  isplitl [H6]
  · iexists _; isplitr
    swap; · iexact H6
    ipureintro
    refine (View.read_writes_eq_canon _ _ _ (coverA _)).trans ?_
    rw [View.canon_unit_zero zz]
    simp only [View.readAt_eq_ld, ldX, ldP, ldW, ldB]
    rfl
  · iexists _; isplitr
    swap; · iexact H7
    ipureintro
    refine (View.read_writes_eq_canon _ _ _ (coverA _)).trans ?_
    rw [View.canon_unit_zero zz]
    simp only [View.readAt_eq_ld, ldX, ldP, ldW, ldB]
    rfl

end Cert.Proof

end
-- ==== Proof.Region.lean ====
/-
  The TensorCore kernel's pipeline: its proof data from any contents of the unscoped buffers, and what its three
  result arrays hold at the end.
-/
module

public import proofs.«01_k».proof.Proof.TcBody
public import Idealize.ShloMosaic.Lib.Pipeline.RegionArrays

@[expose] public section

noncomputable section

namespace Cert.Proof

open Cert.KernelIdeal Cert.KernelIdeal.Gen
open Idealize.ShloMosaic Idealize.ShloMosaic.ValueIdx Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig (HIx 1) (Elt F) ℕ UU ℕ

/-! ## Blocks of 512 rows, and arrays made of them -/

section Blocks

variable {α : Type}

/-- Block `t` of an array: 512 rows from row `512 t` on. -/
def blk128 (f : S16384x128.Idx → α) (t : ℕ) : S512x128.Idx → α := fun y => f (ix2 ⟨(t * 512 + (y 0).val) % 16384, Nat.mod_lt _ (by decide)⟩ (y 1))
def blk200 (f : S16384x200.Idx → α) (t : ℕ) : S512x200.Idx → α := fun y => f (ix2 ⟨(t * 512 + (y 0).val) % 16384, Nat.mod_lt _ (by decide)⟩ (y 1))

/-- The array whose block `t` is `B t`. -/
def all128 (B : ℕ → S512x128.Idx → α) : S16384x128.Idx → α := fun x => B ((x 0).val / 512) (ix2 ⟨(x 0).val % 512, Nat.mod_lt _ (by decide)⟩ (x 1))
def all256 (B : ℕ → S512x256.Idx → α) : S16384x256.Idx → α := fun x => B ((x 0).val / 512) (ix2 ⟨(x 0).val % 512, Nat.mod_lt _ (by decide)⟩ (x 1))

end Blocks

/-- The three arrays the TensorCore kernel writes, of its four arguments. -/
def FQg (X : S16384x128.Idx → Elt F .f32) (W : S128x128.Idx → Elt F .f32) (b : S1x128.Idx → Elt F .f32) : S16384x128.Idx → Elt F .f32 :=
  all128 fun t => qoB (blk128 X t) W b
def F1g (X : S16384x128.Idx → Elt F .f32) (q : S16384x200.Idx → Elt F .f32) (W : S128x128.Idx → Elt F .f32) (b : S1x128.Idx → Elt F .f32) :
    S16384x256.Idx → Elt F .f32 :=
  all256 fun t => a1B (blk128 X t) (blk200 q t) W b
def F2g (q : S16384x200.Idx → Elt F .f32) : S16384x256.Idx → Elt F .i32 := all256 fun t => a2B (blk200 q t)

/-! ## The windows' block indices -/

theorem ix0 : ∀ t : Fin cfg0.N, win0_0.index t (0 : Fin 2) = t.val ∧ win0_0.index t (1 : Fin 2) = 0 := (by decide +kernel : ∀ t : Fin grid0.N, _)
theorem ix1 : ∀ t : Fin cfg0.N, win0_1.index t (0 : Fin 2) = t.val ∧ win0_1.index t (1 : Fin 2) = 0 := (by decide +kernel : ∀ t : Fin grid0.N, _)
theorem ixW : ∀ t : Fin cfg0.N, win0_2.index t (0 : Fin 2) = 0 ∧ win0_2.index t (1 : Fin 2) = 0 := (by decide +kernel : ∀ t : Fin grid0.N, _)
theorem ixB : ∀ t : Fin cfg0.N, win0_3.index t (0 : Fin 2) = 0 ∧ win0_3.index t (1 : Fin 2) = 0 := (by decide +kernel : ∀ t : Fin grid0.N, _)
theorem ix4 : ∀ t : Fin cfg0.N, win0_4.index t (0 : Fin 2) = t.val ∧ win0_4.index t (1 : Fin 2) = 0 := (by decide +kernel : ∀ t : Fin grid0.N, _)
theorem ix5 : ∀ t : Fin cfg0.N, win0_5.index t (0 : Fin 2) = t.val ∧ win0_5.index t (1 : Fin 2) = 0 := (by decide +kernel : ∀ t : Fin grid0.N, _)
theorem ix6 : ∀ t : Fin cfg0.N, win0_6.index t (0 : Fin 2) = t.val ∧ win0_6.index t (1 : Fin 2) = 0 := (by decide +kernel : ∀ t : Fin grid0.N, _)

theorem tlt (t : Fin cfg0.N) : t.val < 32 := lt_of_lt_of_eq t.isLt N_0

theorem em0 (t : Fin cfg0.N) (y : S512x128.Idx) :
    ((cfg0.win 0).blk t).view.emb y = ix2 ⟨(t.val * 512 + (y 0).val) % 16384, Nat.mod_lt _ (by decide)⟩ (y 1) := by
  obtain ⟨e0, e1⟩ := ix0 t; have ht := tlt t; have hy : (y 0).val < 512 := (y 0).isLt
  funext a; apply Fin.ext
  match a with
  | ⟨0, _⟩ => show win0_0.index t (0 : Fin 2) * 512 + 1 * (y 0).val = (t.val * 512 + (y 0).val) % 16384; omega
  | ⟨1, _⟩ => show win0_0.index t (1 : Fin 2) * 128 + 1 * (y 1).val = (y 1).val; omega
theorem em1 (t : Fin cfg0.N) (y : S512x200.Idx) :
    ((cfg0.win 1).blk t).view.emb y = ix2 ⟨(t.val * 512 + (y 0).val) % 16384, Nat.mod_lt _ (by decide)⟩ (y 1) := by
  obtain ⟨e0, e1⟩ := ix1 t; have ht := tlt t; have hy : (y 0).val < 512 := (y 0).isLt
  funext a; apply Fin.ext
  match a with
  | ⟨0, _⟩ => show win0_1.index t (0 : Fin 2) * 512 + 1 * (y 0).val = (t.val * 512 + (y 0).val) % 16384; omega
  | ⟨1, _⟩ => show win0_1.index t (1 : Fin 2) * 200 + 1 * (y 1).val = (y 1).val; omega
theorem emW (t : Fin cfg0.N) (y : S128x128.Idx) : ((cfg0.win 2).blk t).view.emb y = y := by
  obtain ⟨e0, e1⟩ := ixW t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem emB (t : Fin cfg0.N) (y : S1x128.Idx) : ((cfg0.win 3).blk t).view.emb y = y := by
  obtain ⟨e0, e1⟩ := ixB t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem em4 (t : Fin cfg0.N) (y : S512x128.Idx) :
    ((cfg0.win 4).blk t).view.emb y = ix2 ⟨(t.val * 512 + (y 0).val) % 16384, Nat.mod_lt _ (by decide)⟩ (y 1) := by
  obtain ⟨e0, e1⟩ := ix4 t; have ht := tlt t; have hy : (y 0).val < 512 := (y 0).isLt
  funext a; apply Fin.ext
  match a with
  | ⟨0, _⟩ => show win0_4.index t (0 : Fin 2) * 512 + 1 * (y 0).val = (t.val * 512 + (y 0).val) % 16384; omega
  | ⟨1, _⟩ => show win0_4.index t (1 : Fin 2) * 128 + 1 * (y 1).val = (y 1).val; omega
theorem em5 (t : Fin cfg0.N) (y : S512x256.Idx) :
    ((cfg0.win 5).blk t).view.emb y = ix2 ⟨(t.val * 512 + (y 0).val) % 16384, Nat.mod_lt _ (by decide)⟩ (y 1) := by
  obtain ⟨e0, e1⟩ := ix5 t; have ht := tlt t; have hy : (y 0).val < 512 := (y 0).isLt
  funext a; apply Fin.ext
  match a with
  | ⟨0, _⟩ => show win0_5.index t (0 : Fin 2) * 512 + 1 * (y 0).val = (t.val * 512 + (y 0).val) % 16384; omega
  | ⟨1, _⟩ => show win0_5.index t (1 : Fin 2) * 256 + 1 * (y 1).val = (y 1).val; omega
theorem em6 (t : Fin cfg0.N) (y : S512x256.Idx) :
    ((cfg0.win 6).blk t).view.emb y = ix2 ⟨(t.val * 512 + (y 0).val) % 16384, Nat.mod_lt _ (by decide)⟩ (y 1) := by
  obtain ⟨e0, e1⟩ := ix6 t; have ht := tlt t; have hy : (y 0).val < 512 := (y 0).isLt
  funext a; apply Fin.ext
  match a with
  | ⟨0, _⟩ => show win0_6.index t (0 : Fin 2) * 512 + 1 * (y 0).val = (t.val * 512 + (y 0).val) % 16384; omega
  | ⟨1, _⟩ => show win0_6.index t (1 : Fin 2) * 256 + 1 * (y 1).val = (y 1).val; omega

/-! ## The proof data -/

section Data

variable (V : Dev nD → Valuation τ sig (Elt F))

/-- The four arguments the region is entered with. -/
abbrev Xa (c : Dev nD) : S16384x128.Idx → Elt F .f32 := V c (Proc.devRef .tc main_arg0)
abbrev Qa (c : Dev nD) : S16384x200.Idx → Elt F .f32 := V c (Proc.devRef .tc main_arg1)
abbrev Wa (c : Dev nD) : S128x128.Idx → Elt F .f32 := V c (Proc.devRef .tc main_v2)
abbrev Ba (c : Dev nD) : S1x128.Idx → Elt F .f32 := V c (Proc.devRef .tc main_v7)

/-- From the valuation `V`: the arrays as it has them, the blocks left as fetched, the results as the body computes
    them, and throughout the units the core owes the SparseCore call. -/
def dat (c : Dev nD) : Dat τ (Elt F) (HIx 1) ℕ UU ℕ cfg0 c where
  A w := V c (Proc.devRef .tc (Pipeline.arrRef spec0 w))
  after w t := match w with
    | ⟨0, _⟩ => blk128 (Xa V c) t.val
    | ⟨1, _⟩ => blk200 (Qa V c) t.val
    | ⟨2, _⟩ => Wa V c
    | ⟨3, _⟩ => Ba V c
    | ⟨4, _⟩ => qoB (blk128 (Xa V c) t.val) (Wa V c) (Ba V c)
    | ⟨5, _⟩ => a1B (blk128 (Xa V c) t.val) (blk200 (Qa V c) t.val) (Wa V c) (Ba V c)
    | ⟨6, _⟩ => a2B (blk200 (Qa V c) t.val)
  Φ _ := Pipeline.scopedRest (Ix := HIx 1) (Name := ℕ) (U := UU) (Lvl := ℕ) (Val := Elt F) spec0 c
  q _ := fullShare
  owed _ := (K (F := F)).Otc c 0
  recorded _ := {p | (K (F := F)).lev (T c, p.1) p.2 ≤ 0}

theorem aft0 (c : Dev nD) (t : Fin cfg0.N) : (dat V c).after 0 t = blk128 (Xa V c) t.val := by dsimp only [dat]
theorem aft1 (c : Dev nD) (t : Fin cfg0.N) : (dat V c).after 1 t = blk200 (Qa V c) t.val := by dsimp only [dat]
theorem aft2 (c : Dev nD) (t : Fin cfg0.N) : (dat V c).after 2 t = Wa V c := by dsimp only [dat]
theorem aft3 (c : Dev nD) (t : Fin cfg0.N) : (dat V c).after 3 t = Ba V c := by dsimp only [dat]
theorem aft4 (c : Dev nD) (t : Fin cfg0.N) : (dat V c).after 4 t = qoB (blk128 (Xa V c) t.val) (Wa V c) (Ba V c) := by dsimp only [dat]
theorem aft5 (c : Dev nD) (t : Fin cfg0.N) : (dat V c).after 5 t = a1B (blk128 (Xa V c) t.val) (blk200 (Qa V c) t.val) (Wa V c) (Ba V c) := by
  dsimp only [dat]
theorem aft6 (c : Dev nD) (t : Fin cfg0.N) : (dat V c).after 6 t = a2B (blk200 (Qa V c) t.val) := by dsimp only [dat]

theorem bo0 (c : Dev nD) (t : Fin cfg0.N) : (dat V c).blockOf 0 t = blk128 (Xa V c) t.val := by
  funext y; show Xa V c (((cfg0.win 0).blk t).view.emb y) = _; rw [em0]; rfl
theorem bo1 (c : Dev nD) (t : Fin cfg0.N) : (dat V c).blockOf 1 t = blk200 (Qa V c) t.val := by
  funext y; show Qa V c (((cfg0.win 1).blk t).view.emb y) = _; rw [em1]; rfl
theorem bo2 (c : Dev nD) (t : Fin cfg0.N) : (dat V c).blockOf 2 t = Wa V c := by
  funext y; show Wa V c (((cfg0.win 2).blk t).view.emb y) = _; rw [emW]
theorem bo3 (c : Dev nD) (t : Fin cfg0.N) : (dat V c).blockOf 3 t = Ba V c := by
  funext y; show Ba V c (((cfg0.win 3).blk t).view.emb y) = _; rw [emB]

theorem bef0 (c : Dev nD) (t : Fin cfg0.N) (d) : (dat V c).before 0 t d = blk128 (Xa V c) t.val :=
  ((dat V c).before_in_eq_fetched 0 rfl (fun _ => rfl) (fun _ _ _ => rfl) (fun t => (aft0 V c t).trans (bo0 V c t).symm) t d).trans (bo0 V c t)
theorem bef1 (c : Dev nD) (t : Fin cfg0.N) (d) : (dat V c).before 1 t d = blk200 (Qa V c) t.val :=
  ((dat V c).before_in_eq_fetched 1 rfl (fun _ => rfl) (fun _ _ _ => rfl) (fun t => (aft1 V c t).trans (bo1 V c t).symm) t d).trans (bo1 V c t)
theorem bef2 (c : Dev nD) (t : Fin cfg0.N) (d) : (dat V c).before 2 t d = Wa V c :=
  ((dat V c).before_in_eq_fetched 2 rfl (fun _ => rfl) (fun _ _ _ => rfl) (fun t => (aft2 V c t).trans (bo2 V c t).symm) t d).trans (bo2 V c t)
theorem bef3 (c : Dev nD) (t : Fin cfg0.N) (d) : (dat V c).before 3 t d = Ba V c :=
  ((dat V c).before_in_eq_fetched 3 rfl (fun _ => rfl) (fun _ _ _ => rfl) (fun t => (aft3 V c t).trans (bo3 V c t).symm) t d).trans (bo3 V c t)

/-! ## The body at a grid point -/

theorem row0 (t : Fin cfg0.N) : defs₀ (F := F) .tc cfg0.body (cfg0.bodyArgs t (cfg0.slots t)) = bodyAt0 t := rfl

theorem body_obligation [∀ e, Nonempty (Elt F e)] (c : Dev nD) : BodyObligation (dat V c) (defs₀ (F := F)) 𝒱₀ none Set.univ := fun t => by
  rw [bigSep_W0, bigSep_W0, row0]
  simp only [bef0, bef1, bef2, bef3]
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (tc_kernel c Set.univ _ _ _ _ _ _ _ _ _ _ _ _ _ _ _ (blk128 (Xa V c) t.val) (blk200 (Qa V c) t.val) (Wa V c) (Ba V c) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The arrays at the end -/

theorem fl4 (c : Dev nD) (t : Fin cfg0.N) :
    (dat V c).flushed 4 t = ((cfg0.win 4).blk t).view.read (Elt F) (FQg (Xa V c) (Wa V c) (Ba V c)) := by
  have ht := tlt t
  show (cfg0.win 4).cut (grid0.coords t) ((dat V c).after 4 t) = _
  rw [aft4]
  funext y
  show qoB (blk128 (Xa V c) t.val) (Wa V c) (Ba V c) y = FQg (Xa V c) (Wa V c) (Ba V c) (((cfg0.win 4).blk t).view.emb y)
  have hy : (y 0).val < 512 := (y 0).isLt
  rw [em4]
  unfold FQg all128
  have e1 : (t.val * 512 + (y 0).val) % 16384 / 512 = t.val := by omega
  have e2 : (t.val * 512 + (y 0).val) % 16384 % 512 = (y 0).val := by omega
  show _ = qoB (blk128 (Xa V c) ((t.val * 512 + (y 0).val) % 16384 / 512)) (Wa V c) (Ba V c) (ix2 ⟨(t.val * 512 + (y 0).val) % 16384 % 512, _⟩ (y 1))
  rw [e1]
  exact congrArg _ (funext fun a => match a with | ⟨0, _⟩ => Fin.ext e2.symm | ⟨1, _⟩ => rfl)

theorem fl5 (c : Dev nD) (t : Fin cfg0.N) :
    (dat V c).flushed 5 t = ((cfg0.win 5).blk t).view.read (Elt F) (F1g (Xa V c) (Qa V c) (Wa V c) (Ba V c)) := by
  have ht := tlt t
  show (cfg0.win 5).cut (grid0.coords t) ((dat V c).after 5 t) = _
  rw [aft5]
  funext y
  show a1B (blk128 (Xa V c) t.val) (blk200 (Qa V c) t.val) (Wa V c) (Ba V c) y = F1g (Xa V c) (Qa V c) (Wa V c) (Ba V c) (((cfg0.win 5).blk t).view.emb y)
  have hy : (y 0).val < 512 := (y 0).isLt
  rw [em5]
  unfold F1g all256
  have e1 : (t.val * 512 + (y 0).val) % 16384 / 512 = t.val := by omega
  have e2 : (t.val * 512 + (y 0).val) % 16384 % 512 = (y 0).val := by omega
  show _ = a1B (blk128 (Xa V c) ((t.val * 512 + (y 0).val) % 16384 / 512)) (blk200 (Qa V c) ((t.val * 512 + (y 0).val) % 16384 / 512)) (Wa V c) (Ba V c)
    (ix2 ⟨(t.val * 512 + (y 0).val) % 16384 % 512, _⟩ (y 1))
  rw [e1]
  exact congrArg _ (funext fun a => match a with | ⟨0, _⟩ => Fin.ext e2.symm | ⟨1, _⟩ => rfl)

theorem fl6 (c : Dev nD) (t : Fin cfg0.N) :
    (dat V c).flushed 6 t = ((cfg0.win 6).blk t).view.read (Elt F) (F2g (Qa V c)) := by
  have ht := tlt t
  show (cfg0.win 6).cut (grid0.coords t) ((dat V c).after 6 t) = _
  rw [aft6]
  funext y
  show a2B (blk200 (Qa V c) t.val) y = F2g (Qa V c) (((cfg0.win 6).blk t).view.emb y)
  have hy : (y 0).val < 512 := (y 0).isLt
  rw [em6]
  unfold F2g all256
  have e1 : (t.val * 512 + (y 0).val) % 16384 / 512 = t.val := by omega
  have e2 : (t.val * 512 + (y 0).val) % 16384 % 512 = (y 0).val := by omega
  show _ = a2B (blk200 (Qa V c) ((t.val * 512 + (y 0).val) % 16384 / 512)) (ix2 ⟨(t.val * 512 + (y 0).val) % 16384 % 512, _⟩ (y 1))
  rw [e1]
  exact congrArg _ (funext fun a => match a with | ⟨0, _⟩ => Fin.ext e2.symm | ⟨1, _⟩ => rfl)

theorem mem_of_emb {sp : Space} {s : Shape} {e : EltTy} (v : View sig .tc sp s e) (j : s.Idx) (i : v.ty.Idx) (h : v.emb j = i) : i ∈ v.set :=
  h ▸ v.emb_mem_set j

theorem cov4 (i : S16384x128.Idx) : ∃ t : Fin cfg0.N, (cfg0.win 4).flush t = true ∧ i ∈ ((cfg0.win 4).blk t).view.set := by
  have h0 : (i 0).val < 16384 := (i 0).isLt
  refine ⟨⟨(i 0).val / 512, by rw [show cfg0.N = 32 from N_0]; omega⟩, flush0_4 _, ?_⟩
  have ht : (i 0).val / 512 < cfg0.N := by rw [show cfg0.N = 32 from N_0]; omega
  refine mem_of_emb ((cfg0.win 4).blk ⟨(i 0).val / 512, ht⟩).view (ix2 (⟨(i 0).val % 512, Nat.mod_lt _ (by decide)⟩ : Fin 512) (i 1) : S512x128.Idx) i
    ((em4 ⟨(i 0).val / 512, ht⟩ _).trans (funext fun (a : Fin 2) => Fin.ext ?_))
  match a with
  | ⟨0, _⟩ => show ((i 0).val / 512 * 512 + (i 0).val % 512) % 16384 = (i 0).val; omega
  | ⟨1, _⟩ => rfl
theorem cov5 (i : S16384x256.Idx) : ∃ t : Fin cfg0.N, (cfg0.win 5).flush t = true ∧ i ∈ ((cfg0.win 5).blk t).view.set := by
  have h0 : (i 0).val < 16384 := (i 0).isLt
  refine ⟨⟨(i 0).val / 512, by rw [show cfg0.N = 32 from N_0]; omega⟩, flush0_5 _, ?_⟩
  have ht : (i 0).val / 512 < cfg0.N := by rw [show cfg0.N = 32 from N_0]; omega
  refine mem_of_emb ((cfg0.win 5).blk ⟨(i 0).val / 512, ht⟩).view (ix2 (⟨(i 0).val % 512, Nat.mod_lt _ (by decide)⟩ : Fin 512) (i 1) : S512x256.Idx) i
    ((em5 ⟨(i 0).val / 512, ht⟩ _).trans (funext fun (a : Fin 2) => Fin.ext ?_))
  match a with
  | ⟨0, _⟩ => show ((i 0).val / 512 * 512 + (i 0).val % 512) % 16384 = (i 0).val; omega
  | ⟨1, _⟩ => rfl
theorem cov6 (i : S16384x256.Idx) : ∃ t : Fin cfg0.N, (cfg0.win 6).flush t = true ∧ i ∈ ((cfg0.win 6).blk t).view.set := by
  have h0 : (i 0).val < 16384 := (i 0).isLt
  refine ⟨⟨(i 0).val / 512, by rw [show cfg0.N = 32 from N_0]; omega⟩, flush0_6 _, ?_⟩
  have ht : (i 0).val / 512 < cfg0.N := by rw [show cfg0.N = 32 from N_0]; omega
  refine mem_of_emb ((cfg0.win 6).blk ⟨(i 0).val / 512, ht⟩).view (ix2 (⟨(i 0).val % 512, Nat.mod_lt _ (by decide)⟩ : Fin 512) (i 1) : S512x256.Idx) i
    ((em6 ⟨(i 0).val / 512, ht⟩ _).trans (funext fun (a : Fin 2) => Fin.ext ?_))
  match a with
  | ⟨0, _⟩ => show ((i 0).val / 512 * 512 + (i 0).val % 512) % 16384 = (i 0).val; omega
  | ⟨1, _⟩ => rfl

theorem fin4 (c : Dev nD) : (dat V c).arrAt 4 cfg0.N = FQg (Xa V c) (Wa V c) (Ba V c) :=
  (dat V c).arrAt_eq_of_cover 4 _ (fun t _ => fl4 V c t) cov4
theorem fin5 (c : Dev nD) : (dat V c).arrAt 5 cfg0.N = F1g (Xa V c) (Qa V c) (Wa V c) (Ba V c) :=
  (dat V c).arrAt_eq_of_cover 5 _ (fun t _ => fl5 V c t) cov5
theorem fin6 (c : Dev nD) : (dat V c).arrAt 6 cfg0.N = F2g (Qa V c) :=
  (dat V c).arrAt_eq_of_cover 6 _ (fun t _ => fl6 V c t) cov6

end Data

end Cert.Proof

end
-- ==== Proof.Segment.lean ====
/-
  The TensorCore kernel's region as one step of the TensorCore thread: entered holding every unscoped buffer at `V`,
  left with the three results written.
-/
module

public import proofs.«01_k».proof.Proof.Region
public import Idealize.ShloMosaic.Lib.Pipeline.Frame
public import Idealize.ShloMosaic.Lib.Pipeline.RegionsLoop

@[expose] public section

noncomputable section

namespace Cert.Proof

open Cert.KernelIdeal Cert.KernelIdeal.Gen
open Idealize.ShloMosaic Idealize.ShloMosaic.ValueIdx Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf pin)

variable {F : FTy → Type} [FloatOps F] [Named F]

local notation "𝕄" => MT nD τ sig (HIx 1) (Elt F) ℕ UU ℕ

abbrev adm : (p : Fin 1) → (pcfgs (F := F) p).Adm := fun p => (cfgs p).toPCfg_adm

/-- The valuation the region leaves: `V` with the three results written. -/
def Vout (V : Valuation τ sig (Elt F)) : Valuation τ sig (Elt F) :=
  let X : S16384x128.Idx → Elt F .f32 := V (Proc.devRef .tc main_arg0)
  let q : S16384x200.Idx → Elt F .f32 := V (Proc.devRef .tc main_arg1)
  let W : S128x128.Idx → Elt F .f32 := V (Proc.devRef .tc main_v2)
  let b : S1x128.Idx → Elt F .f32 := V (Proc.devRef .tc main_v7)
  Function.update (Function.update (Function.update V (Proc.devRef .tc main_v8_0) (FQg X W b))
    (Proc.devRef .tc main_v8_1) (F1g X q W b)) (Proc.devRef .tc main_v8_2) (F2g q)

theorem Vout_0 (V : Valuation τ sig (Elt F)) : Vout V (Proc.devRef .tc main_v8_0)
    = FQg (V (Proc.devRef .tc main_arg0)) (V (Proc.devRef .tc main_v2)) (V (Proc.devRef .tc main_v7)) := by
  unfold Vout; rw [Function.update_of_ne (by decide), Function.update_of_ne (by decide), Function.update_self]
theorem Vout_1 (V : Valuation τ sig (Elt F)) : Vout V (Proc.devRef .tc main_v8_1)
    = F1g (V (Proc.devRef .tc main_arg0)) (V (Proc.devRef .tc main_arg1)) (V (Proc.devRef .tc main_v2)) (V (Proc.devRef .tc main_v7)) := by
  unfold Vout; rw [Function.update_of_ne (by decide), Function.update_self]
theorem Vout_2 (V : Valuation τ sig (Elt F)) : Vout V (Proc.devRef .tc main_v8_2) = F2g (V (Proc.devRef .tc main_arg1)) := by
  unfold Vout; rw [Function.update_self]
theorem Vout_ne (V : Valuation τ sig (Elt F)) (b : DevRef τ sig) (h0 : b ≠ Proc.devRef .tc main_v8_0) (h1 : b ≠ Proc.devRef .tc main_v8_1)
    (h2 : b ≠ Proc.devRef .tc main_v8_2) : Vout V b = V b := by
  unfold Vout; rw [Function.update_of_ne h2, Function.update_of_ne h1, Function.update_of_ne h0]

section Seg

variable (V : Dev nD → Valuation τ sig (Elt F))

def pdats : (p : Fin 1) → (c : Dev nD) → Dat τ (Elt F) (HIx 1) ℕ UU ℕ (pin (pcfgs (F := F)) adm p) c
  | ⟨0, _⟩ => fun c => dat V c

/-- What the core owes while the region runs: the SparseCore call's units, and nothing recorded above level 0. -/
def OweT (c : Dev nD) : sProp 𝕄 := iprop(∃ W, ⌜(K (F := F)).WBelow (T c) W 0⌝ ∗ owes (T c) ((K (F := F)).Otc c 0) W)

theorem arr_after (c : Dev nD) (w : Fin cfg0.W) :
    (dat V c).arrAt w cfg0.N = Vout (V c) (Proc.devRef .tc (Pipeline.arrRef spec0 w)) := by
  match w with
  | ⟨0, _⟩ => exact ((dat V c).arrAt_in 0 rfl _).trans (Vout_ne _ _ (by decide) (by decide) (by decide)).symm
  | ⟨1, _⟩ => exact ((dat V c).arrAt_in 1 rfl _).trans (Vout_ne _ _ (by decide) (by decide) (by decide)).symm
  | ⟨2, _⟩ => exact ((dat V c).arrAt_in 2 rfl _).trans (Vout_ne _ _ (by decide) (by decide) (by decide)).symm
  | ⟨3, _⟩ => exact ((dat V c).arrAt_in 3 rfl _).trans (Vout_ne _ _ (by decide) (by decide) (by decide)).symm
  | ⟨4, _⟩ => exact (fin4 V c).trans (Vout_0 _).symm
  | ⟨5, _⟩ => exact (fin5 V c).trans (Vout_1 _).symm
  | ⟨6, _⟩ => exact (fin6 V c).trans (Vout_2 _).symm

theorem rest_after (c : Dev nD) (b : Ref sig .tc) (hb : b ∉ Finset.univ.image (Pipeline.arrRef spec0)) :
    Vout (V c) (Proc.devRef .tc b) = V c (Proc.devRef .tc b) := by
  have hn : ∀ w : Fin 7, (Proc.devRef .tc b : DevRef τ sig) ≠ Proc.devRef .tc (Pipeline.arrRef spec0 w) := fun w h =>
    hb (Finset.mem_image.mpr ⟨w, Finset.mem_univ _, (Proc.devRef_injective _ h).symm⟩)
  exact Vout_ne _ _ (hn 4) (hn 5) (hn 6)

set_option backward.isDefEq.respectTransparency.types false in
def reg [∀ e, Nonempty (Elt F e)] : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut (pin (pcfgs (F := F)) adm) (pdats V) none 0 c (b := 0) (D := (K (F := F)).Otc c 0) (fun _ => rfl)
    (fun _ _ => Finset.mem_univ _) (fun _ _ => le_refl 0)
    (fun g i h => ⟨Finset.mem_univ _, lt_of_lt_of_le (by omega) ((K (F := F)).lev_of_Otc_pos h)⟩)
  pre c := iprop(unscopedBufs c (fun b => V c (Proc.devRef .tc b)) ∗ OweT c)
  post c := iprop(unscopedBufs c (fun b => Vout (V c) (Proc.devRef .tc b)) ∗ OweT c)
  X _ := BI.emp
  Y _ := BI.emp
  Z c := Pipeline.unscopedRest (Ix := HIx 1) (Name := ℕ) (U := UU) (Lvl := ℕ) spec0 c (fun b => V c (Proc.devRef .tc b))
  hentry c := by
    rw [Pipeline.ownSems0_none]
    have hsplit := Pipeline.arrays_of_unscopedBufs (p := 0) (pcfgs (F := F)) adm (pdats V) launch0.win launch0.arr_whole c
      ((pdats V 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold OweT Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win
      launch0.arr_whole c (pdats V) ((pdats V 0 c).share_full fun _ => rfl) (fun b => V c (Proc.devRef .tc b))
      (fun b => Vout (V c) (Proc.devRef .tc b)) ((pdats V 0 c).arrAt · cfg0.N) (arr_after V c) (rest_after V c)
    iintro ⟨Ha, HO, -, Hrest⟩
    imodintro
    isplitl [Ha Hrest]
    · iapply hjoin; isplitl [Ha] <;> iassumption
    unfold OweT Pipeline.Dat.owesAt Pipeline.owesWithin
    icases HO with ⟨%W, %hW, HO⟩; iexists W; isplitr; swap; (· iexact HO); ipureintro
    intro p hp
    rcases hW hp with h | ⟨w, s, h⟩
    · exact h
    · rw [h]; exact le_refl 0

end Seg

end Cert.Proof

end
-- ==== Proof.Trip.lean ====
/-
  One trip of a tile's main loop: two chunks, their copies in and out overlapping the work.
-/
module

public import proofs.«01_k».proof.Proof.Fetch

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row

variable {F : FTy → Type} [FloatOps F] [Named F]

local notation "𝕄" => MT nD τ sig (HIx 1) (Elt F) ℕ UU ℕ

/-! ## Where the chunks lie -/

/-- The first row of a tile's chunk `n`. -/
def cr (i : grid1.Coords) (n : ℕ) : ℕ := ((i 1).val * 2 + (i 0).val) * 512 + n * 64

theorem cr_mod (i : grid1.Coords) (n : ℕ) : cr i n % 64 = 0 := by unfold cr; omega

theorem cr_nat (i : grid1.Coords) (v : BitVec 32) (n : ℕ) (hv : v.toNat = n * 64) (hn : n < 1000) :
    (![(Scalar.addi (Scalar.muli (Scalar.addi (Scalar.muli (BitVec.ofNat 32 (i 1).val) 2#32) (BitVec.ofNat 32 (i 0).val)) 512#32) v).toNat, 0] : Fin 2 → ℕ)
      = ![cr i n, 0] := by
  have h1 : (i 1).val < 16 := (i 1).isLt
  have h0 : (i 0).val < 2 := (i 0).isLt
  congr 1
  unfold Scalar.addi Scalar.muli cr
  simp only [IntOp.addi, IntOp.muli, BitVec.toNat_add, BitVec.toNat_mul, BitVec.toNat_ofNat, hv]
  omega

theorem iv_nat (t : Fin k1_t1_loop.trips) : (Scf.iv (0#32 : BitVec 32) 1#32 t.val).toNat = t.val ∧ t.val < 4 := by
  have ht : t.val < 4 := lt_of_lt_of_eq t.isLt t1_eq
  unfold Scf.iv
  simp only [BitVec.toNat_add, BitVec.toNat_mul, BitVec.toNat_ofNat]
  omega

theorem off3_eq (i : grid1.Coords) (t : Fin k1_t1_loop.trips) : k1_off3 i t = ![cr i (2 * t.val + 1), 0] := by
  obtain ⟨h, h4⟩ := iv_nat t
  refine cr_nat i _ _ ?_ (by omega)
  unfold Scalar.addi Scalar.muli
  simp only [IntOp.addi, IntOp.muli, BitVec.toNat_add, BitVec.toNat_mul, BitVec.toNat_ofNat, h]
  omega
theorem off4_eq (i : grid1.Coords) (t : Fin k1_t1_loop.trips) : k1_off4 i t = ![cr i (2 * t.val + 1), 0] := off3_eq i t

theorem off5_eq (i : grid1.Coords) (t : Fin k1_t1_loop.trips) : k1_off5 i t = ![cr i (2 * t.val), 0] := by
  obtain ⟨h, h4⟩ := iv_nat t
  refine cr_nat i _ _ ?_ (by omega)
  unfold Scalar.muli
  simp only [IntOp.muli, BitVec.toNat_mul, BitVec.toNat_ofNat, h]
  omega

theorem off34_eq (i : grid1.Coords) (t : Fin k1_t1_loop.trips) : k1_off34 i t = ![cr i (2 * (t.val + 1)), 0] := by
  obtain ⟨h, h4⟩ := iv_nat t
  refine cr_nat i _ _ ?_ (by omega)
  unfold Scalar.addi Scalar.muli
  simp only [IntOp.addi, IntOp.muli, BitVec.toNat_add, BitVec.toNat_mul, BitVec.toNat_ofNat, h]
  omega
theorem off35_eq (i : grid1.Coords) (t : Fin k1_t1_loop.trips) : k1_off35 i t = ![cr i (2 * (t.val + 1)), 0] := off34_eq i t

theorem off1_eq (i : grid1.Coords) : k1_off1 i 0#32 = ![cr i (2 * 0), 0] := cr_nat i _ _ rfl (by omega)
theorem off2_eq (i : grid1.Coords) : k1_off2 i = ![cr i (2 * 0), 0] := cr_nat i _ _ rfl (by omega)

theorem cond1_iff : ∀ t : Fin k1_t1_loop.trips, k1_cond1 t = 1#1 ↔ 0 < t.val := by decide
theorem cond2_iff : ∀ t : Fin k1_t1_loop.trips, k1_cond2 t = 1#1 ↔ t.val < 3 := by decide
theorem cond3_iff : ∀ t : Fin k1_t1_loop.trips, k1_cond3 t = 1#1 ↔ 0 < t.val := by decide

/-! ## The inner loops -/

section
variable (d : Dev nD) (i : grid1.Coords)
  {B1 : Memref sig .scVector .vmem S64x256 .f32} {B2 : Memref sig .scVector .vmem S64x256 .i32}
  {BQ : Memref sig .scVector .vmem S64x128 .f32} {BO : Memref sig .scVector .vmem S64x256 .f32} {s sq so : DmaSem sig}
  {F1 : S16384x256.Idx → Elt F .f32} {F2 : S16384x256.Idx → Elt F .i32} {FQ : S16384x128.Idx → Elt F .f32}

/-- A loop of sixty-four rows, each row's work given: the chunk's results are ready after it. -/
theorem wp_rows (hR : ∀ x, Rng (F2 x)) (r : ℕ) {L : Scf.Loop 32} (hL : L.trips = 64) (hok : L.OK)
    (body : Fin L.trips → Unit → Prog (TpuEff nD τ sig (Elt F) Λ₀ (.scVector ((i 0).castLE hcore1) ((i 1).castLE hsub1))) Unit)
    (hbody : ∀ (g1 : Buf (Elt F) (B1.view.loc (tV d i))) (g2 : Buf (Elt F) (B2.view.loc (tV d i))) (gq : Buf (Elt F) (BQ.view.loc (tV d i))),
      (∀ y, Rng (B2.view.read (Elt F) g2 y)) → ∀ (t : Fin L.trips) (a : Unit), (Held d i B1 B2 BQ BO g1 g2 gq t.val 0 : sProp 𝕄)
      ⊢ wp frame (wpE (defs₀ (F := F)) 𝒱₀ (tV d i) none) Set.univ (body t a) fun _ => Held d i B1 B2 BQ BO g1 g2 gq (t.val + 1) 0)
    {α : Type} (k : Unit → Prog (TpuEff nD τ sig (Elt F) Λ₀ (.scVector ((i 0).castLE hcore1) ((i 1).castLE hsub1))) α) (Φ : α → sProp 𝕄) :
    iprop(Here d i B1 B2 BQ s sq F1 F2 FQ r ∗ Any d i BO)
    ⊢ iprop((iprop(Idle d i B1 B2 BQ s sq ∗ Ready d i BO F1 F2 FQ r) -∗ wp frame (wpE (defs₀ (F := F)) 𝒱₀ (tV d i) none) Set.univ (k ⟨⟩) Φ)
      -∗ wp frame (wpE (defs₀ (F := F)) 𝒱₀ (tV d i) none) Set.univ (Scf.Loop.for L hok ⟨⟩ body >>= k) Φ) := by
  unfold Here
  iintro ⟨⟨H1, H2, HQ, Hs, Hsq⟩, HO⟩ Hk
  unfold Got Any
  icases H1 with ⟨%g1, %e1, H1⟩
  icases H2 with ⟨%g2, %e2, H2⟩
  icases HQ with ⟨%gq, %eq, HQ⟩
  icases HO with ⟨%go, HO⟩
  have hr2 : ∀ y, Rng (B2.view.read (Elt F) g2 y) := fun y => by rw [e2]; exact hR _
  iapply (Scf.wp_for_bind frame (wpE (defs₀ (F := F)) 𝒱₀ (tV d i) none) Set.univ L.lb L.ub L.st hok ⟨⟩ body
    (fun t _ => Held d i B1 B2 BQ BO g1 g2 gq t 0) (hbody g1 g2 gq hr2)) $$ [H1 H2 HQ HO]
  · iapply (Held_start d i g1 g2 gq go)
    unfold Bufs
    isplitl [H1]; · iexact H1
    isplitl [H2]; · iexact H2
    isplitl [HQ]; · iexact HQ
    iexact HO
  iintro %acc HH
  iapply Hk
  ihave HH := (show Held d i B1 B2 BQ BO g1 g2 gq L.trips 0 ⊢ Held d i B1 B2 BQ BO g1 g2 gq 64 0 from Entails.of_eq (by rw [hL])) $$ HH
  unfold Held Bufs
  icases HH with ⟨%go', %hg, H1, H2, HQ, HO⟩
  isplitr [HO]
  · unfold Idle Any
    isplitl [H1]; · iexists g1; iexact H1
    isplitl [H2]; · iexists g2; iexact H2
    isplitl [HQ]; · iexists gq; iexact HQ
    isplitl [Hs]; · iexact Hs
    iexact Hsq
  · unfold Ready
    iexists go'
    isplitr; swap; · iexact HO
    ipureintro
    intro y hy
    rw [← e1, ← e2, ← eq]
    exact hg y hy (.inl (y 0).isLt)

end

end Cert.Proof

end
-- ==== Proof.MainLoop.lean ====
/-
  A tile's main loop, from trip to trip: what is on its way, and what has been written.
-/
module

public import proofs.«01_k».proof.Proof.Trip

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row

variable {F : FTy → Type} [FloatOps F] [Named F]

local notation "𝕄" => MT nD τ sig (HIx 1) (Elt F) ℕ UU ℕ

/-! ## What the trips leave -/

section
variable (d : Dev nD) (i : grid1.Coords) (BO : Memref sig .scVector .vmem S64x256 .f32) (so : DmaSem sig)
  (F1 : S16384x256.Idx → Elt F .f32) (F2 : S16384x256.Idx → Elt F .i32) (FQ : S16384x128.Idx → Elt F .f32)

/-- The output buffer before trip `g`: idle at first, then the trip before's chunk on its way out. -/
def OutSt (off : ℕ) : ℕ → sProp 𝕄
  | 0 => iprop(Any d i BO ∗ semVal (tV d i, SemLoc.dma so) 0)
  | g + 1 => Sending d i BO so F1 F2 FQ (cr i (2 * g + off))

/-- The chunk written by the trip before `g`, if there is one. -/
def Old (off : ℕ) : ℕ → sProp 𝕄
  | 0 => iprop(emp)
  | g + 1 => Done d F1 F2 FQ (cr i (2 * g + off))

/-- A trip's two chunks, to be written and written. -/
def Todo2 (g : ℕ) : sProp 𝕄 := iprop(Todo (F := F) d (cr i (2 * g)) ∗ Todo (F := F) d (cr i (2 * g + 1)))
def Done2 (g : ℕ) : sProp 𝕄 := iprop(Done d F1 F2 FQ (cr i (2 * g)) ∗ Done d F1 F2 FQ (cr i (2 * g + 1)))

/-- The part of the result that lies neither in a trip's hands nor on its way out, before trip `g`. -/
def Rest : ℕ → sProp 𝕄
  | 0 => iprop(Todo2 (F := F) d i 0 ∗ Todo2 (F := F) d i 1 ∗ Todo2 (F := F) d i 2 ∗ Todo2 (F := F) d i 3)
  | 1 => iprop(Todo2 (F := F) d i 1 ∗ Todo2 (F := F) d i 2 ∗ Todo2 (F := F) d i 3)
  | 2 => iprop(Done2 d i F1 F2 FQ 0 ∗ Todo2 (F := F) d i 2 ∗ Todo2 (F := F) d i 3)
  | 3 => iprop(Done2 d i F1 F2 FQ 0 ∗ Done2 d i F1 F2 FQ 1 ∗ Todo2 (F := F) d i 3)
  | _ => iprop(Done2 d i F1 F2 FQ 0 ∗ Done2 d i F1 F2 FQ 1 ∗ Done2 d i F1 F2 FQ 2)

/-- A trip takes its two chunks out and puts the trip before's two in. -/
theorem Rest_open (g : ℕ) (hg : g < 4) :
    (Rest d i F1 F2 FQ g : sProp 𝕄) ⊢ iprop(Todo (F := F) d (cr i (2 * g)) ∗ Todo (F := F) d (cr i (2 * g + 1))
      ∗ (iprop(Old d i F1 F2 FQ 0 g ∗ Old d i F1 F2 FQ 1 g) -∗ Rest d i F1 F2 FQ (g + 1))) := by
  match g, hg with
  | 0, _ =>
    show iprop(Todo2 (F := F) d i 0 ∗ Todo2 (F := F) d i 1 ∗ Todo2 (F := F) d i 2 ∗ Todo2 (F := F) d i 3) ⊢ _
    iintro ⟨HA, HR⟩
    ihave HA := (show Todo2 (F := F) d i 0 ⊢ iprop(Todo (F := F) d (cr i (2 * 0)) ∗ Todo (F := F) d (cr i (2 * 0 + 1))) from .rfl) $$ HA
    icases HA with ⟨HA, HA'⟩
    isplitl [HA]; · iexact HA
    isplitl [HA']; · iexact HA'
    iintro -
    iapply (show iprop(Todo2 (F := F) d i 1 ∗ Todo2 (F := F) d i 2 ∗ Todo2 (F := F) d i 3) ⊢ Rest d i F1 F2 FQ (0 + 1) from .rfl) $$ HR
  | 1, _ =>
    show iprop(Todo2 (F := F) d i 1 ∗ Todo2 (F := F) d i 2 ∗ Todo2 (F := F) d i 3) ⊢ iprop(_ ∗ _ ∗ (iprop(Done d F1 F2 FQ (cr i (2 * 0)) ∗ Done d F1 F2 FQ (cr i (2 * 0 + 1))) -∗ _))
    iintro ⟨HA, HB, HC⟩
    ihave HA := (show Todo2 (F := F) d i 1 ⊢ iprop(Todo (F := F) d (cr i (2 * 1)) ∗ Todo (F := F) d (cr i (2 * 1 + 1))) from .rfl) $$ HA
    icases HA with ⟨HA, HA'⟩
    isplitl [HA]; · iexact HA
    isplitl [HA']; · iexact HA'
    iintro HD
    ihave HD := (show iprop(Done d F1 F2 FQ (cr i (2 * 0)) ∗ Done d F1 F2 FQ (cr i (2 * 0 + 1))) ⊢ Done2 d i F1 F2 FQ 0 from .rfl) $$ HD
    iapply (show iprop(Done2 d i F1 F2 FQ 0 ∗ Todo2 (F := F) d i 2 ∗ Todo2 (F := F) d i 3) ⊢ Rest d i F1 F2 FQ (1 + 1) from .rfl)
    isplitl [HD]; · iexact HD
    isplitl [HB]; · iexact HB
    iexact HC
  | 2, _ =>
    show iprop(Done2 d i F1 F2 FQ 0 ∗ Todo2 (F := F) d i 2 ∗ Todo2 (F := F) d i 3) ⊢ iprop(_ ∗ _ ∗ (iprop(Done d F1 F2 FQ (cr i (2 * 1)) ∗ Done d F1 F2 FQ (cr i (2 * 1 + 1))) -∗ _))
    iintro ⟨HB, HA, HC⟩
    ihave HA := (show Todo2 (F := F) d i 2 ⊢ iprop(Todo (F := F) d (cr i (2 * 2)) ∗ Todo (F := F) d (cr i (2 * 2 + 1))) from .rfl) $$ HA
    icases HA with ⟨HA, HA'⟩
    isplitl [HA]; · iexact HA
    isplitl [HA']; · iexact HA'
    iintro HD
    ihave HD := (show iprop(Done d F1 F2 FQ (cr i (2 * 1)) ∗ Done d F1 F2 FQ (cr i (2 * 1 + 1))) ⊢ Done2 d i F1 F2 FQ 1 from .rfl) $$ HD
    iapply (show iprop(Done2 d i F1 F2 FQ 0 ∗ Done2 d i F1 F2 FQ 1 ∗ Todo2 (F := F) d i 3) ⊢ Rest d i F1 F2 FQ (2 + 1) from .rfl)
    isplitl [HB]; · iexact HB
    isplitl [HD]; · iexact HD
    iexact HC
  | 3, _ =>
    show iprop(Done2 d i F1 F2 FQ 0 ∗ Done2 d i F1 F2 FQ 1 ∗ Todo2 (F := F) d i 3) ⊢ iprop(_ ∗ _ ∗ (iprop(Done d F1 F2 FQ (cr i (2 * 2)) ∗ Done d F1 F2 FQ (cr i (2 * 2 + 1))) -∗ _))
    iintro ⟨HB, HC, HA⟩
    ihave HA := (show Todo2 (F := F) d i 3 ⊢ iprop(Todo (F := F) d (cr i (2 * 3)) ∗ Todo (F := F) d (cr i (2 * 3 + 1))) from .rfl) $$ HA
    icases HA with ⟨HA, HA'⟩
    isplitl [HA]; · iexact HA
    isplitl [HA']; · iexact HA'
    iintro HD
    ihave HD := (show iprop(Done d F1 F2 FQ (cr i (2 * 2)) ∗ Done d F1 F2 FQ (cr i (2 * 2 + 1))) ⊢ Done2 d i F1 F2 FQ 2 from .rfl) $$ HD
    iapply (show iprop(Done2 d i F1 F2 FQ 0 ∗ Done2 d i F1 F2 FQ 1 ∗ Done2 d i F1 F2 FQ 2) ⊢ Rest d i F1 F2 FQ (3 + 1) from .rfl)
    isplitl [HB]; · iexact HB
    isplitl [HC]; · iexact HC
    iexact HD
  | n + 4, h => exact absurd h (by omega)

variable (B1 : Memref sig .scVector .vmem S64x256 .f32) (B2 : Memref sig .scVector .vmem S64x256 .i32)
  (BQ : Memref sig .scVector .vmem S64x128 .f32) (s sq : DmaSem sig)

/-- The even buffers before trip `g`: its first chunk on its way in, or idle after the last trip. -/
def InSt (g : ℕ) : sProp 𝕄 := if g < 4 then Fetching d i B1 B2 BQ s sq F1 F2 FQ (cr i (2 * g)) else Idle (F := F) d i B1 B2 BQ s sq

/-! ## Guarded steps -/

variable {BO so F1 F2 FQ B1 B2 BQ s sq}

/-- A guarded step before a common rest `K`: either way it leaves the same. -/
theorem wp_guard {c : Prop} [Decidable c] {R S' : sProp 𝕄} {α : Type} (A : c → Prog (TpuEff nD τ sig (Elt F) Λ₀ (.scVector ((i 0).castLE hcore1) ((i 1).castLE hsub1))) α) (K : Prog (TpuEff nD τ sig (Elt F) Λ₀ (.scVector ((i 0).castLE hcore1) ((i 1).castLE hsub1))) α) (Φ : α → sProp 𝕄)
    (hA : ∀ h, R ⊢ iprop((S' -∗ wp frame (wpE (defs₀ (F := F)) 𝒱₀ (tV d i) none) Set.univ K Φ) -∗ wp frame (wpE (defs₀ (F := F)) 𝒱₀ (tV d i) none) Set.univ (A h) Φ)) (hB : ¬ c → R ⊢ S') :
    R ⊢ iprop((S' -∗ wp frame (wpE (defs₀ (F := F)) 𝒱₀ (tV d i) none) Set.univ K Φ) -∗ wp frame (wpE (defs₀ (F := F)) 𝒱₀ (tV d i) none) Set.univ (dite c A fun _ => K) Φ) := by
  by_cases h : c
  · rw [dif_pos h]; exact hA h
  · rw [dif_neg h]
    iintro HR Hk
    iapply Hk
    iapply (hB h) $$ HR

end

/-! ## The trip's waits and copies, guarded -/

section
variable (d : Dev nD) (i : grid1.Coords)
  {BO : Memref sig .scVector .vmem S64x256 .f32} {so : DmaSem sig}
  {F1 : S16384x256.Idx → Elt F .f32} {F2 : S16384x256.Idx → Elt F .i32} {FQ : S16384x128.Idx → Elt F .f32}
  {O : CellTallies nD τ sig (HIx 1)} {W : Waits sig (HIx 1)}

/-- The wait for the trip before's copy out, skipped in the first trip. -/
theorem wp_oldWait (off g : ℕ) {c : Prop} [Decidable c] (hc : c ↔ 0 < g) {α : Type} (A : c → Prog (TpuEff nD τ sig (Elt F) Λ₀ (.scVector ((i 0).castLE hcore1) ((i 1).castLE hsub1))) α) (K : Prog (TpuEff nD τ sig (Elt F) Λ₀ (.scVector ((i 0).castLE hcore1) ((i 1).castLE hsub1))) α) (Φ : α → sProp 𝕄)
    (hA : ∀ h r, iprop(Sending d i BO so F1 F2 FQ r ∗ Owe d i O W ∗ Transfers.MayWaits (tV d i) (none : HIx 1) O)
      ⊢ iprop((iprop(Done d F1 F2 FQ r ∗ Any d i BO ∗ semVal (tV d i, SemLoc.dma so) 0 ∗ Owe d i O W) -∗ wp frame (wpE (defs₀ (F := F)) 𝒱₀ (tV d i) none) Set.univ K Φ) -∗ wp frame (wpE (defs₀ (F := F)) 𝒱₀ (tV d i) none) Set.univ (A h) Φ)) :
    iprop(OutSt d i BO so F1 F2 FQ off g ∗ Owe d i O W ∗ Transfers.MayWaits (tV d i) (none : HIx 1) O)
    ⊢ iprop((iprop(Old d i F1 F2 FQ off g ∗ Any d i BO ∗ semVal (tV d i, SemLoc.dma so) 0 ∗ Owe d i O W) -∗ wp frame (wpE (defs₀ (F := F)) 𝒱₀ (tV d i) none) Set.univ K Φ)
      -∗ wp frame (wpE (defs₀ (F := F)) 𝒱₀ (tV d i) none) Set.univ (dite c A fun _ => K) Φ) := by
  refine wp_guard d i A K Φ (fun h => ?_) (fun h => ?_)
  · obtain ⟨g', rfl⟩ : ∃ g', g = g' + 1 := ⟨g - 1, by have := hc.mp h; omega⟩
    exact hA h (cr i (2 * g' + off))
  · obtain rfl : g = 0 := by by_contra h0; exact h (hc.mpr (by omega))
    show iprop(iprop(Any d i BO ∗ semVal (tV d i, SemLoc.dma so) 0) ∗ _) ⊢ iprop(emp ∗ _)
    iintro ⟨⟨HA, Hs⟩, HW, -⟩
    isplitr; · iempintro
    isplitl [HA]; · iexact HA
    isplitl [Hs]; · iexact Hs
    iexact HW

variable {B1 : Memref sig .scVector .vmem S64x256 .f32} {B2 : Memref sig .scVector .vmem S64x256 .i32}
  {BQ : Memref sig .scVector .vmem S64x128 .f32} {s sq : DmaSem sig}

/-- The next even chunk's copies in, skipped in the last trip. -/
theorem wp_next (g : ℕ) {c : Prop} [Decidable c] (hc : c ↔ g < 3) {α : Type} (A : c → Prog (TpuEff nD τ sig (Elt F) Λ₀ (.scVector ((i 0).castLE hcore1) ((i 1).castLE hsub1))) α) (K : Prog (TpuEff nD τ sig (Elt F) Λ₀ (.scVector ((i 0).castLE hcore1) ((i 1).castLE hsub1))) α) (Φ : α → sProp 𝕄)
    (hA : ∀ h, iprop(Idle d i B1 B2 BQ s sq ∗ RDs d F1 F2 FQ)
      ⊢ iprop((Fetching d i B1 B2 BQ s sq F1 F2 FQ (cr i (2 * (g + 1))) -∗ wp frame (wpE (defs₀ (F := F)) 𝒱₀ (tV d i) none) Set.univ K Φ) -∗ wp frame (wpE (defs₀ (F := F)) 𝒱₀ (tV d i) none) Set.univ (A h) Φ)) :
    iprop(Idle d i B1 B2 BQ s sq ∗ RDs d F1 F2 FQ)
    ⊢ iprop((InSt d i F1 F2 FQ B1 B2 BQ s sq (g + 1) -∗ wp frame (wpE (defs₀ (F := F)) 𝒱₀ (tV d i) none) Set.univ K Φ) -∗ wp frame (wpE (defs₀ (F := F)) 𝒱₀ (tV d i) none) Set.univ (dite c A fun _ => K) Φ) := by
  refine wp_guard d i A K Φ (fun h => ?_) (fun h => ?_)
  · have hg : g + 1 < 4 := by have := hc.mp h; omega
    unfold InSt
    rw [if_pos hg]
    exact hA h
  · have hg : ¬ g + 1 < 4 := by intro h'; exact h (hc.mpr (by omega))
    unfold InSt
    rw [if_neg hg]
    iintro ⟨H, -⟩
    iexact H

end

end Cert.Proof

end
-- ==== Proof.TileTrip.lean ====
/-
  One trip of a tile's main loop: two chunks, their copies in and out overlapping the work.
-/
module

public import proofs.«01_k».proof.Proof.MainLoop

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Proof.Row

variable {F : FTy → Type} [FloatOps F] [Named F]

local notation "𝕄" => MT nD τ sig (HIx 1) (Elt F) ℕ UU ℕ

section
variable (d : Dev nD) (i : grid1.Coords)
  (hw1 : hA1.IsWhole) (hw2 : hA2.IsWhole) (hw3 : hQ.IsWhole) (hw4 : hO.IsWhole)
  (arg6 : Memref sig .scVector .vmem S64x256 .f32) (harg6 : arg6.IsWhole) (arg7 : Memref sig .scVector .vmem S64x256 .i32) (harg7 : arg7.IsWhole)
  (arg8 : Memref sig .scVector .vmem S64x128 .f32) (harg8 : arg8.IsWhole) (arg9 : Memref sig .scVector .vmem S64x256 .f32) (harg9 : arg9.IsWhole)
  (arg10 : Memref sig .scVector .vmem S64x256 .f32) (harg10 : arg10.IsWhole) (arg11 : Memref sig .scVector .vmem S64x256 .i32) (harg11 : arg11.IsWhole)
  (arg12 : Memref sig .scVector .vmem S64x128 .f32) (harg12 : arg12.IsWhole) (arg13 : Memref sig .scVector .vmem S64x256 .f32) (harg13 : arg13.IsWhole)
  (arg14 arg15 arg16 arg17 arg18 arg19 : DmaSems sig S_)
  {F1 : S16384x256.Idx → Elt F .f32} {F2 : S16384x256.Idx → Elt F .i32} {FQ : S16384x128.Idx → Elt F .f32}
  {O : CellTallies nD τ sig (HIx 1)} {W : Waits sig (HIx 1)}

variable (F1 F2 FQ O W) in
/-- Before trip `g`: the first chunk's copies on their way in, the odd buffers idle, the trip before's two chunks on their way out. -/
def Inv (g : ℕ) : sProp 𝕄 :=
  iprop(Owe d i O W ∗ RDs d F1 F2 FQ ∗ InSt d i F1 F2 FQ arg6 arg7 arg8 arg14.sem arg16.sem g ∗ Idle (F := F) d i arg10 arg11 arg12 arg15.sem arg17.sem
    ∗ OutSt d i arg9 arg18.sem F1 F2 FQ 0 g ∗ OutSt d i arg13 arg19.sem F1 F2 FQ 1 g ∗ Rest d i F1 F2 FQ g)

/-- An even chunk's rows. -/
theorem wp_rowsE (hR : ∀ x, Rng (F2 x)) (r : ℕ) (v2 : BitVec 32) {s sq : DmaSem sig}
    {α : Type} (k : Unit → Prog (TpuEff nD τ sig (Elt F) Λ₀ (.scVector ((i 0).castLE hcore1) ((i 1).castLE hsub1))) α) (Φ : α → sProp 𝕄) (c0 c1 : BitVec 32) (t : Fin k1_t1_loop.trips) :
    iprop(Here d i arg6 arg7 arg8 s sq F1 F2 FQ r ∗ Any d i arg9)
    ⊢ iprop((iprop(Idle d i arg6 arg7 arg8 s sq ∗ Ready d i arg9 F1 F2 FQ r) -∗ wp frame (wpE (defs₀ (F := F)) 𝒱₀ (tV d i) none) Set.univ (k ⟨⟩) Φ)
      -∗ wp frame (wpE (defs₀ (F := F)) 𝒱₀ (tV d i) none) Set.univ
        (Scf.Loop.for k1_t2_loop k1_t2_ok ⟨⟩ (k1_t2_body i hA1 hw1 hA2 hw2 hQ hw3 hO hw4 arg6 harg6 arg7 harg7 arg8 harg8 arg9 harg9 arg10 harg10 arg11 harg11 arg12 harg12 arg13 harg13 arg14 arg15 arg16 arg17 arg18 arg19 v2 c0 c1 t) >>= k) Φ) := by
  refine wp_rows d i hR r t2_eq k1_t2_ok _ (fun g1 g2 gq hr t' a => ?_) k Φ
  unfold k1_t2_body
  rw [wp_bind, part8_eq]
  refine (wp_rowE d i hr t').trans (wp_mono frame _ _ fun _ => ?_)
  rw [Prog.pure_eq_ret, wp_ret]
  iintro H
  imodintro
  iexact H

/-- An odd chunk's rows. -/
theorem wp_rowsO (hR : ∀ x, Rng (F2 x)) (r : ℕ) {s sq : DmaSem sig}
    {α : Type} (k : Unit → Prog (TpuEff nD τ sig (Elt F) Λ₀ (.scVector ((i 0).castLE hcore1) ((i 1).castLE hsub1))) α) (Φ : α → sProp 𝕄) :
    iprop(Here d i arg10 arg11 arg12 s sq F1 F2 FQ r ∗ Any d i arg13)
    ⊢ iprop((iprop(Idle d i arg10 arg11 arg12 s sq ∗ Ready d i arg13 F1 F2 FQ r) -∗ wp frame (wpE (defs₀ (F := F)) 𝒱₀ (tV d i) none) Set.univ (k ⟨⟩) Φ)
      -∗ wp frame (wpE (defs₀ (F := F)) 𝒱₀ (tV d i) none) Set.univ
        (Scf.Loop.for k1_t3_loop k1_t3_ok ⟨⟩ (k1_t3_body i hA1 hw1 hA2 hw2 hQ hw3 hO hw4 arg6 harg6 arg7 harg7 arg8 harg8 arg9 harg9 arg10 harg10 arg11 harg11 arg12 harg12 arg13 harg13 arg14 arg15 arg16 arg17 arg18 arg19) >>= k) Φ) := by
  refine wp_rows d i hR r t3_eq k1_t3_ok _ (fun g1 g2 gq hr t' a => ?_) k Φ
  unfold k1_t3_body
  rw [wp_bind, part16_eq]
  refine (wp_rowO d i hr t').trans (wp_mono frame _ _ fun _ => ?_)
  rw [Prog.pure_eq_ret, wp_ret]
  iintro H
  imodintro
  iexact H

/-- The trip's first half: the odd chunk's copies started, the even chunk waited for and its rows done. -/
theorem wp_half (hR : ∀ x, Rng (F2 x)) (hNE : arg7.view.dmaCredit = arg6.view.dmaCredit) (hNO : arg11.view.dmaCredit = arg10.view.dmaCredit)
    (v2 : BitVec 32) (t : Fin k1_t1_loop.trips) :
    iprop(Owe d i O W ∗ RDs d F1 F2 FQ ∗ Fetching d i arg6 arg7 arg8 arg14.sem arg16.sem F1 F2 FQ (cr i (2 * t.val)) ∗ Idle (F := F) d i arg10 arg11 arg12 arg15.sem arg17.sem
      ∗ OutSt d i arg9 arg18.sem F1 F2 FQ 0 t.val ∗ Transfers.MayWaits (tV d i) (none : HIx 1) O)
    ⊢ wp frame (wpE (defs₀ (F := F)) 𝒱₀ (tV d i) none) Set.univ
      (k1_part17 i hA1 hw1 hA2 hw2 hQ hw3 hO hw4 arg6 harg6 arg7 harg7 arg8 harg8 arg9 harg9 arg10 harg10 arg11 harg11 arg12 harg12 arg13 harg13 arg14 arg15 arg16 arg17 arg18 arg19 v2 0#32 1#32 t)
      fun _ => iprop(Owe d i O W ∗ Fetching d i arg10 arg11 arg12 arg15.sem arg17.sem F1 F2 FQ (cr i (2 * t.val + 1)) ∗ Idle d i arg6 arg7 arg8 arg14.sem arg16.sem
        ∗ Ready d i arg9 F1 F2 FQ (cr i (2 * t.val)) ∗ semVal (tV d i, SemLoc.dma arg18.sem) 0 ∗ Old d i F1 F2 FQ 0 t.val) := by
  rw [k1_part17_eq_skeleton]
  unfold k1_part17_skel
  simp only [Prog.lift, Prog.bind_op, Prog.bind_ret, Prog.pure_eq_ret]
  iintro ⟨HW, HRD, HE, HOd, HSE, #Hmw⟩
  iapply (wp_fetch d i hNO (cr i (2 * t.val + 1)) (off3_eq i t) (off4_eq i t)) $$ [HOd HRD]
  · isplitl [HOd]; · iexact HOd
    iexact HRD
  iintro HOd
  iapply (wp_await d i hNE (cr i (2 * t.val))) $$ [HE HW]
  · isplitl [HE]; · iexact HE
    isplitl [HW]; · iexact HW
    iexact Hmw
  iintro ⟨HE, HW⟩
  iapply (wp_oldWait d i 0 t.val (cond1_iff t) _ _ _ (fun h r => wp_sent d i r (fun _ => _) _)) $$ [HSE HW]
  · isplitl [HSE]; · iexact HSE
    isplitl [HW]; · iexact HW
    iexact Hmw
  iintro ⟨HoE, HaE, HsE, HW⟩
  iapply (wp_rowsE d i hw1 hw2 hw3 hw4 arg6 harg6 arg7 harg7 arg8 harg8 arg9 harg9 arg10 harg10 arg11 harg11 arg12 harg12 arg13 harg13 arg14 arg15 arg16 arg17 arg18 arg19 hR (cr i (2 * t.val)) v2) $$ [HE HaE]
  · isplitl [HE]; · iexact HE
    iexact HaE
  iintro ⟨HE, HrE⟩
  rw [wp_ret]
  imodintro
  isplitl [HW]; · iexact HW
  isplitl [HOd]; · iexact HOd
  isplitl [HE]; · iexact HE
  isplitl [HrE]; · iexact HrE
  isplitl [HsE]; · iexact HsE
  iexact HoE

/-- A whole trip. -/
theorem wp_trip (hR : ∀ x, Rng (F2 x)) (hNE : arg7.view.dmaCredit = arg6.view.dmaCredit) (hNO : arg11.view.dmaCredit = arg10.view.dmaCredit)
    (hBE : arg9.view.set = Finset.univ) (hBO : arg13.view.set = Finset.univ) (v2 : BitVec 32) (t : Fin k1_t1_loop.trips) (a : BitVec 32) :
    iprop(Inv d i arg6 arg7 arg8 arg9 arg10 arg11 arg12 arg13 arg14 arg15 arg16 arg17 arg18 arg19 F1 F2 FQ O W t.val ∗ Transfers.MayWaits (tV d i) (none : HIx 1) O)
    ⊢ wp frame (wpE (defs₀ (F := F)) 𝒱₀ (tV d i) none) Set.univ
      (k1_t1_body i hA1 hw1 hA2 hw2 hQ hw3 hO hw4 arg6 harg6 arg7 harg7 arg8 harg8 arg9 harg9 arg10 harg10 arg11 harg11 arg12 harg12 arg13 harg13 arg14 arg15 arg16 arg17 arg18 arg19 v2 t a)
      fun _ => iprop(Inv d i arg6 arg7 arg8 arg9 arg10 arg11 arg12 arg13 arg14 arg15 arg16 arg17 arg18 arg19 F1 F2 FQ O W (t.val + 1) ∗ Transfers.MayWaits (tV d i) (none : HIx 1) O) := by
  have ht : t.val < 4 := (iv_nat t).2
  unfold k1_t1_body
  rw [wp_bind]
  unfold Inv
  iintro ⟨⟨HW, HRD, HE, HOd, HSE, HSO, HRest⟩, #Hmw⟩
  ihave HE := (show InSt d i F1 F2 FQ arg6 arg7 arg8 arg14.sem arg16.sem t.val ⊢ Fetching d i arg6 arg7 arg8 arg14.sem arg16.sem F1 F2 FQ (cr i (2 * t.val)) from
    Entails.of_eq (by unfold InSt; rw [if_pos ht])) $$ HE
  ihave HRD := (RDs_dup d) $$ HRD
  icases HRD with ⟨HRD, HRD'⟩
  ihave HRest := (Rest_open d i F1 F2 FQ t.val ht) $$ HRest
  icases HRest with ⟨HtE, HtO, HRest⟩
  iapply (wp_wand frame _ _) $$ [HW HRD HE HOd HSE]
  · iapply (wp_half d i hw1 hw2 hw3 hw4 arg6 harg6 arg7 harg7 arg8 harg8 arg9 harg9 arg10 harg10 arg11 harg11 arg12 harg12 arg13 harg13 arg14 arg15 arg16 arg17 arg18 arg19 hR hNE hNO v2 t)
    isplitl [HW]; · iexact HW
    isplitl [HRD]; · iexact HRD
    isplitl [HE]; · iexact HE
    isplitl [HOd]; · iexact HOd
    isplitl [HSE]; · iexact HSE
    iexact Hmw
  iintro %p ⟨HW, HOd, HE, HrE, HsE, HoE⟩
  obtain ⟨p1, p2⟩ := p
  simp only [Prog.lift, Prog.bind_op, Prog.bind_ret, Prog.pure_eq_ret]
  iapply (wp_send d i hBE (cr i (2 * t.val)) (cr_mod i _) (off5_eq i t)) $$ [HrE HtE HsE]
  · isplitl [HrE]; · iexact HrE
    isplitl [HtE]; · iexact HtE
    iexact HsE
  iintro HSE
  ihave HRD := (RDs_dup d) $$ HRD'
  icases HRD with ⟨HRD, HRD'⟩
  iapply (wp_next d i t.val (cond2_iff t) _ _ _ (fun h => wp_fetch d i hNE _ (off34_eq i t) (off35_eq i t) (fun _ => _) _)) $$ [HE HRD']
  · isplitl [HE]; · iexact HE
    iexact HRD'
  iintro HE
  iapply (wp_await d i hNO (cr i (2 * t.val + 1))) $$ [HOd HW]
  · isplitl [HOd]; · iexact HOd
    isplitl [HW]; · iexact HW
    iexact Hmw
  iintro ⟨HOd, HW⟩
  iapply (wp_oldWait d i 1 t.val (cond3_iff t) _ _ _ (fun h r => wp_sent d i r (fun _ => _) _)) $$ [HSO HW]
  · isplitl [HSO]; · iexact HSO
    isplitl [HW]; · iexact HW
    iexact Hmw
  iintro ⟨HoO, HaO, HsO, HW⟩
  iapply (wp_rowsO d i hw1 hw2 hw3 hw4 arg6 harg6 arg7 harg7 arg8 harg8 arg9 harg9 arg10 harg10 arg11 harg11 arg12 harg12 arg13 harg13 arg14 arg15 arg16 arg17 arg18 arg19 hR (cr i (2 * t.val + 1))) $$ [HOd HaO]
  · isplitl [HOd]; · iexact HOd
    iexact HaO
  iintro ⟨HOd, HrO⟩
  iapply (wp_send d i hBO (cr i (2 * t.val + 1)) (cr_mod i _) (off3_eq i t)) $$ [HrO HtO HsO]
  · isplitl [HrO]; · iexact HrO
    isplitl [HtO]; · iexact HtO
    iexact HsO
  iintro HSO
  ihave HSE := (show Sending d i arg9 arg18.sem F1 F2 FQ (cr i (2 * t.val)) ⊢ OutSt d i arg9 arg18.sem F1 F2 FQ 0 (t.val + 1) from .rfl) $$ HSE
  ihave HSO := (show Sending d i arg13 arg19.sem F1 F2 FQ (cr i (2 * t.val + 1)) ⊢ OutSt d i arg13 arg19.sem F1 F2 FQ 1 (t.val + 1) from .rfl) $$ HSO
  rw [wp_ret]
  imodintro
  isplitl [HW HRD HE HOd HSE HSO HRest HoE HoO]; swap; · iexact Hmw
  isplitl [HW]; · iexact HW
  isplitl [HRD]; · iexact HRD
  isplitl [HE]; · iexact HE
  isplitl [HOd]; · iexact HOd
  isplitl [HSE]; · iexact HSE
  isplitl [HSO]; · iexact HSO
  iapply HRest
  isplitl [HoE]; · iexact HoE
  iexact HoO

end

end Cert.Proof

end
-- ==== Proof.TileBody.lean ====
/-
  A tile's whole task: the first chunk's copies, the four trips, the last two copies out; and the task over the scratch the
  launch deals the tile.
-/
module

public import proofs.«01_k».proof.Proof.TileTrip

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

section
variable (d : Dev nD) (i : grid1.Coords)
  (hw1 : hA1.IsWhole) (hw2 : hA2.IsWhole) (hw3 : hQ.IsWhole) (hw4 : hO.IsWhole)
  (arg6 : Memref sig .scVector .vmem S64x256 .f32) (harg6 : arg6.IsWhole) (arg7 : Memref sig .scVector .vmem S64x256 .i32) (harg7 : arg7.IsWhole)
  (arg8 : Memref sig .scVector .vmem S64x128 .f32) (harg8 : arg8.IsWhole) (arg9 : Memref sig .scVector .vmem S64x256 .f32) (harg9 : arg9.IsWhole)
  (arg10 : Memref sig .scVector .vmem S64x256 .f32) (harg10 : arg10.IsWhole) (arg11 : Memref sig .scVector .vmem S64x256 .i32) (harg11 : arg11.IsWhole)
  (arg12 : Memref sig .scVector .vmem S64x128 .f32) (harg12 : arg12.IsWhole) (arg13 : Memref sig .scVector .vmem S64x256 .f32) (harg13 : arg13.IsWhole)
  (arg14 arg15 arg16 arg17 arg18 arg19 : DmaSems sig S_)
  {F1 : S16384x256.Idx → Elt F .f32} {F2 : S16384x256.Idx → Elt F .i32} {FQ : S16384x128.Idx → Elt F .f32}
  {O : CellTallies nD τ sig (HIx 1)} {W : Waits sig (HIx 1)}

/-- The scratch, idle: the two sets of input buffers, the two output buffers, their semaphores at zero. -/
def Scratch : sProp 𝕄 :=
  iprop(Idle (F := F) d i arg6 arg7 arg8 arg14.sem arg16.sem ∗ Idle (F := F) d i arg10 arg11 arg12 arg15.sem arg17.sem
    ∗ (Any d i arg9 ∗ semVal (tV d i, SemLoc.dma arg18.sem) 0) ∗ Any d i arg13 ∗ semVal (tV d i, SemLoc.dma arg19.sem) 0)

/-- A tile's rows of the result, to be written and written. -/
def TodoAll : sProp 𝕄 := iprop(Todo2 (F := F) d i 0 ∗ Todo2 (F := F) d i 1 ∗ Todo2 (F := F) d i 2 ∗ Todo2 (F := F) d i 3)
variable (F1 F2 FQ) in
def DoneAll : sProp 𝕄 := iprop(Done2 d i F1 F2 FQ 0 ∗ Done2 d i F1 F2 FQ 1 ∗ Done2 d i F1 F2 FQ 2 ∗ Done2 d i F1 F2 FQ 3)

set_option maxHeartbeats 1000000 in
theorem wp_kernel (hR : ∀ x, Rng (F2 x)) (hNE : arg7.view.dmaCredit = arg6.view.dmaCredit) (hNO : arg11.view.dmaCredit = arg10.view.dmaCredit)
    (hBE : arg9.view.set = Finset.univ) (hBO : arg13.view.set = Finset.univ) :
    iprop(RDs d F1 F2 FQ ∗ TodoAll (F := F) d i ∗ Scratch (F := F) d i arg6 arg7 arg8 arg9 arg10 arg11 arg12 arg13 arg14 arg15 arg16 arg17 arg18 arg19 ∗ Owe d i O W
      ∗ Transfers.MayWaits (tV d i) (none : HIx 1) O)
    ⊢ wp frame (wpE (defs₀ (F := F)) 𝒱₀ (tV d i) none) Set.univ
      (cc1__sc_kernel i hA1 hw1 hA2 hw2 hQ hw3 hO hw4 arg6 harg6 arg7 harg7 arg8 harg8 arg9 harg9 arg10 harg10 arg11 harg11 arg12 harg12 arg13 harg13 arg14 arg15 arg16 arg17 arg18 arg19)
      fun _ => iprop(DoneAll d i F1 F2 FQ ∗ Scratch (F := F) d i arg6 arg7 arg8 arg9 arg10 arg11 arg12 arg13 arg14 arg15 arg16 arg17 arg18 arg19 ∗ Owe d i O W) := by
  rw [cc1__sc_kernel_eq_skeleton]
  unfold cc1__sc_kernel_skel
  simp only [Prog.lift, Prog.bind_op, Prog.bind_ret, Prog.pure_eq_ret]
  iintro ⟨HRD, HT, HS, HW, #Hmw⟩
  ihave HS := (show Scratch (F := F) d i arg6 arg7 arg8 arg9 arg10 arg11 arg12 arg13 arg14 arg15 arg16 arg17 arg18 arg19 ⊢
    iprop(Idle (F := F) d i arg6 arg7 arg8 arg14.sem arg16.sem ∗ Idle (F := F) d i arg10 arg11 arg12 arg15.sem arg17.sem
    ∗ OutSt d i arg9 arg18.sem F1 F2 FQ 0 0 ∗ OutSt d i arg13 arg19.sem F1 F2 FQ 1 0) from .rfl) $$ HS
  icases HS with ⟨HE, HOd, HSE, HSO⟩
  ihave HRD := (RDs_dup d) $$ HRD
  icases HRD with ⟨HRD, HRD'⟩
  iapply (wp_fetch d i hNE (cr i (2 * 0)) (off1_eq i) (off2_eq i)) $$ [HE HRD']
  · isplitl [HE]; · iexact HE
    iexact HRD'
  iintro HE
  iapply (Scf.wp_for_bind frame (wpE (defs₀ (F := F)) 𝒱₀ (tV d i) none) Set.univ k1_t1_loop.lb k1_t1_loop.ub k1_t1_loop.st k1_t1_ok _ _
    (fun g _ => iprop(Inv d i arg6 arg7 arg8 arg9 arg10 arg11 arg12 arg13 arg14 arg15 arg16 arg17 arg18 arg19 F1 F2 FQ O W g ∗ Transfers.MayWaits (tV d i) (none : HIx 1) O))
    (fun t a => wp_trip d i hw1 hw2 hw3 hw4 arg6 harg6 arg7 harg7 arg8 harg8 arg9 harg9 arg10 harg10 arg11 harg11 arg12 harg12 arg13 harg13 arg14 arg15 arg16 arg17 arg18 arg19 hR hNE hNO hBE hBO _ t a))
    $$ [HW HRD HE HOd HSE HSO HT]
  · isplitl [HW HRD HE HOd HSE HSO HT]; swap; · iexact Hmw
    unfold Inv
    isplitl [HW]; · iexact HW
    isplitl [HRD]; · iexact HRD
    isplitl [HE]
    · iapply (show Fetching d i arg6 arg7 arg8 arg14.sem arg16.sem F1 F2 FQ (cr i (2 * 0)) ⊢ InSt d i F1 F2 FQ arg6 arg7 arg8 arg14.sem arg16.sem 0 from
        Entails.of_eq (by unfold InSt; rw [if_pos (by decide)])) $$ HE
    isplitl [HOd]; · iexact HOd
    isplitl [HSE]; · iexact HSE
    isplitl [HSO]; · iexact HSO
    iapply (show TodoAll (F := F) d i ⊢ Rest d i F1 F2 FQ 0 from .rfl) $$ HT
  iintro %acc ⟨HI, -⟩
  ihave HI := (show Inv d i arg6 arg7 arg8 arg9 arg10 arg11 arg12 arg13 arg14 arg15 arg16 arg17 arg18 arg19 F1 F2 FQ O W (Scf.trips k1_t1_loop.lb k1_t1_loop.ub k1_t1_loop.st)
    ⊢ iprop(Owe d i O W ∗ RDs d F1 F2 FQ ∗ Idle (F := F) d i arg6 arg7 arg8 arg14.sem arg16.sem ∗ Idle (F := F) d i arg10 arg11 arg12 arg15.sem arg17.sem
    ∗ Sending d i arg9 arg18.sem F1 F2 FQ (cr i (2 * 3)) ∗ Sending d i arg13 arg19.sem F1 F2 FQ (cr i (2 * 3 + 1))
    ∗ Done2 d i F1 F2 FQ 0 ∗ Done2 d i F1 F2 FQ 1 ∗ Done2 d i F1 F2 FQ 2) from
    Entails.of_eq (by rw [show Scf.trips k1_t1_loop.lb k1_t1_loop.ub k1_t1_loop.st = 4 from t1_eq]; rfl)) $$ HI
  icases HI with ⟨HW, -, HE, HOd, HSE, HSO, HD0, HD1, HD2⟩
  iapply (wp_sent d i (cr i (2 * 3))) $$ [HSE HW]
  · isplitl [HSE]; · iexact HSE
    isplitl [HW]; · iexact HW
    iexact Hmw
  iintro ⟨HDE, HaE, HsE, HW⟩
  iapply (wp_sent d i (cr i (2 * 3 + 1))) $$ [HSO HW]
  · isplitl [HSO]; · iexact HSO
    isplitl [HW]; · iexact HW
    iexact Hmw
  iintro ⟨HDO, HaO, HsO, HW⟩
  rw [wp_ret]
  imodintro
  isplitl [HD0 HD1 HD2 HDE HDO]
  · unfold DoneAll
    isplitl [HD0]; · iexact HD0
    isplitl [HD1]; · iexact HD1
    isplitl [HD2]; · iexact HD2
    unfold Done2
    isplitl [HDE]; · iexact HDE
    iexact HDO
  isplitr [HW]; swap; · iexact HW
  unfold Scratch
  isplitl [HE]; · iexact HE
  isplitl [HOd]; · iexact HOd
  isplitl [HaE HsE]
  · isplitl [HaE]; · iexact HaE
    iexact HsE
  isplitl [HaO]; · iexact HaO
  iexact HsO

end

/-! ## The scratch among what the launch deals the tile -/

theorem bigSep_pick {M : Type} [URA M] {ι κ : Type} [DecidableEq ι] [DecidableEq κ] [Fintype κ] (g : κ → ι) (hg : Function.Injective g) (s : Finset ι) (hs : ∀ k, g k ∈ s) (Φ : ι → sProp M) :
    bigSep s Φ ⊢ iprop((bigSep Finset.univ fun k => Φ (g k)) ∗ ((bigSep Finset.univ fun k => Φ (g k)) -∗ bigSep s Φ)) := by
  have e : bigSep s Φ = iprop((bigSep Finset.univ fun k => Φ (g k)) ∗ bigSep (s \ Finset.univ.image g) Φ) := by
    rw [← SparseCore.bigSep_image_of_injOn hg.injOn Φ, ← SparseCore.bigSep_union' Finset.disjoint_sdiff,
      Finset.union_sdiff_of_subset (fun x hx => by obtain ⟨k, -, rfl⟩ := Finset.mem_image.mp hx; exact hs k)]
  rw [e]
  iintro ⟨HA, HB⟩
  isplitl [HA]; · iexact HA
  iintro HA
  isplitl [HA]; · iexact HA
  iexact HB

section
variable (d : Dev nD) (i : grid1.Coords)

/-- The eight scratch buffers. -/
def bufOf : Fin 8 → Ref sig .scVector := ![cc1_scratch0, cc1_scratch1, cc1_scratch2, cc1_scratch3, cc1_scratch4, cc1_scratch5, cc1_scratch6, cc1_scratch7]
/-- The six semaphores. -/
def semOf : Fin 6 → SemLoc sig := ![.dma cc1_scratch8.sem, .dma cc1_scratch9.sem, .dma cc1_scratch10.sem, .dma cc1_scratch11.sem, .dma cc1_scratch12.sem, .dma cc1_scratch13.sem]

theorem bufOf_inj : Function.Injective bufOf := by decide
theorem semOf_inj : Function.Injective semOf := by decide
theorem semOf_scoped : ∀ k, (semOf k).isScoped .scVector = true := by decide

/-- The scratch, as the kernel's call names it. -/
abbrev TileScratch : sProp 𝕄 :=
  Scratch (F := F) d i (Memref.whole cc1_scratch0) (Memref.whole cc1_scratch1) (Memref.whole cc1_scratch2) (Memref.whole cc1_scratch3)
    (Memref.whole cc1_scratch4) (Memref.whole cc1_scratch5) (Memref.whole cc1_scratch6) (Memref.whole cc1_scratch7)
    cc1_scratch8 cc1_scratch9 cc1_scratch10 cc1_scratch11 cc1_scratch12 cc1_scratch13

theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem bufs_pick : (ownBufs (tV d i) : sProp 𝕄) ⊢ iprop((bigSep Finset.univ fun k : Fin 8 => iprop(∃ f, (V d ((i 0).castLE hcore1) ((i 1).castLE hsub1)).loc (bufOf k) ↦{fullShare} f))
    ∗ ((bigSep Finset.univ fun k : Fin 8 => iprop(∃ f, (V d ((i 0).castLE hcore1) ((i 1).castLE hsub1)).loc (bufOf k) ↦{fullShare} f)) -∗ ownBufs (tV d i))) :=
  bigSep_pick (fun k : Fin 8 => (tV d i).2.devRef (bufOf k)) (fun a b e => bufOf_inj (Proc.devRef_injective _ e)) (ownRefs (tV d i).2)
    (fun k => SparseCore.Cfg.mem_ownRefs_of_owner (by fin_cases k <;> rfl)) (fun b => iprop(∃ f, ((d, b) : Loc nD τ sig) ↦{fullShare} f))

theorem sems_pick : (ownSems0 (tV d i) : sProp 𝕄) ⊢ iprop((bigSep Finset.univ fun k : Fin 6 => semVal (tV d i, semOf k) 0)
    ∗ ((bigSep Finset.univ fun k : Fin 6 => semVal (tV d i, semOf k) 0) -∗ ownSems0 (tV d i))) :=
  bigSep_pick (fun k : Fin 6 => ((tV d i, semOf k) : GSem nD τ sig)) (fun a b e => semOf_inj (Prod.mk.inj e).2) (ownCells (tV d i))
    (fun k => mem_ownCells.mpr ⟨rfl, semOf_scoped k⟩) (fun g => semVal g 0)

theorem scratch_take : (iprop(scopedBufs (tV d i) ∗ scopedSems0 (tV d i)) : sProp 𝕄)
    ⊢ iprop(TileScratch (F := F) d i ∗ (TileScratch (F := F) d i -∗ iprop(scopedBufs (tV d i) ∗ scopedSems0 (tV d i)))) := by
  rw [show (scopedBufs (tV d i) : sProp 𝕄) = ownBufs (tV d i) from (K (F := F)).scopedBufs_V facts d _ _,
    show (scopedSems0 (tV d i) : sProp 𝕄) = ownSems0 (tV d i) from SparseCore.Cfg.scopedSems0_V (Val := Elt F) d _ _]
  have hb := bufs_pick (F := F) d i
  rw [bigSep8] at hb
  have hs := sems_pick (F := F) d i
  rw [bigSep6] at hs
  simp only [bufOf, semOf, Matrix.cons_val] at hb hs
  iintro ⟨HB, HS⟩
  ihave HB := hb $$ HB
  icases HB with ⟨HB, HBk⟩
  ihave HS := hs $$ HS
  icases HS with ⟨HS, HSk⟩
  icases HB with ⟨B0, B1, B2, B3, B4, B5, B6, B7⟩
  icases HS with ⟨S0, S1, S2, S3, S4, S5⟩
  isplitl [B0 B1 B2 B3 B4 B5 B6 B7 S0 S1 S2 S3 S4 S5]
  · unfold TileScratch Scratch Idle Any
    isplitl [B0 B1 B2 S0 S2]
    · isplitl [B0]; · iexact B0
      isplitl [B1]; · iexact B1
      isplitl [B2]; · iexact B2
      isplitl [S0]; · iexact S0
      iexact S2
    isplitl [B4 B5 B6 S1 S3]
    · isplitl [B4]; · iexact B4
      isplitl [B5]; · iexact B5
      isplitl [B6]; · iexact B6
      isplitl [S1]; · iexact S1
      iexact S3
    isplitl [B3 S4]
    · isplitl [B3]; · iexact B3
      iexact S4
    isplitl [B7]; · iexact B7
    iexact S5
  iintro H
  unfold TileScratch Scratch Idle Any
  icases H with ⟨⟨B0, B1, B2, S0, S2⟩, ⟨B4, B5, B6, S1, S3⟩, ⟨B3, S4⟩, B7, S5⟩
  isplitl [HBk B0 B1 B2 B3 B4 B5 B6 B7]
  · iapply HBk
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  · iapply HSk
    isplitl [S0]; · iexact S0
    isplitl [S1]; · iexact S1
    isplitl [S2]; · iexact S2
    isplitl [S3]; · iexact S3
    isplitl [S4]; · iexact S4
    iexact S5

variable {F1 : S16384x256.Idx → Elt F .f32} {F2 : S16384x256.Idx → Elt F .i32} {FQ : S16384x128.Idx → Elt F .f32}

/-- A tile's task, from what the launch deals it. -/
theorem tile_body (hR : ∀ x, Rng (F2 x)) (O : CellTallies nD τ sig (HIx 1)) (W : Waits sig (HIx 1)) (hO' : ∀ g, O g none = 0) :
    iprop(levAts (K (F := F)).L (K (F := F)).lev ∗ iprop(emp) ∗ (RDs d F1 F2 FQ ∗ TodoAll (F := F) d i)
        ∗ scopedBufs (tV d i) ∗ scopedSems0 (tV d i) ∗ owes (tV d i) O W)
      ⊢ wp frame (wpE (defs₀ (F := F)) 𝒱₀ (tV d i) none) Set.univ
          (cc1__sc_kernel i (Memref.whole main_v8_1_scv) (Memref.isWhole_whole _) (Memref.whole main_v8_2_scv) (Memref.isWhole_whole _)
            (Memref.whole main_v8_0_scv) (Memref.isWhole_whole _) (Memref.whole main_v9_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            cc1_scratch8 cc1_scratch9 cc1_scratch10 cc1_scratch11 cc1_scratch12 cc1_scratch13)
          fun _ => iprop(DoneAll d i F1 F2 FQ ∗ scopedBufs (tV d i) ∗ scopedSems0 (tV d i)
            ∗ ∃ W', ⌜∀ p ∈ W', p ∈ W ∨ p.2 = none⌝ ∗ owes (tV d i) O W') := by
  iintro ⟨#Hlv, -, ⟨HRD, HT⟩, HB, HS, HW⟩
  ihave Hmw := (show levAts (K (F := F)).L (K (F := F)).lev ⊢ Transfers.MayWaits (tV d i) none O from (K (F := F)).mayWaits_none (thr := tV d i) hO') $$ Hlv
  ihave HX := (scratch_take d i) $$ [HB HS]
  · isplitl [HB]; · iexact HB
    iexact HS
  icases HX with ⟨HX, Hback⟩
  iapply (wp_wand frame _ _) $$ [Hmw HRD HT HX HW]
  · iapply (wp_kernel d i _ _ _ _ _ _ _ _ _ _ _ _ _ _ _ _ _ _ _ _ _ _ _ _ _ _ (F1 := F1) (F2 := F2) (FQ := FQ) (O := O) (W := W) hR rfl rfl (View.set_whole _) (View.set_whole _))
    isplitl [HRD]; · iexact HRD
    isplitl [HT]; · iexact HT
    isplitl [HX]; · iexact HX
    isplitl [HW]
    · unfold Owe
      iexists W
      isplitr; swap; · iexact HW
      ipureintro; exact fun p hp => .inl hp
    iexact Hmw
  iintro %u ⟨HD, HX, HW⟩
  ihave HX := Hback $$ HX
  icases HX with ⟨HB, HS⟩
  isplitl [HD]; · iexact HD
  isplitl [HB]; · iexact HB
  isplitl [HS]; · iexact HS
  iapply (show Owe d i O W ⊢ iprop(∃ W', ⌜∀ p ∈ W', p ∈ W ∨ p.2 = none⌝ ∗ owes (tV d i) O W') from .rfl) $$ HW

end

end Cert.Proof

end
-- ==== Proof.Words.lean ====
/-
  The two arrays the SparseCore reads beside the knot values, place by place: the words (a row, a lane, the sign saying
  the place is a tail) and the numbers (a tail value, or how far between two knots).
-/
module

public import proofs.«01_k».proof.Proof.Region
public import Idealize.ShloMosaic.Lib.Pointwise.SelectCore
public import Idealize.ShloMosaic.Lib.Tactic.WordOmega

@[expose] public section

noncomputable section

namespace Cert.Proof

open Cert.KernelIdeal Cert.KernelIdeal.Gen
open Idealize.ShloMosaic hiding ix2
open Idealize.ShloMosaic.ValueIdx

variable {F : FTy → Type} [FloatOps F] [Named F]

/-- The word of a place: the row of its chunk, the lane, and the sign where the place is a tail. -/
def word (t : BitVec 1) (r : ℕ) (l : BitVec 32) : BitVec 32 :=
  IntOp.ori (IntOp.addi (IntOp.muli (IntOp.andi (BitVec.ofNat 32 r) 63#32) 128#32) l) (Scalar.select t 2147483648#32 0#32)

theorem col_eq (y : S512x256.Idx) (h : (y 1).val < 200) (z : S512x200.Idx) (h0 : (z 0).val = (y 0).val := by rfl) (h1 : (z 1).val = (y 1).val := by rfl) :
    z = ix2 (y 0) ⟨(y 1).val, h⟩ :=
  funext fun a => Fin.ext (match a with | ⟨0, _⟩ => h0 | ⟨1, _⟩ => h1)

theorem a2B_lt (q : S512x200.Idx → Elt F .f32) (y : S512x256.Idx) (h : (y 1).val < 200) :
    a2B (F := F) q y = word (k0_pay6 q (ix2 (y 0) ⟨(y 1).val, h⟩)) (y 0).val (k0_pay9 q (ix2 (y 0) ⟨(y 1).val, h⟩)) := by
  unfold a2B k0_pay2
  refine ((concatenate_pair_apply _ _ _ _ y).trans (dif_pos h)).trans ((congrArg _ (col_eq y h _)).trans ?_)
  have e : iota .tc S512x200 32 [0] iota_S512x200_d0_w32 (ix2 (y 0) ⟨(y 1).val, h⟩ : S512x200.Idx) = BitVec.ofNat 32 (y 0).val :=
    congrArg (BitVec.ofNat 32) (show 0 * 512 + (y 0).val = (y 0).val by omega)
  show IntOp.ori (IntOp.addi (IntOp.muli (IntOp.andi (iota .tc S512x200 32 [0] iota_S512x200_d0_w32 (ix2 (y 0) ⟨(y 1).val, h⟩ : S512x200.Idx)) 63#32) 128#32) _) _ = _
  rw [e]
  rfl

theorem a2B_ge (q : S512x200.Idx → Elt F .f32) (y : S512x256.Idx) (h : ¬ (y 1).val < 200) : a2B (F := F) q y = 0#32 := by
  unfold a2B k0_pay2
  exact (concatenate_pair_apply _ _ _ _ y).trans (dif_neg h)

theorem lane_le (q : S512x200.Idx → Elt F .f32) (y : S512x200.Idx) : (k0_pay9 q y).toNat < 98 := by
  have h : ∀ v : BitVec 32, (IntOp.minsi (IntOp.maxsi (IntOp.subi v 1#32) 0#32) 97#32).toNat < 98 := fun v => by
    generalize IntOp.subi v 1#32 = w
    have hw := BitVec.toInt_eq_toNat_cond w
    have h0 : (0#32).toInt = 0 := by decide
    have h97 : (97#32).toInt = 97 := by decide
    have n0 : (0#32).toNat = 0 := by decide
    have n97 : (97#32).toNat = 97 := by decide
    have hl := w.isLt
    simp only [IntOp.minsi, IntOp.maxsi, BitVec.slt, decide_eq_true_eq]
    split_ifs at * <;> omega
  exact h (fptosi 32 (k0_pay8 q) y)

theorem word_rows : ∀ r : Fin 64, ∀ l : Fin 98, ∀ t : Fin 2,
    (rowW (word (BitVec.ofNat 1 t.val) r.val (BitVec.ofNat 32 l.val))).toNat = r.val ∧ (laneW (word (BitVec.ofNat 1 t.val) r.val (BitVec.ofNat 32 l.val))).toNat = l.val
      ∧ IntOp.cmpi .slt (word (BitVec.ofNat 1 t.val) r.val (BitVec.ofNat 32 l.val)) 0#32 = BitVec.ofNat 1 t.val := by decide +kernel

theorem word_mod (t : BitVec 1) (r : ℕ) (l : BitVec 32) : word t r l = word t (r % 64) l := by
  have h : IntOp.andi (BitVec.ofNat 32 r) 63#32 = IntOp.andi (BitVec.ofNat 32 (r % 64)) 63#32 := by
    apply BitVec.eq_of_toNat_eq
    show (BitVec.ofNat 32 r).toNat &&& 63 = (BitVec.ofNat 32 (r % 64)).toNat &&& 63
    rw [Nat.and_two_pow_sub_one_eq_mod _ 6, Nat.and_two_pow_sub_one_eq_mod _ 6, BitVec.toNat_ofNat, BitVec.toNat_ofNat]
    omega
  unfold word; rw [h]

theorem word_facts (t : BitVec 1) (r : ℕ) (l : BitVec 32) (hl : l.toNat < 98) :
    (rowW (word t r l)).toNat = r % 64 ∧ (laneW (word t r l)).toNat = l.toNat ∧ IntOp.cmpi .slt (word t r l) 0#32 = t := by
  rw [word_mod]
  have h := word_rows ⟨r % 64, Nat.mod_lt _ (by decide)⟩ ⟨l.toNat, hl⟩ ⟨t.toNat, t.isLt⟩
  simp only [BitVec.ofNat_toNat, BitVec.setWidth_eq] at h
  exact h

theorem a2B_rng (q : S512x200.Idx → Elt F .f32) (y : S512x256.Idx) : Rng (a2B (F := F) q y) := by
  by_cases h : (y 1).val < 200
  · rw [a2B_lt q y h]
    obtain ⟨h1, h2, -⟩ := word_facts (k0_pay6 q (ix2 (y 0) ⟨(y 1).val, h⟩)) (y 0).val _ (lane_le q (ix2 (y 0) ⟨(y 1).val, h⟩))
    have := lane_le q (ix2 (y 0) ⟨(y 1).val, h⟩)
    exact ⟨by rw [h1]; omega, by rw [h2]; omega⟩
  · rw [a2B_ge q y h]; unfold Rng; decide +kernel

theorem F2g_rng (q : S16384x200.Idx → Elt F .f32) (x : S16384x256.Idx) : Rng (F2g (F := F) q x) := a2B_rng _ _

theorem a1B_lt (x : S512x128.Idx → Elt F .f32) (q : S512x200.Idx → Elt F .f32) (W : S128x128.Idx → Elt F .f32) (b : S1x128.Idx → Elt F .f32)
    (y : S512x256.Idx) (h : (y 1).val < 200) :
    a1B (F := F) x q W b y = Scalar.select (k0_pay6 q (ix2 (y 0) ⟨(y 1).val, h⟩))
      (k0_pay7 (k0_pay3 x W b) q (k0_pay4 x W b) (k0_pay5 x W b) (Named.named κ "log_tail" 0xC0935D8E#32) (ix2 (y 0) ⟨(y 1).val, h⟩))
      (FloatOps.mulf (k0_pay10 q (ix2 (y 0) ⟨(y 1).val, h⟩)) (Named.named κ "inv_gap" 0x3F68BA2F#32)) := by
  unfold a1B k0_pay1
  refine ((concatenate_pair_apply _ _ _ _ y).trans (dif_pos h)).trans ((congrArg _ (col_eq y h _)).trans ?_)
  rfl

end Cert.Proof

end
-- ==== Proof.Rows.lean ====
/-
  The result's rows: dealt from the whole array to the two SparseCores, from each of them to its sixteen tiles, from
  each tile to its eight chunks of sixty-four rows; and gathered again.
-/
module

public import proofs.«01_k».proof.Proof.TileBody

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## Parts of the result -/

section Parts

variable (d : Dev nD)

/-- Part of the result, holding anything. -/
def TodoS (A : Finset S16384x256.Idx) : sProp 𝕄 := iprop(∃ f : S16384x256.Idx → Elt F .f32, ℓO d ↦[A]{fullShare} f)

variable (F1 : S16384x256.Idx → Elt F .f32) (F2 : S16384x256.Idx → Elt F .i32) (FQ : S16384x128.Idx → Elt F .f32)

/-- Part of the result, its first 208 columns computed. -/
def DoneS (A : Finset S16384x256.Idx) : sProp 𝕄 :=
  iprop(∃ f : S16384x256.Idx → Elt F .f32, ⌜∀ x ∈ A, (x 1).val < 208 → f x = scVal F1 F2 FQ x⌝ ∗ ℓO d ↦[A]{fullShare} f)

instance (A : Finset S16384x256.Idx) : Storable (upEmb : UEmb _ 𝕄) (TodoS (F := F) d A) := by unfold TodoS; infer_instance
instance (A : Finset S16384x256.Idx) : Storable (upEmb : UEmb _ 𝕄) (DoneS d F1 F2 FQ A) := by unfold DoneS; infer_instance

theorem TodoS_split {ι : Type} (s : Finset ι) (R : ι → Finset S16384x256.Idx) (h : ∀ t ∈ s, ∀ t' ∈ s, t ≠ t' → Disjoint (R t) (R t'))
    {A : Finset S16384x256.Idx} (hA : s.biUnion R = A) : (TodoS (F := F) d A : sProp 𝕄) ⊢ bigSep s fun t => TodoS (F := F) d (R t) := by
  subst hA
  unfold TodoS
  have hm : ∀ f : S16384x256.Idx → Elt F .f32, (bigSep s fun t => ℓO d ↦[R t]{fullShare} f : sProp 𝕄)
      ⊢ bigSep s fun t => iprop(∃ f : S16384x256.Idx → Elt F .f32, ℓO d ↦[R t]{fullShare} f) := fun f =>
    bigSep_mono fun t _ => (show (ℓO d ↦[R t]{fullShare} f : sProp 𝕄) ⊢ iprop(∃ f : S16384x256.Idx → Elt F .f32, ℓO d ↦[R t]{fullShare} f) from by
      iintro H; iexists f; iexact H)
  iintro ⟨%f, H⟩
  ihave H := (Entails.of_eq (pointsTo_biUnion s (ℓ := ℓO d) (q := fullShare) (f := f) R h)) $$ H
  iapply (hm f) $$ H

theorem DoneS_join [Nonempty (Elt F .f32)] {ι : Type} (s : Finset ι) (R : ι → Finset S16384x256.Idx) (h : ∀ t ∈ s, ∀ t' ∈ s, t ≠ t' → Disjoint (R t) (R t'))
    {A : Finset S16384x256.Idx} (hA : s.biUnion R = A) : (bigSep s fun t => DoneS d F1 F2 FQ (R t)) ⊢ (DoneS d F1 F2 FQ A : sProp 𝕄) := by
  classical
  subst hA
  unfold DoneS
  refine (bigSep_exists_pi s (fun t (f : S16384x256.Idx → Elt F .f32) =>
    iprop(⌜∀ x ∈ R t, (x 1).val < 208 → f x = scVal F1 F2 FQ x⌝ ∗ ℓO d ↦[R t]{fullShare} f))).trans ?_
  iintro ⟨%fs, H⟩
  ihave H := (bigSep_pure_sep s (fun t => ∀ x ∈ R t, (x 1).val < 208 → fs t x = scVal F1 F2 FQ x) (fun t => ℓO d ↦[R t]{fullShare} fs t)) $$ H
  icases H with ⟨%hp, H⟩
  ihave H' := (pointsTo_biUnion_join (ℓ := ℓO d) (q := fullShare) s R fs (fun _ => Classical.arbitrary _) h) $$ H
  icases H' with ⟨%g, %hg, Hg⟩
  iexists g
  isplitr; swap; · iexact Hg
  ipureintro
  intro x hx hc
  obtain ⟨t, ht, hxt⟩ := Finset.mem_biUnion.mp hx
  exact (hg t ht x hxt).trans (hp t ht x hxt hc)

end Parts

/-! ## Which rows -/

/-- The rows of one tile, of one SparseCore. -/
def rowsT (k : ℕ) : Finset S16384x256.Idx := Finset.univ.filter fun x => (x 0).val / 512 = k
def rowsC (c : ℕ) : Finset S16384x256.Idx := Finset.univ.filter fun x => (x 0).val / 512 % 2 = c

theorem chunks_disj (k : ℕ) : ∀ t ∈ (Finset.univ : Finset (Fin 8)), ∀ t' ∈ (Finset.univ : Finset (Fin 8)), t ≠ t' →
    Disjoint (rows (k * 512 + t.val * 64)) (rows (k * 512 + t'.val * 64)) := fun t _ t' _ hn =>
  Finset.disjoint_left.mpr fun x h h' => by
    have h := (Finset.mem_filter.mp h).2; have h' := (Finset.mem_filter.mp h').2
    exact hn (Fin.ext (by omega))
theorem chunks_cover (k : ℕ) : (Finset.univ : Finset (Fin 8)).biUnion (fun t => rows (k * 512 + t.val * 64)) = rowsT k := by
  ext x
  unfold rowsT rows
  simp only [Finset.mem_biUnion, Finset.mem_filter, Finset.mem_univ, true_and]
  constructor
  · rintro ⟨t, h⟩; have := t.isLt; omega
  · intro h; exact ⟨⟨(x 0).val % 512 / 64, by omega⟩, by show k * 512 + (x 0).val % 512 / 64 * 64 ≤ _; omega, by show _ < k * 512 + (x 0).val % 512 / 64 * 64 + 64; omega⟩

theorem tiles_disj (c : ℕ) : ∀ t ∈ (Finset.univ : Finset (Fin 16)), ∀ t' ∈ (Finset.univ : Finset (Fin 16)), t ≠ t' →
    Disjoint (rowsT (t.val * 2 + c)) (rowsT (t'.val * 2 + c)) := fun t _ t' _ hn =>
  Finset.disjoint_left.mpr fun x h h' => by
    have h := (Finset.mem_filter.mp h).2; have h' := (Finset.mem_filter.mp h').2
    exact hn (Fin.ext (by omega))
theorem tiles_cover (c : ℕ) (hc : c < 2) : (Finset.univ : Finset (Fin 16)).biUnion (fun t => rowsT (t.val * 2 + c)) = rowsC c := by
  ext x
  unfold rowsT rowsC
  simp only [Finset.mem_biUnion, Finset.mem_filter, Finset.mem_univ, true_and]
  have hx : (x 0).val < 16384 := (x 0).isLt
  constructor
  · rintro ⟨t, h⟩; have := t.isLt; omega
  · intro h; exact ⟨⟨(x 0).val / 1024, by omega⟩, by show _ = (x 0).val / 1024 * 2 + c; omega⟩

theorem cores_disj : ∀ t ∈ (Finset.univ : Finset (Fin 2)), ∀ t' ∈ (Finset.univ : Finset (Fin 2)), t ≠ t' → Disjoint (rowsC t.val) (rowsC t'.val) := fun t _ t' _ hn =>
  Finset.disjoint_left.mpr fun x h h' => by
    have h := (Finset.mem_filter.mp h).2; have h' := (Finset.mem_filter.mp h').2
    exact hn (Fin.ext (by omega))
theorem cores_cover : (Finset.univ : Finset (Fin 2)).biUnion (fun t => rowsC t.val) = Finset.univ := by
  ext x
  unfold rowsC
  simp only [Finset.mem_biUnion, Finset.mem_filter, Finset.mem_univ, true_and, iff_true]
  exact ⟨⟨(x 0).val / 512 % 2, by omega⟩, rfl⟩

/-! ## A tile's rows are its eight chunks -/

variable (d : Dev nD) (i : grid1.Coords)

abbrev tileNo (i : grid1.Coords) : ℕ := (i 1).val * 2 + (i 0).val

theorem TodoAll_of : (TodoS (F := F) d (rowsT (tileNo i)) : sProp 𝕄) ⊢ TodoAll (F := F) d i := by
  refine (TodoS_split d Finset.univ _ (chunks_disj (tileNo i)) (chunks_cover (tileNo i))).trans ?_
  rw [bigSep_univ_eq_bigSepL [0, 1, 2, 3, 4, 5, 6, 7] (by decide) (by decide)]
  show iprop(Todo (F := F) d (cr i 0) ∗ Todo (F := F) d (cr i 1) ∗ Todo (F := F) d (cr i 2) ∗ Todo (F := F) d (cr i 3)
    ∗ Todo (F := F) d (cr i 4) ∗ Todo (F := F) d (cr i 5) ∗ Todo (F := F) d (cr i 6) ∗ Todo (F := F) d (cr i 7))
    ⊢ iprop((Todo (F := F) d (cr i 0) ∗ Todo (F := F) d (cr i 1)) ∗ (Todo (F := F) d (cr i 2) ∗ Todo (F := F) d (cr i 3))
    ∗ (Todo (F := F) d (cr i 4) ∗ Todo (F := F) d (cr i 5)) ∗ (Todo (F := F) d (cr i 6) ∗ Todo (F := F) d (cr i 7)))
  iintro ⟨H0, H1, H2, H3, H4, H5, H6, H7⟩
  isplitl [H0 H1]; · isplitl [H0] <;> iassumption
  isplitl [H2 H3]; · isplitl [H2] <;> iassumption
  isplitl [H4 H5]; · isplitl [H4] <;> iassumption
  isplitl [H6] <;> iassumption

variable (F1 : S16384x256.Idx → Elt F .f32) (F2 : S16384x256.Idx → Elt F .i32) (FQ : S16384x128.Idx → Elt F .f32)

theorem DoneAll_to [Nonempty (Elt F .f32)] : (DoneAll d i F1 F2 FQ : sProp 𝕄) ⊢ DoneS d F1 F2 FQ (rowsT (tileNo i)) := by
  refine BI.Entails.trans ?_ (DoneS_join d F1 F2 FQ Finset.univ _ (chunks_disj (tileNo i)) (chunks_cover (tileNo i)))
  rw [bigSep_univ_eq_bigSepL [0, 1, 2, 3, 4, 5, 6, 7] (by decide) (by decide)]
  show iprop((Done d F1 F2 FQ (cr i 0) ∗ Done d F1 F2 FQ (cr i 1)) ∗ (Done d F1 F2 FQ (cr i 2) ∗ Done d F1 F2 FQ (cr i 3))
    ∗ (Done d F1 F2 FQ (cr i 4) ∗ Done d F1 F2 FQ (cr i 5)) ∗ (Done d F1 F2 FQ (cr i 6) ∗ Done d F1 F2 FQ (cr i 7)))
    ⊢ iprop(Done d F1 F2 FQ (cr i 0) ∗ Done d F1 F2 FQ (cr i 1) ∗ Done d F1 F2 FQ (cr i 2) ∗ Done d F1 F2 FQ (cr i 3)
    ∗ Done d F1 F2 FQ (cr i 4) ∗ Done d F1 F2 FQ (cr i 5) ∗ Done d F1 F2 FQ (cr i 6) ∗ Done d F1 F2 FQ (cr i 7))
  iintro ⟨⟨H0, H1⟩, ⟨H2, H3⟩, ⟨H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof

end
-- ==== Proof.Deal.lean ====
/-
  What the SparseCore call deals its sequencers and tiles, and what it collects: every tile reads the three arrays the
  TensorCore wrote, and the result's rows are split between the cores and then between their tiles.
-/
module

public import proofs.«01_k».proof.Proof.Segment
public import proofs.«01_k».proof.Proof.TileBody
public import proofs.«01_k».proof.Proof.Words
public import proofs.«01_k».proof.Proof.Rows

@[expose] public section

noncomputable section

namespace Cert.Proof

open Cert.KernelIdeal Cert.KernelIdeal.Gen
open Idealize.ShloMosaic Idealize.ShloMosaic.ValueIdx Idealize.ShloMosaic.TcCoe Idealize.ShloMosaic.Tactic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (pin)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host operations before the calls -/

/-- The operations that pad the weights and the bias to 128 columns. -/
def opsPre : List (HloOp τ sig (Elt F)) :=
  [StableHlo.nullary main_cst (constant S_ .f32 0x00000000#32),
   StableHlo.unary main_cst main_v0 (broadcastInDim S128x128 ![] bcast_S_S128x128 : (⟨S_, .f32⟩ : BufTy).Contents (Elt F) → (⟨S128x128, .f32⟩ : BufTy).Contents (Elt F)),
   StableHlo.nullary main_c (constantI S_ 32 0#32),
   StableHlo.unary main_c main_v1 (broadcastInDim S1 ![] bcast_S_S1 : (⟨S_, .i32⟩ : BufTy).Contents (Elt F) → (⟨S1, .i32⟩ : BufTy).Contents (Elt F)),
   StableHlo.ternary main_v0 main_v1 main_arg2 main_v2 ((fun x i u => Host.scatter scatter_S128x128_S1_S128x99_01_n_1_0 (fun _ b => b) x i u) : (⟨S128x128, .f32⟩ : BufTy).Contents (Elt F) → (⟨S1, .i32⟩ : BufTy).Contents (Elt F) → (⟨S128x99, .f32⟩ : BufTy).Contents (Elt F) → (⟨S128x128, .f32⟩ : BufTy).Contents (Elt F)),
   StableHlo.nullary main_cst_0 (constant S_ .f32 0x00000000#32),
   StableHlo.unary main_cst_0 main_v3 (broadcastInDim S1x128 ![] bcast_S_S1x128 : (⟨S_, .f32⟩ : BufTy).Contents (Elt F) → (⟨S1x128, .f32⟩ : BufTy).Contents (Elt F)),
   StableHlo.nullary main_c_1 (constantI S_ 32 0#32),
   StableHlo.unary main_c_1 main_v4 (broadcastInDim S1 ![] bcast_S_S1 : (⟨S_, .i32⟩ : BufTy).Contents (Elt F) → (⟨S1, .i32⟩ : BufTy).Contents (Elt F)),
   StableHlo.nullary main_c_2 (constantI S_ 32 0#32),
   StableHlo.unary main_c_2 main_v5 (broadcastInDim S1 ![] bcast_S_S1 : (⟨S_, .i32⟩ : BufTy).Contents (Elt F) → (⟨S1, .i32⟩ : BufTy).Contents (Elt F)),
   StableHlo.binary main_v4 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v3 main_v6 main_arg3 main_v7 ((fun x i u => Host.scatter scatter_S1x128_S2_S99_0_0_01_0 (fun _ b => b) x i u) : (⟨S1x128, .f32⟩ : BufTy).Contents (Elt F) → (⟨S2, .i32⟩ : BufTy).Contents (Elt F) → (⟨S99, .f32⟩ : BufTy).Contents (Elt F) → (⟨S1x128, .f32⟩ : BufTy).Contents (Elt F))]

/-- A device's buffers at the launch, after the host operations, and after the TensorCore's region. -/
def V₀ (d : Dev nD) : Valuation τ sig (Elt F) := fun b => m (d, b)
def V₁ (d : Dev nD) : Valuation τ sig (Elt F) := StableHlo.after opsPre (V₀ m d)
def V₂ (d : Dev nD) : Valuation τ sig (Elt F) := Vout (V₁ m d)

/-- The three arrays the SparseCore reads. -/
def A1 (d : Dev nD) : S16384x256.Idx → Elt F .f32 := V₂ m d (Proc.devRef .tc main_v8_1)
def A2 (d : Dev nD) : S16384x256.Idx → Elt F .i32 := V₂ m d (Proc.devRef .tc main_v8_2)
def AQ (d : Dev nD) : S16384x128.Idx → Elt F .f32 := V₂ m d (Proc.devRef .tc main_v8_0)

theorem A2_rng (d : Dev nD) (x : S16384x256.Idx) : Rng (A2 m d x) := by
  unfold A2 V₂; rw [Vout_2]; exact F2g_rng _ x

/-! ## The payloads -/

def coordsV (c : Fin (grid1.bound 0)) (s : Fin (grid1.bound 1)) : grid1.Coords :=
  fun | 0 => c | 1 => s | ⟨_ + 2, h⟩ => absurd h (Nat.not_lt.2 (Nat.le_add_left _ _))

def stP (d : Dev nD) (c : ℕ) : sProp 𝕄 := iprop(RDs d (A1 m d) (A2 m d) (AQ m d) ∗ TodoS (F := F) d (rowsC c))
def dnP (d : Dev nD) (c : ℕ) : sProp 𝕄 := DoneS d (A1 m d) (A2 m d) (AQ m d) (rowsC c)
def goP (d : Dev nD) (i : grid1.Coords) : sProp 𝕄 := iprop(RDs d (A1 m d) (A2 m d) (AQ m d) ∗ TodoAll (F := F) d i)
def tdP (d : Dev nD) (i : grid1.Coords) : sProp 𝕄 := DoneAll d i (A1 m d) (A2 m d) (AQ m d)

instance (d : Dev nD) (c : ℕ) : Storable (upEmb : UEmb _ 𝕄) (stP m d c) := by unfold stP RDs; infer_instance
instance (d : Dev nD) (c : ℕ) : Storable (upEmb : UEmb _ 𝕄) (dnP m d c) := by unfold dnP; infer_instance
instance (d : Dev nD) (i : grid1.Coords) : Storable (upEmb : UEmb _ 𝕄) (goP m d i) := by unfold goP RDs TodoAll Todo2 Todo; infer_instance
instance (d : Dev nD) (i : grid1.Coords) : Storable (upEmb : UEmb _ 𝕄) (tdP m d i) := by unfold tdP DoneAll Done2 Done; infer_instance

theorem nCore_zero : (K (F := F)).nCore 0 = grid1.bound 0 := rfl
theorem nSub_zero : (K (F := F)).nSub 0 = grid1.bound 1 := rfl

def P : (K (F := F)).Pay (nD := nD) (Val := Elt F) (Name := ℕ) (U := UU) where
  st := fun q d c => match q with | 0 => stP m d c.val
  dn := fun q d c => match q with | 0 => dnP m d c.val
  go := fun q d c i => match q with | 0 => goP m d (coordsV (Fin.cast nCore_zero c) (Fin.cast nSub_zero i))
  td := fun q d c i => match q with | 0 => tdP m d (coordsV (Fin.cast nCore_zero c) (Fin.cast nSub_zero i))
  x := fun _ _ => iprop(emp)

instance P_storable : (P m).IsStorable where
  st q d c := match q with | 0 => (inferInstance : BI.Storable (upEmb : UEmb _ 𝕄) (stP m d c.val))
  dn q d c := match q with | 0 => (inferInstance : BI.Storable (upEmb : UEmb _ 𝕄) (dnP m d c.val))
  go q d c i := match q with | 0 => (inferInstance : BI.Storable (upEmb : UEmb _ 𝕄) (goP m d (coordsV (Fin.cast nCore_zero c) (Fin.cast nSub_zero i))))
  td q d c i := match q with | 0 => (inferInstance : BI.Storable (upEmb : UEmb _ 𝕄) (tdP m d (coordsV (Fin.cast nCore_zero c) (Fin.cast nSub_zero i))))

/-! ## A tile's task -/

theorem defs₀_vector (c : Fin τ.nSC) (s : Fin τ.nSub) :
    defs₀ (F := F) (.scVector c s) 1 ()
      = SparseCore.onTile hcore1 hsub1 (fun c s => cc1__sc_kernel (coordsV c s)
          (Memref.whole main_v8_1_scv) (Memref.isWhole_whole _) (Memref.whole main_v8_2_scv) (Memref.isWhole_whole _)
          (Memref.whole main_v8_0_scv) (Memref.isWhole_whole _) (Memref.whole main_v9_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) (Memref.whole cc1_scratch7) (Memref.isWhole_whole _)
          cc1_scratch8 cc1_scratch9 cc1_scratch10 cc1_scratch11 cc1_scratch12 cc1_scratch13) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (A2_rng m d) O W hO).trans (wp_mono frame _ _ fun _ => obl_post)

/-! ## A core's share, dealt to its tiles and collected -/

theorem tasks_eq (Φ : Fin (grid1.bound 1) → sProp 𝕄) :
    (bigSep Finset.univ fun i : Fin ((K (F := F)).nSub 0) => Φ (Fin.cast nSub_zero i)) = bigSep Finset.univ Φ :=
  bigSep_congr fun _ _ => congrArg Φ (Fin.ext rfl)

theorem RDs_many (d : Dev nD) (F1 : S16384x256.Idx → Elt F .f32) (F2 : S16384x256.Idx → Elt F .i32) (FQ : S16384x128.Idx → Elt F .f32)
    {ι : Type} (s : Finset ι) : (RDs d F1 F2 FQ : sProp 𝕄) ⊢ bigSep s fun _ => RDs d F1 F2 FQ := by
  unfold RDs
  rw [bigSep_sep', bigSep_sep']
  exact BI.sep_mono (RD_many s _ _) (BI.sep_mono (RD_many s _ _) (RD_many s _ _))

theorem split16 [Nonempty (Elt F .f32)] (d : Dev nD) (c : Fin (grid1.bound 0)) :
    stP m d c.val ⊢ |={Set.univ}=> iprop((bigSep Finset.univ fun i : Fin (grid1.bound 1) => goP m d (coordsV c i))
      ∗ ((bigSep Finset.univ fun i : Fin (grid1.bound 1) => tdP m d (coordsV c i)) -∗ dnP m d c.val)) := by
  have hc : c.val < 2 := c.isLt
  have hto : (TodoS (F := F) d (rowsC c.val) : sProp 𝕄) ⊢ bigSep Finset.univ fun i : Fin 16 => TodoAll (F := F) d (coordsV c i) :=
    (TodoS_split d Finset.univ (fun t : Fin 16 => rowsT (t.val * 2 + c.val)) (tiles_disj c.val) (tiles_cover c.val hc)).trans
      (bigSep_mono fun i _ => TodoAll_of d (coordsV c i))
  have hback : (bigSep Finset.univ fun i : Fin 16 => tdP m d (coordsV c i)) ⊢ (dnP m d c.val : sProp 𝕄) :=
    BI.Entails.trans (bigSep_mono fun i _ => DoneAll_to d (coordsV c i) (A1 m d) (A2 m d) (AQ m d))
      (DoneS_join d _ _ _ Finset.univ (fun t : Fin 16 => rowsT (t.val * 2 + c.val)) (tiles_disj c.val) (tiles_cover c.val hc))
  have hgo : (stP m d c.val : sProp 𝕄) ⊢ bigSep Finset.univ fun i : Fin 16 => goP m d (coordsV c i) := by
    unfold stP goP
    rw [bigSep_sep']
    exact BI.sep_mono (RDs_many d _ _ _ _) hto
  iintro H
  ihave H' := hgo $$ H
  imodintro
  isplitl [H']; · iexact H'
  iintro HT
  iapply hback; iexact HT

theorem vecSplit [Nonempty (Elt F .f32)] : (K (F := F)).VecSplit' (P m) 0 := by
  intro d c
  show stP m d (Fin.cast nCore_zero c).val ⊢ |={Set.univ}=> iprop(
      (bigSep Finset.univ fun i : Fin ((K (F := F)).nSub 0) => goP m d (coordsV (Fin.cast nCore_zero c) (Fin.cast nSub_zero i)))
      ∗ ((bigSep Finset.univ fun i : Fin ((K (F := F)).nSub 0) => tdP m d (coordsV (Fin.cast nCore_zero c) (Fin.cast nSub_zero i)))
        -∗ dnP m d (Fin.cast nCore_zero c).val))
  rw [tasks_eq (F := F) (fun i => goP m d (coordsV (Fin.cast nCore_zero c) i)), tasks_eq (F := F) (fun i => tdP m d (coordsV (Fin.cast nCore_zero c) i))]
  exact split16 m d _

/-! ## The ghost state the launch starts from -/

abbrev pins : (p : Fin 1) → Pipeline.Cfg sig Λ₀ := pin (pcfgs (F := F)) adm

/-- The TensorCore's part: its pipeline's cells and tokens. -/
def G (d : Dev nD) : sProp 𝕄 :=
  iprop(Pipeline.cellsGhost (pins (F := F)) EP 0 d ∗ Pipeline.toksInit (pins (F := F)) EP 0 d)

def u₀ : UU := (initOf (K (F := F)).hsCells (K (F := F)).hsToks,
  (initOf (Pipeline.cells (pins (F := F)) cellOf_inj) (Pipeline.launchToks (pins (F := F)) cellOf_inj), 1))

abbrev ER : Emb (UP × Counters) (MT nD τ sig (HIx 1) (Elt F) ℕ UU ℕ) :=
  (Emb.inr : Emb (UP × Counters) UU).trans (uEmb (nD := nD) (sig := sig) (Ix := HIx 1) (Val := Elt F) (Name := ℕ) (U := UU) (Lvl := ℕ)).toEmb

theorem ownU_split (a : UH) (b : UP × Counters) (e : UP) (c : Counters) (h : b = (e, c)) :
    (ownU (a, b) : sProp 𝕄) ⊢ iprop(BI.own (EH a) ∗ BI.own (EP e)) := by
  subst h
  have h1 : (ownU (a, (e, c)) : sProp 𝕄) ⊢ iprop(BI.own (EH a) ∗ BI.own (ER (e, c))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (e, c))))
  have h2 : (BI.own (ER (F := F) (e, c)) : sProp 𝕄) ⊢ iprop(BI.own (EP e) ∗ BI.own (ER (F := F) (1, c))) :=
    BI.own_op_elim ((ER (F := F)).op_of_mem (Prod.mk_mem_op (URA.mem_op_one e) (URA.mem_one_op c)))
  iintro H
  ihave H' := h1 $$ H
  icases H' with ⟨HA, HB⟩
  ihave HB' := h2 $$ HB
  icases HB' with ⟨HE, -⟩
  isplitl [HA]; · iexact HA
  iexact HE

theorem Px_emp : (bigSep Finset.univ fun thr : Thread nD τ => bigSep Finset.univ fun q : Fin 1 => (P m).x q thr) = (iprop(emp) : sProp 𝕄) := by
  show (bigSep Finset.univ fun thr : Thread nD τ => bigSep Finset.univ fun q : Fin 1 => (iprop(emp) : sProp 𝕄)) = _
  exact (bigSep_congr fun _ _ => bigSep_emp_const _).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  rw [Px_emp]
  iintro Hu
  ihave H := (ownU_split _ _ _ _ rfl) $$ Hu
  icases H with ⟨HH, HK⟩
  imod (Pipeline.fund_ghost (pins (F := F)) EP cellOf_inj) $$ HK with ⟨Hc, Ht⟩
  imodintro
  isplitl [HH]; · iexact HH
  isplitl; swap; · iempintro
  unfold G
  rw [bigSep_sep']
  ihave Hc' := (Entails.of_eq (bigSep_congr fun c _ => bigSep_univ_of_subsingleton (Φ := fun p => Pipeline.cellsGhost (pins (F := F)) EP p c) (0 : Fin 1))) $$ Hc
  ihave Ht' := (Entails.of_eq (bigSep_congr fun c _ => bigSep_univ_of_subsingleton (Φ := fun p => Pipeline.toksInit (pins (F := F)) EP p c) (0 : Fin 1))) $$ Ht
  isplitl [Hc']; · iexact Hc'
  iexact Ht'

end Cert.Proof

end
-- ==== Proof.Launch.lean ====
/-
  The TensorCore's thread: the host operations, the TensorCore kernel's region, the SparseCore call and the final slice;
  then the whole program's run, its result an exact function of the launch memory.
-/
module

public import proofs.«01_k».proof.Proof.Deal

@[expose] public section

noncomputable section

namespace Cert.Proof

open Cert.KernelIdeal Cert.KernelIdeal.Gen
open Idealize.ShloMosaic hiding ix2
open Idealize.ShloMosaic.ValueIdx Idealize.ShloMosaic.TcCoe Idealize.ShloMosaic.Tactic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (pin ucRefs)

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev tl (d : Dev nD) (b : Ref sig .tc) : Loc nD τ sig := (T d : Thread nD τ).loc b

/-- The program's result: the first 200 columns of what the SparseCore computed. -/
def Res (d : Dev nD) : S16384x200.Idx → Elt F .f32 := fun x =>
  scVal (A1 m d) (A2 m d) (AQ m d) (ix2 (x 0) ⟨(x 1).val, Nat.lt_trans (x 1).isLt (by decide)⟩)

/-! ## What the operations keep -/

def wr : List (Ref sig .tc) := [main_cst, main_v0, main_c, main_v1, main_v2, main_cst_0, main_v3, main_c_1, main_v4, main_c_2, main_v5, main_v6, main_v7]

theorem V₁_keep (d : Dev nD) (r : Ref sig .tc) (hr : r ∉ wr) : V₁ m d (Proc.devRef .tc r) = V₀ m d (Proc.devRef .tc r) :=
  StableHlo.after_of_writes_sub (W := wr) opsPre (V₀ m d) (StableHlo.forall_writes_sub_of_map rfl) hr

theorem V₂_keep (d : Dev nD) (r : Ref sig .tc) (hr : r ∉ wr) (h0 : r ≠ main_v8_0) (h1 : r ≠ main_v8_1) (h2 : r ≠ main_v8_2) :
    V₂ m d (Proc.devRef .tc r) = m (tl d r) :=
  (Vout_ne _ _ (fun h => h0 (Proc.devRef_injective _ h)) (fun h => h1 (Proc.devRef_injective _ h)) (fun h => h2 (Proc.devRef_injective _ h))).trans
    (V₁_keep m d r hr)

theorem opsPre_sub : ∀ op ∈ (opsPre : List (HloOp τ sig (Elt F))), op.bufs ⊆ ucRefs τ sig := fun op h => Pipeline.sub_ucRefs op (by
  revert op
  unfold opsPre
  simp only [List.forall_mem_cons, List.not_mem_nil, false_imp_iff, implies_true, and_true, StableHlo.nullary_bufs_sub, StableHlo.unary_bufs_sub,
    StableHlo.binary_bufs_sub, StableHlo.ternary_bufs_sub])

theorem opsPre_fresh : ∀ op ∈ (opsPre : List (HloOp τ sig (Elt F))), op.fresh = ∅ := by
  unfold opsPre
  simp only [List.forall_mem_cons, List.not_mem_nil, false_imp_iff, implies_true, and_true]
  refine ⟨?_, ?_, ?_, ?_, ?_, ?_, ?_, ?_, ?_, ?_, ?_, ?_, ?_⟩ <;> rfl

/-! ## The thread's pieces -/

abbrev tcRegion : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ())
def opLast : HloOp τ sig (Elt F) :=
  StableHlo.unary main_v9 main_v10 ((extractStridedSlice S16384x200 ![0, 0] · slices_S16384x256_S16384x200_0_0) : (⟨S16384x256, .f32⟩ : BufTy).Contents (Elt F) → (⟨S16384x200, .f32⟩ : BufTy).Contents (Elt F))

theorem main_eq (d : Dev nD) : main (F := F) d = StableHlo.seq opsPre >>= fun _ => tcRegion >>= fun _ => (sc (F := F)).run d 0 >>= fun _ =>
    hlo rfl opLast (fun _ => .ret ⟨⟩) := by
  unfold main opsPre
  simp only [StableHlo.seq, bind_assoc, pure_bind]
  rfl

theorem region_step [∀ e, Nonempty (Elt F e)] (d : Dev nD) :
    iprop(levAts (K (F := F)).L (K (F := F)).lev ∗ boundary (T d) ∗ unscopedBufs d (fun b => V₁ m d (Proc.devRef .tc b)) ∗ OweT d ∗ G (F := F) d)
      ⊢ wp frame (wpE ((K (F := F)).defs (D (F := F))) 𝒱 (T d) none) Set.univ tcRegion
          fun _ => iprop(boundary (T d) ∗ unscopedBufs d (fun b => V₂ m d (Proc.devRef .tc b)) ∗ OweT d) := by
  have hreg := Pipeline.RegionSeg.wp (pcfgs (F := F)) adm (pdats (V₁ m)) none cellOf_inj EP defs₀ 𝒱₀ (K (F := F)).L (K (F := F)).lev (reg (V₁ m)) d none
    (fun u hu => by cases hu) (α := PUnit) (fun _ => .ret PUnit.unit) (fun _ => iprop(boundary (T d) ∗ unscopedBufs d (fun b => V₂ m d (Proc.devRef .tc b)) ∗ OweT d))
  refine BI.Entails.trans ?_ (BI.Entails.trans hreg
    ((K (F := F)).wp_liftProg (D (F := F)) 𝒱 (T d) Set.univ none (.op (.customCall (Pipeline.entry 0) ()) fun _ => .ret PUnit.unit) _))
  unfold G
  change (_ : sProp 𝕄) ⊢ _
  iintro ⟨Hlv, Hb, Hu, HO, Hc, Ht⟩
  isplitr [Hlv Hb Hu HO Hc Ht]
  · iintro ⟨Hb, Hp⟩
    ihave Hp' := (show ((reg (V₁ m)).post d : sProp 𝕄) ⊢ iprop(unscopedBufs d (fun b => V₂ m d (Proc.devRef .tc b)) ∗ OweT d) from .rfl) $$ Hp
    icases Hp' with ⟨Hu, HO⟩
    rw [wp_ret]
    imodintro
    isplitl [Hb]; · iexact Hb
    isplitl [Hu]; · iexact Hu
    iexact HO
  isplitl [Hb]; · iexact Hb
  isplitl [Hu HO]
  · iapply (show iprop(unscopedBufs d (fun b => V₁ m d (Proc.devRef .tc b)) ∗ OweT d) ⊢ ((reg (V₁ m)).pre d : sProp 𝕄) from .rfl)
    isplitl [Hu]; · iexact Hu
    iexact HO
  isplitl [Hlv]; · iexact Hlv
  isplitl [Hc]; · iexact Hc
  iexact Ht

/-- The buffers the rest of the thread uses, out of all. -/
theorem bufs_take (d : Dev nD) (W : (b : Ref sig .tc) → Buf (Elt F) ((d.tc : Thread nD τ).loc b)) :
    (unscopedBufs d W : sProp 𝕄) ⊢ iprop((tl d main_arg0 ↦{fullShare} W main_arg0) ∗ (tl d main_arg1 ↦{fullShare} W main_arg1)
      ∗ (tl d main_arg2 ↦{fullShare} W main_arg2) ∗ (tl d main_arg3 ↦{fullShare} W main_arg3)
      ∗ (tl d main_v8_0 ↦{fullShare} W main_v8_0) ∗ (tl d main_v8_1 ↦{fullShare} W main_v8_1) ∗ (tl d main_v8_2 ↦{fullShare} W main_v8_2)
      ∗ (tl d main_v9 ↦{fullShare} W main_v9) ∗ tl d main_v10 ↦{fullShare} W main_v10) := by
  unfold unscopedBufs
  refine (bigSep_subset (show ({main_arg0, main_arg1, main_arg2, main_arg3, main_v8_0, main_v8_1, main_v8_2, main_v9, main_v10} : Finset (Ref sig .tc))
    ⊆ Finset.univ.filter fun b : Ref sig .tc => ¬ b.isScoped by decide)).trans ?_
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  change (_ : sProp 𝕄) ⊢ _
  iintro H; iexact H

theorem cores_eq (Φ : Fin (grid1.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem st_make (d : Dev nD) : iprop(RDs d (A1 m d) (A2 m d) (AQ m d) ∗ TodoS (F := F) d Finset.univ)
    ⊢ (bigSep Finset.univ fun c : Fin ((K (F := F)).nCore 0) => (P m).st 0 d c : sProp 𝕄) := by
  refine BI.Entails.trans ?_ (Entails.of_eq (cores_eq (F := F) (fun c => stP m d c.val)).symm)
  unfold stP
  rw [bigSep_sep']
  exact BI.sep_mono (RDs_many d _ _ _ _) (TodoS_split d Finset.univ (fun t : Fin 2 => rowsC t.val) cores_disj cores_cover)

theorem dn_take [Nonempty (Elt F .f32)] (d : Dev nD) : (bigSep Finset.univ fun c : Fin ((K (F := F)).nCore 0) => (P m).dn 0 d c : sProp 𝕄)
    ⊢ DoneS d (A1 m d) (A2 m d) (AQ m d) Finset.univ :=
  (Entails.of_eq (cores_eq (F := F) (fun c => dnP m d c.val))).trans
    (DoneS_join d _ _ _ Finset.univ (fun t : Fin 2 => rowsC t.val) cores_disj cores_cover)

theorem sc_step [Nonempty (Elt F .f32)] (κ : GSem nD τ sig → ℕ) (d : Dev nD) :
    iprop((K (F := F)).ctx EH (P m) κ ∗ (K (F := F)).tcSt EH d 0 ∗ RDs d (A1 m d) (A2 m d) (AQ m d) ∗ TodoS (F := F) d Finset.univ)
      ⊢ wp frame (wpE ((K (F := F)).defs (D (F := F))) 𝒱 (T d) none) Set.univ ((K (F := F)).run d 0)
          fun _ => iprop((K (F := F)).tcSt EH d 1 ∗ DoneS d (A1 m d) (A2 m d) (AQ m d) Finset.univ) := by
  iintro ⟨Hctx, Hst, HR, HT⟩
  ihave H := (st_make m d) $$ [HR HT]
  · isplitl [HR]; · iexact HR
    iexact HT
  iapply ((K (F := F)).wp_run (D (F := F)) 𝒱 (EH := EH) (P := P m) κ d 0)
  isplitl [Hctx]; · iexact Hctx
  isplitl [Hst]; · iexact Hst
  isplitl [H]; · iexact H
  iintro ⟨Hst, Hdn⟩
  ihave Hdn' := (dn_take m d) $$ Hdn
  isplitl [Hst]; · iexact Hst
  iexact Hdn'

def pair : Finset (DevRef τ sig) := {Proc.devRef .tc main_v9, Proc.devRef .tc main_v10}

theorem held_pair (d : Dev nD) (V : Valuation τ sig (Elt F)) : (StableHlo.held (T d) pair V : sProp 𝕄)
    = iprop((tl d main_v9 ↦{fullShare} V (Proc.devRef .tc main_v9)) ∗ tl d main_v10 ↦{fullShare} V (Proc.devRef .tc main_v10)) := by
  unfold StableHlo.held pair
  rw [SparseCore.bigSep_insert' (by decide), bigSep_singleton]

theorem slice_eq (d : Dev nD) (f : S16384x256.Idx → Elt F .f32)
    (h : ∀ x ∈ (Finset.univ : Finset S16384x256.Idx), (x 1).val < 208 → f x = scVal (A1 m d) (A2 m d) (AQ m d) x) :
    extractStridedSlice S16384x200 ![0, 0] f slices_S16384x256_S16384x200_0_0 = Res m d := by
  funext x
  have hx : (x 1).val < 200 := (x 1).isLt
  have e : extractStridedSlice S16384x200 ![0, 0] f slices_S16384x256_S16384x200_0_0 x
      = f (ix2 (x 0) ⟨(x 1).val, Nat.lt_trans (x 1).isLt (by decide)⟩) := by
    refine congrArg f (funext fun a => Fin.ext ?_)
    match a with
    | 0 => show 0 + (x 0).val = (x 0).val; omega
    | 1 => show 0 + (x 1).val = (x 1).val; omega
  rw [e]
  exact h _ (Finset.mem_univ _) (Nat.lt_trans hx (show 200 < 208 by decide))

theorem slice_step (d : Dev nD) :
    iprop(boundary (T d) ∗ DoneS d (A1 m d) (A2 m d) (AQ m d) Finset.univ ∗ ∃ g : S16384x200.Idx → Elt F .f32, tl d main_v10 ↦{fullShare} g)
      ⊢ wp frame (wpE ((K (F := F)).defs (D (F := F))) 𝒱 (T d) none) Set.univ (hlo rfl opLast fun _ => .ret PUnit.unit)
          fun _ => iprop(boundary (T d) ∗ tl d main_v10 ↦{fullShare} Res m d) := by
  unfold DoneS
  iintro ⟨Hb, ⟨%f, %hf, H9⟩, %g, H10⟩
  let V : Valuation τ sig (Elt F) := Function.update (Function.update (V₂ m d) (Proc.devRef .tc main_v9) f) (Proc.devRef .tc main_v10) g
  have hV9 : V (Proc.devRef .tc main_v9) = f := (Function.update_of_ne (show Proc.devRef .tc main_v9 ≠ Proc.devRef .tc main_v10 by decide) _ _).trans (Function.update_self _ _ _)
  have hV10 : V (Proc.devRef .tc main_v10) = g := Function.update_self _ _ _
  have hin : iprop((tl d main_v9 ↦{fullShare} f) ∗ tl d main_v10 ↦{fullShare} g) ⊢ (StableHlo.held (T d) pair V : sProp 𝕄) := by
    rw [held_pair, hV9, hV10]
  have hr : opLast.result V (Proc.devRef .tc main_v10) = Res m d :=
    (StableHlo.unary_result' _ _ _ V).trans ((congrArg (extractStridedSlice S16384x200 ![0, 0] · slices_S16384x256_S16384x200_0_0) hV9).trans (slice_eq m d f hf))
  have hout : (StableHlo.held (T d) pair (opLast.result V) : sProp 𝕄) ⊢ tl d main_v10 ↦{fullShare} Res m d := by
    rw [held_pair, hr]; iintro ⟨-, H⟩; iexact H
  ihave Hh := hin $$ [H9 H10]
  · isplitl [H9]; · iexact H9
    iexact H10
  iapply (StableHlo.wp_hlo_within 𝒱 (T d) none Set.univ (op := opLast) (S := pair) (by unfold opLast; rw [StableHlo.unary_bufs]; unfold pair; decide) (V := V)) $$ [Hb Hh]
  · isplitl [Hb]; · iexact Hb
    iexact Hh
  iintro ⟨Hb, Hh⟩
  ihave Hh' := hout $$ Hh
  rw [wp_ret]
  imodintro
  isplitl [Hb]; · iexact Hb
  iexact Hh'

/-! ## The thread, and the program's run -/

abbrev FIN (d : Dev nD) : sProp 𝕄 :=
  iprop((tl d main_arg0 ↦{fullShare} m (tl d main_arg0)) ∗ (tl d main_arg1 ↦{fullShare} m (tl d main_arg1))
    ∗ (tl d main_arg2 ↦{fullShare} m (tl d main_arg2)) ∗ (tl d main_arg3 ↦{fullShare} m (tl d main_arg3)) ∗ tl d main_v10 ↦{fullShare} Res m d)

/-- What the region leaves, as what the rest needs. -/
theorem after_region (d : Dev nD) : (unscopedBufs d (fun b => V₂ m d (Proc.devRef .tc b)) : sProp 𝕄)
    ⊢ iprop((tl d main_arg0 ↦{fullShare} m (tl d main_arg0)) ∗ (tl d main_arg1 ↦{fullShare} m (tl d main_arg1))
      ∗ (tl d main_arg2 ↦{fullShare} m (tl d main_arg2)) ∗ (tl d main_arg3 ↦{fullShare} m (tl d main_arg3))
      ∗ RDs d (A1 m d) (A2 m d) (AQ m d) ∗ TodoS (F := F) d Finset.univ ∗ ∃ g : S16384x200.Idx → Elt F .f32, tl d main_v10 ↦{fullShare} g) := by
  refine (bufs_take d _).trans ?_
  rw [V₂_keep m d main_arg0 (by decide) (by decide) (by decide) (by decide), V₂_keep m d main_arg1 (by decide) (by decide) (by decide) (by decide),
    V₂_keep m d main_arg2 (by decide) (by decide) (by decide) (by decide), V₂_keep m d main_arg3 (by decide) (by decide) (by decide) (by decide)]
  unfold RDs TodoS
  iintro ⟨H0, H1, H2, H3, HQ, HA, HB, H9, H10⟩
  isplitl [H0]; · iexact H0
  isplitl [H1]; · iexact H1
  isplitl [H2]; · iexact H2
  isplitl [H3]; · iexact H3
  isplitl [HQ HA HB]
  · ihave HA' := (show (tl d main_v8_1 ↦{fullShare} V₂ m d (Proc.devRef .tc main_v8_1) : sProp 𝕄) ⊢ RD (tl d main_v8_1) (A1 m d) from RD_intro _ _ _) $$ HA
    ihave HB' := (show (tl d main_v8_2 ↦{fullShare} V₂ m d (Proc.devRef .tc main_v8_2) : sProp 𝕄) ⊢ RD (tl d main_v8_2) (A2 m d) from RD_intro _ _ _) $$ HB
    ihave HQ' := (show (tl d main_v8_0 ↦{fullShare} V₂ m d (Proc.devRef .tc main_v8_0) : sProp 𝕄) ⊢ RD (tl d main_v8_0) (AQ m d) from RD_intro _ _ _) $$ HQ
    isplitl [HA']; · iexact HA'
    isplitl [HB']; · iexact HB'
    iexact HQ'
  isplitl [H9]
  · iexists _; iexact H9
  · iexists _; iexact H10

theorem held_of (d : Dev nD) (W : Valuation τ sig (Elt F)) :
    (unscopedBufs d (fun b => W (Proc.devRef .tc b)) : sProp 𝕄) = StableHlo.held (T d) (ucRefs τ sig) W :=
  Pipeline.unscopedBufs_held d W

theorem held_in (d : Dev nD) : (unscopedBufs d (fun b => m (tl d b)) : sProp 𝕄) = StableHlo.held (T d) (ucRefs τ sig) (V₀ m d) := by
  rw [← held_of]; rfl

theorem held_out (d : Dev nD) : (StableHlo.held (T d) (ucRefs τ sig) (StableHlo.after opsPre (V₀ m d)) : sProp 𝕄)
    = unscopedBufs d (fun b => V₁ m d (Proc.devRef .tc b)) := by
  rw [held_of, V₁]

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, HG⟩
  ihave #Hlv := ((K (F := F)).ctx_levAts (EH := EH) (P := P m) κ) $$ Hctx
  ihave Hh := (Entails.of_eq (held_in m d)) $$ Hu
  iapply (StableHlo.wp_seq 𝒱 none Set.univ d (ucRefs τ sig) _ opsPre opsPre_sub opsPre_fresh (V₀ m d)) $$ [Hb Hh]
  · isplitl [Hb]; · iexact Hb
    iexact Hh
  iintro ⟨Hb, Hh⟩
  ihave Hu := (Entails.of_eq (held_out m d)) $$ Hh
  ihave Hst' := (show ((K (F := F)).tcSt EH d 0 : sProp 𝕄) ⊢ iprop(OweT d ∗ (OweT d -∗ (K (F := F)).tcSt EH d 0)) from by
    unfold SparseCore.Cfg.tcSt OweT
    iintro ⟨HO, HR⟩
    isplitl [HO]; · iexact HO
    iintro HO
    isplitl [HO]; · iexact HO
    iexact HR) $$ Hst
  icases Hst' with ⟨HO, Hback⟩
  simp only [wp_bind]
  iapply (wp_wand frame _ _) $$ [Hb Hu HO HG]
  · iapply (region_step m d)
    isplitr; · iexact Hlv
    isplitl [Hb]; · iexact Hb
    isplitl [Hu]; · iexact Hu
    isplitl [HO]; · iexact HO
    iexact HG
  iintro %x ⟨Hb, Hu, HO⟩
  ihave Hst := Hback $$ HO
  ihave Hu' := (after_region m d) $$ Hu
  icases Hu' with ⟨H0, H1, H2, H3, HR, HT, H10⟩
  iapply (wp_wand frame _ _) $$ [Hst HR HT]
  · iapply (sc_step m κ d)
    isplitr; · iexact Hctx
    isplitl [Hst]; · iexact Hst
    isplitl [HR]; · iexact HR
    iexact HT
  iintro %y ⟨Hst, HD⟩
  iapply (wp_wand frame _ _) $$ [Hb HD H10]
  · iapply (slice_step m d)
    isplitl [Hb]; · iexact Hb
    isplitl [HD]; · iexact HD
    iexact H10
  iintro %z ⟨Hb, H10⟩
  isplitl [Hst]; · iexact Hst
  isplitr [Hb Hts]
  · isplitl [H0]; · iexact H0
    isplitl [H1]; · iexact H1
    isplitl [H2]; · iexact H2
    isplitl [H3]; · iexact H3
    iexact H10
  isplitl [Hb]; · iexact Hb
  iexact Hts

/-- What a device's memory holds at the end: the arguments as they were, and the result. -/
def fq (d : Dev nD) (s' : Phys nD τ sig (Elt F)) : Prop :=
  s'.mem.mem (tl d main_v10) = Res m d ∧ s'.mem.mem (tl d main_arg0) = m (tl d main_arg0) ∧ s'.mem.mem (tl d main_arg1) = m (tl d main_arg1)
    ∧ s'.mem.mem (tl d main_arg2) = m (tl d main_arg2) ∧ s'.mem.mem (tl d main_arg3) = m (tl d main_arg3)

theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, HR⟩, HSI⟩
  ihave H := (agree s' (tl d main_arg0) _) $$ [HSI H0]
  · isplitl [HSI] <;> iassumption
  icases H with ⟨%h0, HSI⟩
  ihave H := (agree s' (tl d main_arg1) _) $$ [HSI H1]
  · isplitl [HSI] <;> iassumption
  icases H with ⟨%h1, HSI⟩
  ihave H := (agree s' (tl d main_arg2) _) $$ [HSI H2]
  · isplitl [HSI] <;> iassumption
  icases H with ⟨%h2, HSI⟩
  ihave H := (agree s' (tl d main_arg3) _) $$ [HSI H3]
  · isplitl [HSI] <;> iassumption
  icases H with ⟨%h3, HSI⟩
  ihave H := (agree s' (tl d main_v10) _) $$ [HSI HR]
  · isplitl [HSI] <;> iassumption
  icases H with ⟨%h4, -⟩
  ipureintro; exact ⟨h4, h0, h1, h2, h3⟩

def QC : PUnit × MemSt nD τ sig (Elt F) → Prop := fun r =>
  (∀ c : Dev nD, r.2.mem (tl c main_v10) = Res m c ∧ r.2.mem (tl c main_arg0) = m (tl c main_arg0) ∧ r.2.mem (tl c main_arg1) = m (tl c main_arg1)
    ∧ r.2.mem (tl c main_arg2) = m (tl c main_arg2) ∧ r.2.mem (tl c main_arg3) = m (tl c main_arg3)) ∧ r.2.sem = fun _ => 0

/-- The program's run from any launch memory, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof

end
-- ==== Proof.Frames.lean ====
/-
  The three frames: the two kernels' from the one run over any float values (at `Bits` a named constant is read as its
  own bits, which is how the original program spells it), the reference's from its own run.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- A named constant at `Bits`: its own bits. -/
local instance namedBits : Named Bits where
  named _ _ {φ} b := Scalar.ofBits φ b

theorem frame_pi : Cert.quiescent_KernelIdeal := fun m ρ _ =>
  (θ_run Cert.KernelIdeal.defs _ _).mono (fun _ h => ⟨fun c => (h.1 c).2, h.2⟩) (run_main (F := Ideal) m ρ)

set_option smartUnfolding false in
theorem defs₀_eq : Cert.KernelIdeal.defs₀ (F := Bits) = Cert.Kernel.defs₀ (F := Bits) := rfl

theorem defs_eq : Cert.KernelIdeal.defs (F := Bits) = Cert.Kernel.defs (F := Bits) :=
  congrArg (fun x => (Cert.KernelIdeal.sc (F := Bits)).defs (Pipeline.defs (Cert.KernelIdeal.pcfgs (F := Bits)) x)) defs₀_eq

theorem frame_bits (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (Cert.KernelIdeal.defs (F := Bits)) _ _).mono (fun _ h => ⟨fun c => (h.1 c).2, h.2⟩) (run_main (F := Bits) m g)

set_option maxHeartbeats 4000000 in
theorem frame_p : Cert.quiescent_Kernel := fun m ρ _ => by
  have h := frame_bits m ρ
  rw [defs_eq] at h
  exact h

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "beta_right" .f32 0x3F303025#32 _ rfl,
   IdealRules.named_const.statement Cert.KernelIdeal.κ "log_tail" .f32 0xC0935D8E#32 _ rfl,
   IdealRules.named_const.statement Cert.KernelIdeal.κ "beta_left" .f32 0x3ECEC854#32 _ rfl,
   IdealRules.named_const.statement Cert.KernelIdeal.κ "knot_first" .f32 0x3C23D70A#32 _ rfl,
   IdealRules.named_const.statement Cert.KernelIdeal.κ "knot_last" .f32 0x3F7D70A4#32 _ rfl,
   IdealRules.named_const.statement Cert.KernelIdeal.κ "inv_gap" .f32 0x3F68BA2F#32 _ rfl⟩

end Cert.Proof

end
-- ==== Proof.Pad.lean ====
/-
  The host operations before the kernels: the weights and the bias in the first 99 columns of arrays of 128.
-/
module

public import proofs.«01_k».proof.Proof.Launch
public import Idealize.ShloMosaic.Lib.Routing.OpsSet

@[expose] public section

noncomputable section

namespace Cert.Proof

open Cert.KernelIdeal Cert.KernelIdeal.Gen
open Idealize.ShloMosaic hiding ix2
open Idealize.ShloMosaic.ValueIdx Idealize.ShloMosaic.Tactic Idealize.ShloMosaic.StableHlo

variable {F : FTy → Type} [FloatOps F] [Named F]

/-- Where the start words are zero, an update lands at the place its window coordinates say. -/
theorem lands_zero {s si u : Shape} (d : ScatterDims s si u) (idx : IVec si 32) (h0 : ∀ k, idx k = 0#32) (j : u.Idx) (i : s.Idx) :
    d.resultIdx? j idx = some i ↔ ∀ a, d.window j a = (i a).val := by
  have hs : ∀ a, d.start j idx a = 0 := fun a => by
    unfold ScatterDims.start
    split
    · rw [h0]; rfl
    · rfl
  unfold ScatterDims.resultIdx?
  simp only [hs, Int.zero_add]
  constructor
  · intro h a
    split at h
    · exact congrArg (fun i : s.Idx => (i a).val) (Option.some.inj h)
    · exact absurd h (by simp)
  · intro h
    rw [dif_pos (fun a => ⟨Int.natCast_nonneg _, by rw [h a]; exact_mod_cast (i a).isLt⟩)]
    exact congrArg some (funext fun a => Fin.ext (h a))

/-- The padded weights, where there are weights. -/
theorem padW {α : Type} (x0 : S128x128.Idx → α) (idx : IVec S1 32) (h0 : ∀ k, idx k = 0#32) (w : S128x99.Idx → α) (r : Fin 128) (k : Fin 99) :
    Host.scatter scatter_S128x128_S1_S128x99_01_n_1_0 (fun _ b => b) x0 idx w (ix2 r ⟨k.val, by omega⟩) = w (ix2 r k) := by
  refine Routing.scatter_set_hit _ x0 idx w _ _ (fun j hj => ?_) (ix2 r k) ((lands_zero _ idx h0 _ _).mpr fun a => ?_)
  · have h := (lands_zero _ idx h0 _ _).mp hj
    refine congrArg w (funext fun a => Fin.ext ?_)
    match a with
    | ⟨0, _⟩ => exact h 0
    | ⟨1, _⟩ => exact h 1
  · match a with
    | ⟨0, _⟩ => rfl
    | ⟨1, _⟩ => rfl

/-- The padded bias, where there is a bias. -/
theorem padB {α : Type} (x0 : S1x128.Idx → α) (idx : IVec S2 32) (h0 : ∀ k, idx k = 0#32) (b : S99.Idx → α) (k : Fin 99) :
    Host.scatter scatter_S1x128_S2_S99_0_0_01_0 (fun _ b => b) x0 idx b (ix2 (0 : Fin 1) ⟨k.val, by omega⟩) = b (ValueIdx.ix1 k) := by
  refine Routing.scatter_set_hit _ x0 idx b _ _ (fun j hj => ?_) (ValueIdx.ix1 k) ((lands_zero _ idx h0 _ _).mpr fun a => ?_)
  · have h := (lands_zero _ idx h0 _ _).mp hj
    refine congrArg b (funext fun a => Fin.ext ?_)
    match a with
    | ⟨0, _⟩ => exact h 1
  · match a with
    | ⟨0, _⟩ => rfl
    | ⟨1, _⟩ => rfl

variable (m : (ℓ : Loc nD τ sig) → Buf (Elt F) ℓ)

set_option maxRecDepth 8192 in
theorem V₁_W (d : Dev nD) (r : Fin 128) (k : Fin 99) :
    (V₁ m d (Proc.devRef .tc main_v2) : S128x128.Idx → Elt F .f32) (ix2 r ⟨k.val, by omega⟩) = (m (tl d main_arg2) : S128x99.Idx → Elt F .f32) (ix2 r k) := by
  have h : V₁ m d (Proc.devRef .tc main_v2) = Host.scatter scatter_S128x128_S1_S128x99_01_n_1_0 (fun _ b => b)
      (broadcastInDim S128x128 ![] bcast_S_S128x128 (constant S_ .f32 0x00000000#32) : S128x128.Idx → Elt F .f32)
      (broadcastInDim S1 ![] bcast_S_S1 (constantI S_ 32 0#32)) (m (tl d main_arg2)) := by
    unfold V₁
    simp only [opsPre]
    after_results_simp
    all_goals rfl
  rw [h]
  exact padW _ _ (fun _ => rfl) _ r k

set_option maxRecDepth 8192 in
theorem V₁_b (d : Dev nD) (k : Fin 99) :
    (V₁ m d (Proc.devRef .tc main_v7) : S1x128.Idx → Elt F .f32) (ix2 (0 : Fin 1) ⟨k.val, by omega⟩) = (m (tl d main_arg3) : S99.Idx → Elt F .f32) (ValueIdx.ix1 k) := by
  have h : V₁ m d (Proc.devRef .tc main_v7) = Host.scatter scatter_S1x128_S2_S99_0_0_01_0 (fun _ b => b)
      (broadcastInDim S1x128 ![] bcast_S_S1x128 (constant S_ .f32 0x00000000#32) : S1x128.Idx → Elt F .f32)
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m (tl d main_arg3)) := by
    unfold V₁
    simp only [opsPre]
    after_results_simp
    all_goals rfl
  rw [h]
  refine padB _ _ (fun y => ?_) _ k
  refine (concatenate_pair_apply _ _ _ _ y).trans ?_
  split <;> rfl

end Cert.Proof

end
-- ==== Proof.Scalars.lean ====
/-
  The real numbers behind the two programs: a tail's value written two ways, softplus and logarithms in the extended
  reals, the float literals, and the number of knots at most a query.
-/
module

public import Idealize.ShloMosaic.PureOps.Ideal
public import Idealize.ShloMosaic.PureOps.Ideal.Laws
public import Idealize.ShloMosaic.Lib.IdealHost

@[expose] public section

noncomputable section

namespace Cert.Proof

open Idealize.ShloMosaic

/-! The literals. -/

theorem lit_zero : Ideal.ofBits .f32 0x00000000#32 = 0 := Ideal.ofBits_zero_f32
theorem lit_one : Ideal.ofBits .f32 0x3F800000#32 = ((1 : ℝ) : EReal) := by
  simp [Ideal.ofBits, Ideal.ieee, -EReal.coe_mul]; norm_num
theorem lit_hundred : Ideal.ofBits .f32 0x42C80000#32 = ((100 : ℝ) : EReal) := by
  simp [Ideal.ofBits, Ideal.ieee, -EReal.coe_mul]; norm_num
theorem lit_thousand : Ideal.ofBits .f32 0x447A0000#32 = ((1000 : ℝ) : EReal) := by
  simp [Ideal.ofBits, Ideal.ieee, -EReal.coe_mul]; norm_num
theorem lit_ten_thousand : Ideal.ofBits .f32 0x461C4000#32 = ((10000 : ℝ) : EReal) := by
  simp [Ideal.ofBits, Ideal.ieee, -EReal.coe_mul]; norm_num

/-- A quotient of two reals, the second not zero. -/
theorem div_reals (x y : ℝ) (hy : y ≠ 0) : Ideal.div (x : EReal) (y : EReal) = ((x / y : ℝ) : EReal) := by
  rw [Ideal.div_coe hy, ← EReal.coe_mul, one_div, div_eq_mul_inv]

/-! Logarithms. -/

theorem log_pos_real (r : ℝ) (h : 0 < r) : Ideal.log (r : EReal) = ((Real.log r : ℝ) : EReal) := if_neg (not_le.mpr h)

theorem log_neg_of_lt_one (y : EReal) (h : y < 1) : Ideal.log y < 0 := by
  induction y with
  | bot => exact EReal.bot_lt_zero
  | top => exact absurd h (not_lt.mpr le_top)
  | coe r =>
    have hr : r < 1 := by exact_mod_cast h
    by_cases h0 : r ≤ 0
    · rw [show Ideal.log (r : EReal) = ⊥ from if_pos h0]; exact EReal.bot_lt_zero
    · rw [log_pos_real r (not_le.mp h0)]
      exact_mod_cast Real.log_neg (not_le.mp h0) hr

theorem log_nonneg_of_one_le (y : EReal) (h : 1 ≤ y) : 0 ≤ Ideal.log y := by
  induction y with
  | bot => exact absurd h (not_le.mpr (EReal.bot_lt_coe 1))
  | top => exact le_top
  | coe r =>
    have hr : 1 ≤ r := by exact_mod_cast h
    rw [log_pos_real r (lt_of_lt_of_le one_pos hr)]
    exact_mod_cast Real.log_nonneg hr

theorem exp_nonneg (y : EReal) : 0 ≤ Ideal.exp y := by
  induction y with
  | bot => exact le_refl _
  | top => exact le_top
  | coe r => exact (EReal.coe_nonneg.mpr (Real.exp_pos r).le : (0 : EReal) ≤ ((Real.exp r : ℝ) : EReal))

/-- The softplus of a number, as both programs compute it. -/
def sp (z : EReal) : EReal := max z 0 + Ideal.log1p (Ideal.exp (-(max z (-z))))

theorem sp_nonneg (z : EReal) : 0 ≤ sp z :=
  add_nonneg (le_max_right _ _) (log_nonneg_of_one_le _ (by simpa using add_le_add_right (exp_nonneg (-(max z (-z)))) 1))

/-- The outputs of a layer: the input times the weights, plus the bias. -/
def layer {m n : ℕ} (x : Fin m → EReal) (W : Fin m → Fin n → EReal) (b : Fin n → EReal) (i : Fin n) : EReal := (∑ j : Fin m, x j * W j i) + b i

/-- The sum of the softplus of the outputs of a layer, up to and including an output. -/
def knotSum {n : ℕ} (z : Fin n → EReal) (k : Fin n) : EReal := ∑ i : Fin n, if i ≤ k then sp (z i) else 0

theorem knotSum_nonneg {n : ℕ} (z : Fin n → EReal) (k : Fin n) : 0 ≤ knotSum z k :=
  Finset.sum_nonneg fun i _ => by split <;> [exact sp_nonneg _; exact le_refl _]

/-! A tail. -/

/-- The slope of a tail, and one over its inverse. -/
theorem slope_inv (d : EReal) (hd : d ≠ ⊥) (c : ℝ) (hc : 0 < c) : Ideal.div 1 (Ideal.div (c : EReal) d) = Ideal.div d (c : EReal) := by
  induction d with
  | bot => exact absurd rfl hd
  | top =>
    have h1 : Ideal.div (c : EReal) ⊤ = 0 := by rw [Ideal.div, if_neg (by simp)]; simp
    rw [h1, Ideal.div_coe hc.ne', EReal.top_mul_coe_of_pos (one_div_pos.mpr hc)]
    rw [Ideal.div, if_pos rfl, if_pos one_pos]
  | coe r =>
    by_cases hr : r = 0
    · subst hr
      have h1 : Ideal.div (c : EReal) ((0 : ℝ) : EReal) = ⊤ := by
        rw [Ideal.div, if_pos (by simp), if_pos (by exact_mod_cast hc)]
      rw [h1, Ideal.div, if_neg (by simp), div_reals _ _ hc.ne']
      simp
    · rw [div_reals _ _ hr, show (1 : EReal) = ((1 : ℝ) : EReal) from rfl, div_reals _ _ (div_ne_zero hc.ne' hr), div_reals _ _ hc.ne', one_div_div]

/-- A tail's value: with the slope as a quotient, and with it as one over the inverse quotient. The slope is minus
    infinity in the first only where the end knot's value is infinite; there both values are minus infinity. -/
theorem tail_same (u p n : EReal) (c L : ℝ) (hc : 0 < c) (hL : L < 0) (hu : u < 0) (hp : 0 ≤ p) (hn : 0 ≤ n) :
    u * Ideal.div (p - n) (c : EReal) + ((0 - Ideal.div (p - n) (c : EReal)) * (L : EReal) + n)
      = u * Ideal.div 1 (Ideal.div (c : EReal) (p - n)) + (-(Ideal.div 1 (Ideal.div (c : EReal) (p - n))) * (L : EReal) + n) := by
  by_cases h : p - n = ⊥
  · have hn' : n = ⊤ := by
      induction n with
      | bot => exact absurd hn (not_le.mpr EReal.bot_lt_zero)
      | top => rfl
      | coe r =>
        induction p with
        | bot => exact absurd hp (not_le.mpr EReal.bot_lt_zero)
        | top => simp at h
        | coe s => rw [← EReal.coe_sub] at h; exact absurd h (EReal.coe_ne_bot _)
    subst hn'
    rw [h]
    have h1 : Ideal.div (⊥ : EReal) (c : EReal) = ⊥ := by
      rw [Ideal.div_coe hc.ne', EReal.bot_mul_coe_of_pos (one_div_pos.mpr hc)]
    have h2 : Ideal.div (c : EReal) ⊥ = 0 := by rw [Ideal.div, if_neg (by simp)]; simp
    have h3 : Ideal.div 1 (0 : EReal) = ⊤ := by rw [Ideal.div, if_pos rfl, if_pos one_pos]
    have h4 : (0 : EReal) - ⊥ = ⊤ := by simp
    rw [h1, h2, h3, h4, EReal.top_mul_coe_of_neg hL, EReal.mul_top_of_neg hu]
    simp
  · rw [slope_inv _ h c hc, zero_sub]

/-! The knots. -/

/-- The knots at most a query between the first and the last, counted. -/
theorem knots_le (r : ℝ) (h0 : 1 / 100 ≤ r) (h1 : r ≤ 99 / 100) : 1 ≤ ⌊100 * r⌋.toNat ∧ ⌊100 * r⌋.toNat ≤ 99
    ∧ ⌊100 * r⌋ = (⌊100 * r⌋.toNat : ℤ)
    ∧ ∀ k : ℕ, (((k : ℝ) + 1) / 100 ≤ r ↔ k < ⌊100 * r⌋.toNat) := by
  have a : (1 : ℤ) ≤ ⌊100 * r⌋ := Int.le_floor.mpr (by push_cast; linarith)
  have b : ⌊100 * r⌋ ≤ (99 : ℤ) := by
    have : ⌊100 * r⌋ < (100 : ℤ) := Int.floor_lt.mpr (by push_cast; linarith)
    omega
  refine ⟨by omega, by omega, by omega, fun k => ?_⟩
  have e : ((k : ℝ) + 1) / 100 ≤ r ↔ ((k : ℤ) + 1) ≤ ⌊100 * r⌋ := by
    rw [Int.le_floor, div_le_iff₀ (by norm_num)]; push_cast
    constructor <;> intro h <;> linarith
  rw [e]; omega

/-- How far a query is between two knots: over the widened gap, and scaled. -/
theorem ratio_same (r : ℝ) (l : ℝ) :
    (r - (l + 1) / 100) / ((l + 1 + 1) / 100 - (l + 1) / 100 + 1 / 1000) = (100 * r - (l + 1)) * (10 / 11) := by
  have : (l + 1 + 1) / 100 - (l + 1) / 100 + 1 / 1000 = (11 / 1000 : ℝ) := by ring
  rw [this]; ring

end Cert.Proof

end
-- ==== Proof.KnotValues.lean ====
/-
  The knot values at the ideal instance: what the TensorCore's two products leave at a row and a knot.
-/
module

public import proofs.«01_k».proof.Proof.Words
public import proofs.«01_k».proof.Proof.Scalars
public import Idealize.ShloMosaic.Lib.ValueIdx
public import Idealize.ShloMosaic.Lib.FinSumWindow

@[expose] public section

noncomputable section

namespace Cert.Proof

open Cert.KernelIdeal Cert.KernelIdeal.Gen
open Idealize.ShloMosaic hiding ix2
open Idealize.ShloMosaic.ValueIdx

/-- A block product at a row and a column. -/
theorem mm_at (lhs : FVec Ideal S512x128 .f32) (rhs : FVec Ideal S128x128 .f32) (r : Fin 512) (k : Fin 128) :
    matmul dot_S512x128_S128x128_S512x128_1_0_0_1_n_n none lhs rhs (constant S512x128 .f32 0x00000000#32) (ix2 r k)
      = ∑ j : Fin 128, lhs (ix2 r j) * rhs (ix2 j k) := by
  simp only [matmul]
  rw [Ideal.matmul_constant_zero_apply, ← Equiv.sum_comp (contrEquiv1 dot_S512x128_S128x128_S512x128_1_0_0_1_n_n 128 rfl rfl).symm]
  refine Finset.sum_congr rfl fun j _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

theorem tri_word : ∀ i k : Fin 128, ((IntOp.andi (IntOp.cmpi .sle (BitVec.ofNat 32 i.val) (BitVec.ofNat 32 k.val))
    (IntOp.cmpi .slt (BitVec.ofNat 32 i.val) 99#32)).setWidth 32).toInt = if i ≤ k ∧ i.val < 99 then 1 else 0 := by decide +kernel

/-- One output of the layer, before its softplus. -/
def preB (x : S512x128.Idx → EReal) (W : S128x128.Idx → EReal) (b : S1x128.Idx → EReal) (r : Fin 512) (i : Fin 128) : EReal :=
  (∑ j : Fin 128, x (ix2 r j) * W (ix2 j i)) + b (ix2 (0 : Fin 1) i)

theorem qoB_at (x : S512x128.Idx → EReal) (W : S128x128.Idx → EReal) (b : S1x128.Idx → EReal) (r : Fin 512) (k : Fin 128) :
    k0_pay3 (F := Ideal) x W b (ix2 r k)
      = ∑ i : Fin 128, sp (preB x W b r i) * (((if i ≤ k ∧ i.val < 99 then 1 else 0 : ℤ) : ℝ) : EReal) := by
  unfold k0_pay3
  dsimp only
  refine (mm_at _ _ r k).trans (Finset.sum_congr rfl fun i _ => congrArg₂ (· * ·) ?_ ?_)
  · have hz : addf (F := Ideal) (matmul (φ₁ := .f32) (φ₂ := .f32) dot_S512x128_S128x128_S512x128_1_0_0_1_n_n none x
        (shapeCast S128x128 W shapeCasts_S128x128_S128x128) (constant S512x128 .f32 0x00000000#32))
        (broadcastTo S512x128 (shapeCast S1x128 b shapeCasts_S1x128_S1x128) broadcasts_S1x128_S512x128) (ix2 r i) = preB x W b r i := by
      rw [shapeCast_self, shapeCast_self]
      refine congrArg₂ (· + ·) (mm_at _ _ r i) ?_
      refine congrArg b (funext fun a => Fin.ext ?_)
      match a with
      | ⟨0, _⟩ => rfl
      | ⟨1, _⟩ => rfl
    generalize addf (F := Ideal) (matmul (φ₁ := .f32) (φ₂ := .f32) dot_S512x128_S128x128_S512x128_1_0_0_1_n_n none x
        (shapeCast S128x128 W shapeCasts_S128x128_S128x128) (constant S512x128 .f32 0x00000000#32))
        (broadcastTo S512x128 (shapeCast S1x128 b shapeCasts_S1x128_S1x128) broadcasts_S1x128_S512x128) = Z at hz ⊢
    show Scalar.select (Ideal.cmp .one (Z (ix2 r i) - Ideal.ofBits .f32 0x00000000#32) (Z (ix2 r i) - Ideal.ofBits .f32 0x00000000#32)) _
      (max (Z (ix2 r i)) (Ideal.ofBits .f32 0x00000000#32) + Ideal.log1p (Ideal.exp (Ideal.ofBits .f32 0x00000000#32
        - max (Z (ix2 r i) - Ideal.ofBits .f32 0x00000000#32) (-(Z (ix2 r i) - Ideal.ofBits .f32 0x00000000#32))))) = _
    rw [hz, lit_zero]
    simp only [sub_zero, zero_sub]
    have hc : Ideal.cmp .one (preB x W b r i) (preB x W b r i) = 0#1 := by simp [Ideal.cmp]
    rw [hc, select_zero]
    rfl
  · have h := tri_word i k
    have e : ∀ i : Fin 128, BitVec.ofNat 32 (0 * 128 + i.val) = BitVec.ofNat 32 i.val := fun i => by rw [Nat.zero_mul, Nat.zero_add]
    rw [← h, ← e i, ← e k]
    rfl

/-- The knot values where there is a knot. -/
theorem qoB_knot (x : S512x128.Idx → EReal) (W : S128x128.Idx → EReal) (b : S1x128.Idx → EReal) (r : Fin 512) (k : Fin 99) :
    k0_pay3 (F := Ideal) x W b (ix2 r ⟨k.val, by omega⟩) = knotSum (fun i : Fin 99 => preB x W b r ⟨i.val, by omega⟩) k := by
  rw [qoB_at, FinSumWindow.sum_window (N := 128) (W := 99) 0 (by decide)]
  · refine Finset.sum_congr rfl fun i _ => ?_
    have hi := i.isLt
    simp only [Nat.zero_add]
    by_cases h : i ≤ k
    · rw [if_pos h, if_pos ⟨h, hi⟩]; simp
    · rw [if_neg h, if_neg (fun c => h c.1)]; simp
  · intro P hP
    rw [if_neg (by omega)]; simp

end Cert.Proof

end
-- ==== Proof.KernelAt.lean ====
/-
  The kernel's result at a row and a query, at the ideal instance: the tails, and the interpolation between two knots.
-/
module

public import proofs.«01_k».proof.Proof.Pad
public import proofs.«01_k».proof.Proof.KnotValues

@[expose] public section

noncomputable section

namespace Cert.Proof

open Cert.KernelIdeal Cert.KernelIdeal.Gen
open Idealize.ShloMosaic hiding ix2
open Idealize.ShloMosaic.ValueIdx

variable (X : S16384x128.Idx → EReal) (q : S16384x200.Idx → EReal) (W : S128x128.Idx → EReal) (b : S1x128.Idx → EReal)

theorem blk_row (r : Fin 16384) : (r.val / 512 * 512 + r.val % 512) % 16384 = r.val := by omega

theorem blk128_at (r : Fin 16384) (j : Fin 128) : blk128 X (r.val / 512) (ix2 ⟨r.val % 512, Nat.mod_lt _ (by decide)⟩ j) = X (ix2 r j) :=
  congrArg X (funext fun a => Fin.ext (match a with | ⟨0, _⟩ => blk_row r | ⟨1, _⟩ => rfl))

theorem blk200_at (r : Fin 16384) (c : Fin 200) : blk200 q (r.val / 512) (ix2 ⟨r.val % 512, Nat.mod_lt _ (by decide)⟩ c) = q (ix2 r c) :=
  congrArg q (funext fun a => Fin.ext (match a with | ⟨0, _⟩ => blk_row r | ⟨1, _⟩ => rfl))

/-- The outputs of the layer at a row, from the padded weights and bias. -/
def preP (r : Fin 16384) : Fin 99 → EReal :=
  layer (fun j : Fin 128 => X (ix2 r j)) (fun j i => W (ix2 j ⟨i.val, by omega⟩)) (fun i => b (ix2 (0 : Fin 1) ⟨i.val, by omega⟩))

theorem qoB_row (r : Fin 16384) (k : Fin 99) :
    k0_pay3 (F := Ideal) (blk128 X (r.val / 512)) W b (ix2 ⟨r.val % 512, Nat.mod_lt _ (by decide)⟩ ⟨k.val, by omega⟩) = knotSum (preP X W b r) k := by
  rw [qoB_knot]
  refine congrArg (fun z => knotSum z k) (funext fun i => ?_)
  unfold preB preP layer
  simp only [blk128_at]

theorem FQg_at (r : Fin 16384) (k : Fin 99) : FQg (F := Ideal) X W b (ix2 r ⟨k.val, by omega⟩) = knotSum (preP X W b r) k := qoB_row X W b r k

/-- A query's flag, and what the tails and the words hold at it. -/
def qry (r : Fin 16384) (c : Fin 200) : S512x200.Idx := ix2 ⟨r.val % 512, Nat.mod_lt _ (by decide)⟩ c

/-- Scaled query, truncated, less one, held between 0 and 97. -/
def laneOf (y : EReal) : BitVec 32 := IntOp.minsi (IntOp.maxsi (IntOp.subi (Ideal.fptosi 32 (y * Ideal.ofBits .f32 0x42C80000#32)) 1#32) 0#32) 97#32

theorem named_first : (Named.named (F := Ideal) (φ := .f32) κ "knot_first" 0x3C23D70A#32 : EReal) = ((1 / 100 : ℝ) : EReal) := rfl
theorem named_last : (Named.named (F := Ideal) (φ := .f32) κ "knot_last" 0x3F7D70A4#32 : EReal) = ((99 / 100 : ℝ) : EReal) := rfl
theorem named_left : (Named.named (F := Ideal) (φ := .f32) κ "beta_left" 0x3ECEC854#32 : EReal) = ((Real.log (3010201 / 2010000) : ℝ) : EReal) := rfl
theorem named_right : (Named.named (F := Ideal) (φ := .f32) κ "beta_right" 0x3F303025#32 : EReal) = ((Real.log (2010101 / 1010000) : ℝ) : EReal) := rfl
theorem named_gap : (Named.named (F := Ideal) (φ := .f32) κ "inv_gap" 0x3F68BA2F#32 : EReal) = ((10 / 11 : ℝ) : EReal) := rfl
theorem named_tail : (Named.named (F := Ideal) (φ := .f32) κ "log_tail" 0xC0935D8E#32 : EReal) = ((Real.log (1 / 100) : ℝ) : EReal) := rfl

theorem pay6_real (Q : S512x200.Idx → EReal) (y : S512x200.Idx) :
    k0_pay6 (F := Ideal) Q y = IntOp.ori (Ideal.cmp .olt (Q y) ((1 / 100 : ℝ) : EReal)) (Ideal.cmp .ogt (Q y) ((99 / 100 : ℝ) : EReal)) := rfl

theorem pay9_real (Q : S512x200.Idx → EReal) (y : S512x200.Idx) : k0_pay9 (F := Ideal) Q y = laneOf (Q y) := rfl

theorem pay10_real (Q : S512x200.Idx → EReal) (y : S512x200.Idx) :
    k0_pay10 (F := Ideal) Q y = Q y * Ideal.ofBits .f32 0x42C80000#32 - (((IntOp.addi (laneOf (Q y)) 1#32).toInt : ℝ) : EReal) := rfl

/-- A tail's value from the query's logarithm and two knot values. -/
def tailV (u p n : EReal) (c : ℝ) : EReal :=
  u * Ideal.div (p - n) (c : EReal) + ((0 - Ideal.div (p - n) (c : EReal)) * ((Real.log (1 / 100) : ℝ) : EReal) + n)

theorem pay7_real (x : S512x128.Idx → EReal) (Q : S512x200.Idx → EReal) (r : Fin 512) (c : Fin 200) :
    k0_pay7 (F := Ideal) (k0_pay3 x W b) Q (k0_pay4 x W b) (k0_pay5 x W b) (Named.named κ "log_tail" 0xC0935D8E#32) (ix2 r c)
      = Scalar.select (Ideal.cmp .olt (Q (ix2 r c)) ((1 / 100 : ℝ) : EReal))
          (tailV (Ideal.log (Q (ix2 r c))) (k0_pay3 (F := Ideal) x W b (ix2 r ⟨1, by decide⟩)) (k0_pay3 (F := Ideal) x W b (ix2 r ⟨0, by decide⟩)) (Real.log (3010201 / 2010000)))
          (tailV (Ideal.log (1 - Q (ix2 r c))) (k0_pay3 (F := Ideal) x W b (ix2 r ⟨97, by decide⟩)) (k0_pay3 (F := Ideal) x W b (ix2 r ⟨98, by decide⟩)) (Real.log (2010101 / 1010000))) := by
  have sl : ∀ (o : ℕ) (ho : o < 128) (h : S512x128.Slices ![0, o] S512x1) (z : S512x128.Idx → EReal),
      extractStridedSlice S512x1 ![0, o] z h (ix2 r (0 : Fin 1)) = z (ix2 r ⟨o, ho⟩) := fun o ho h z =>
    congrArg z (funext fun a => Fin.ext (match a with | ⟨0, _⟩ => Nat.zero_add _ | ⟨1, _⟩ => rfl))
  have bc : ∀ z : S512x1.Idx → EReal, broadcastTo S512x200 z broadcasts_S512x1_S512x200 (ix2 r c) = z (ix2 r (0 : Fin 1)) := fun z =>
    congrArg z (funext fun a => Fin.ext (match a with | ⟨0, _⟩ => rfl | ⟨1, _⟩ => rfl))
  unfold k0_pay7 k0_pay5 k0_pay4
  dsimp only
  generalize k0_pay3 (F := Ideal) x W b = z
  unfold tailV
  rw [← lit_zero]
  refine congrArg₂ (Scalar.select _) ?_ ?_
  · refine congrArg₂ (fun a b : EReal => a + b) (congrArg₂ (fun a b : EReal => a * b) rfl ((bc _).trans ?_)) ((bc _).trans ?_)
    · exact congrArg₂ Ideal.div (congrArg₂ (fun a b : EReal => a - b) (sl 1 _ _ z) (sl 0 _ _ z)) named_left
    · exact congrArg₂ (fun a b : EReal => a + b) (congrArg₂ (fun a b : EReal => a * b) (congrArg₂ (fun a b : EReal => a - b) rfl
        (congrArg₂ Ideal.div (congrArg₂ (fun a b : EReal => a - b) (sl 1 _ _ z) (sl 0 _ _ z)) named_left)) named_tail) (sl 0 _ _ z)
  · refine congrArg₂ (fun a b : EReal => a + b) (congrArg₂ (fun a b : EReal => a * b) ?_ ((bc _).trans ?_)) ((bc _).trans ?_)
    · exact congrArg Ideal.log (congrArg₂ (fun a b : EReal => a - b) lit_one rfl)
    · exact congrArg₂ Ideal.div (congrArg₂ (fun a b : EReal => a - b) (sl 97 _ _ z) (sl 98 _ _ z)) named_right
    · exact congrArg₂ (fun a b : EReal => a + b) (congrArg₂ (fun a b : EReal => a * b) (congrArg₂ (fun a b : EReal => a - b) rfl
        (congrArg₂ Ideal.div (congrArg₂ (fun a b : EReal => a - b) (sl 97 _ _ z) (sl 98 _ _ z)) named_right)) named_tail) (sl 98 _ _ z)

/-! ## The result at a place -/

theorem F1g_at (r : Fin 16384) (c : Fin 200) :
    F1g (F := Ideal) X q W b (ix2 r ⟨c.val, by omega⟩) = Scalar.select (k0_pay6 (F := Ideal) (blk200 q (r.val / 512)) (qry r c))
      (k0_pay7 (F := Ideal) (k0_pay3 (blk128 X (r.val / 512)) W b) (blk200 q (r.val / 512)) (k0_pay4 (blk128 X (r.val / 512)) W b) (k0_pay5 (blk128 X (r.val / 512)) W b)
        (Named.named κ "log_tail" 0xC0935D8E#32) (qry r c))
      (k0_pay10 (F := Ideal) (blk200 q (r.val / 512)) (qry r c) * ((10 / 11 : ℝ) : EReal)) :=
  a1B_lt _ _ _ _ _ c.isLt

theorem F2g_at (r : Fin 16384) (c : Fin 200) :
    F2g (F := Ideal) q (ix2 r ⟨c.val, by omega⟩) = word (k0_pay6 (F := Ideal) (blk200 q (r.val / 512)) (qry r c)) (r.val % 512)
      (k0_pay9 (F := Ideal) (blk200 q (r.val / 512)) (qry r c)) :=
  a2B_lt _ _ c.isLt

/-- The kernel's result: at a place, the flagged tail or the interpolation. -/
theorem scVal_at (r : Fin 16384) (c : Fin 200) (l : Fin 98) (hl : (laneOf (q (ix2 r c))).toNat = l.val) :
    scVal (F := Ideal) (F1g X q W b) (F2g q) (FQg X W b) (ix2 r ⟨c.val, by omega⟩)
      = Scalar.select (IntOp.ori (Ideal.cmp .olt (q (ix2 r c)) ((1 / 100 : ℝ) : EReal)) (Ideal.cmp .ogt (q (ix2 r c)) ((99 / 100 : ℝ) : EReal)))
        (Scalar.select (Ideal.cmp .olt (q (ix2 r c)) ((1 / 100 : ℝ) : EReal))
          (tailV (Ideal.log (q (ix2 r c))) (knotSum (preP X W b r) 1) (knotSum (preP X W b r) 0) (Real.log (3010201 / 2010000)))
          (tailV (Ideal.log (1 - q (ix2 r c))) (knotSum (preP X W b r) 97) (knotSum (preP X W b r) 98) (Real.log (2010101 / 1010000))))
        (knotSum (preP X W b r) ⟨l.val, by omega⟩
          + ((q (ix2 r c) * Ideal.ofBits .f32 0x42C80000#32 - (((IntOp.addi (laneOf (q (ix2 r c))) 1#32).toInt : ℝ) : EReal)) * ((10 / 11 : ℝ) : EReal))
            * (knotSum (preP X W b r) ⟨l.val + 1, by omega⟩ - knotSum (preP X W b r) ⟨l.val, by omega⟩)) := by
  have hq : blk200 q (r.val / 512) (qry r c) = q (ix2 r c) := blk200_at q r c
  have h98 : (k0_pay9 (F := Ideal) (blk200 q (r.val / 512)) (qry r c)).toNat = l.val := by rw [pay9_real, hq]; exact hl
  obtain ⟨h1, h2, h3⟩ := word_facts (k0_pay6 (F := Ideal) (blk200 q (r.val / 512)) (qry r c)) (r.val % 512) _ (lane_le (F := Ideal) (blk200 q (r.val / 512)) (qry r c))
  rw [← F2g_at q r c] at h1 h2 h3
  rw [h98] at h2
  have eL : FQg (F := Ideal) X W b (ix2 ⟨(64 * (r.val / 64) + (rowW (F2g (F := Ideal) q (ix2 r ⟨c.val, by omega⟩))).toNat % 64) % 16384, Nat.mod_lt _ (by decide)⟩
      ⟨(laneW (F2g (F := Ideal) q (ix2 r ⟨c.val, by omega⟩))).toNat % 128, Nat.mod_lt _ (by decide)⟩) = knotSum (preP X W b r) ⟨l.val, by omega⟩ := by
    refine Eq.trans (congrArg (FQg (F := Ideal) X W b) (funext fun a => Fin.ext ?_)) (FQg_at X W b r ⟨l.val, by omega⟩)
    have := l.isLt
    match a with
    | ⟨0, _⟩ => show (64 * (r.val / 64) + _ % 64) % 16384 = r.val; rw [h1]; omega
    | ⟨1, _⟩ => show _ % 128 = l.val; rw [h2]; omega
  have eR : FQg (F := Ideal) X W b (ix2 ⟨(64 * (r.val / 64) + (rowW (F2g (F := Ideal) q (ix2 r ⟨c.val, by omega⟩))).toNat % 64) % 16384, Nat.mod_lt _ (by decide)⟩
      ⟨((laneW (F2g (F := Ideal) q (ix2 r ⟨c.val, by omega⟩))).toNat + 1) % 128, Nat.mod_lt _ (by decide)⟩) = knotSum (preP X W b r) ⟨l.val + 1, by omega⟩ := by
    refine Eq.trans (congrArg (FQg (F := Ideal) X W b) (funext fun a => Fin.ext ?_)) (FQg_at X W b r ⟨l.val + 1, by omega⟩)
    have := l.isLt
    match a with
    | ⟨0, _⟩ => show (64 * (r.val / 64) + _ % 64) % 16384 = r.val; rw [h1]; omega
    | ⟨1, _⟩ => show (_ + 1) % 128 = l.val + 1; rw [h2]; omega
  have e1 := F1g_at X q W b r c
  rw [show k0_pay7 (F := Ideal) _ _ _ _ _ (qry r c) = _ from pay7_real W b _ _ ⟨r.val % 512, Nat.mod_lt _ (by decide)⟩ c] at e1
  unfold scVal
  show comb (F := Ideal) _ _ (FQg (F := Ideal) X W b _) (FQg (F := Ideal) X W b _) = _
  unfold comb
  rw [h3]
  refine Eq.trans (congrArg₂ (Scalar.select _) e1 (congrArg₂ (fun a b : EReal => a + b) eL
    (congrArg₂ (fun a b : EReal => a * b) e1 (congrArg₂ (fun a b : EReal => a - b) eR eL)))) ?_
  rw [pay6_real, pay10_real, hq]
  rw [show (ix2 ⟨r.val % 512, Nat.mod_lt _ (by decide)⟩ c : S512x200.Idx) = qry r c from rfl, hq]
  have hk : ∀ (k : Fin 99) (n : ℕ) (hn : n < 128), n = k.val → k0_pay3 (F := Ideal) (blk128 X (r.val / 512)) W b (ix2 ⟨r.val % 512, Nat.mod_lt _ (by decide)⟩ ⟨n, hn⟩)
      = knotSum (preP X W b r) k := fun k n hn h => by subst h; exact qoB_row X W b r k
  rw [hk 1 1 _ rfl, hk 0 0 _ rfl, hk 97 97 _ rfl, hk 98 98 _ rfl]
  generalize IntOp.ori _ _ = t
  by_cases h : t = 1#1
  · rw [h, select_one, select_one, select_one]
  · rw [eq_zero_of_ne_one h, select_zero, select_zero, select_zero]

end Cert.Proof

end
-- ==== Proof.Cumsum.lean ====
/-
  The reference's running sum at the ideal instance, and its two table reads.
-/
module

public import proofs.«01_k».proof.Proof.Gen.ReferenceIdeal
public import proofs.«01_k».proof.Proof.Scalars
public import Idealize.ShloMosaic.Lib.ValueIdx

@[expose] public section

noncomputable section

namespace Cert.Proof.Ref

open Cert.ReferenceIdeal Cert.ReferenceIdeal.Gen
open Idealize.ShloMosaic
open Idealize.ShloMosaic.ValueIdx

theorem foldl_plus {ι : Type} (l : List ι) (f : ι → EReal) (a : EReal) : l.foldl (fun s n => s + f n) a = a + (l.map f).sum := by
  induction l generalizing a with
  | nil => simp
  | cons n l ih => rw [List.foldl_cons, ih, List.map_cons, List.sum_cons, add_assoc]

/-- The window of the running sum: a row's 99 places. -/
abbrev Win : Shape := ⟨2, ![1, 99]⟩

/-- What a place of the window contributes to the sum at a row's place. -/
def winTerm (x : S16384x99.Idx → EReal) (r : Fin 16384) (k : Fin 99) (n : ℕ) : EReal :=
  if h : 98 ≤ k.val + n ∧ k.val + n - 98 < 99 then x (ix2 r ⟨k.val + n - 98, h.2⟩) else 0

theorem winTerm_in (x : S16384x99.Idx → EReal) (r : Fin 16384) (k : Fin 99) (n : ℕ) (h : 98 ≤ k.val + n ∧ k.val + n - 98 < 99) :
    winTerm x r k n = x (ix2 r ⟨k.val + n - 98, h.2⟩) := by unfold winTerm; rw [dif_pos h]

theorem winTerm_out (x : S16384x99.Idx → EReal) (r : Fin 16384) (k : Fin 99) (n : ℕ) (h : ¬ (98 ≤ k.val + n ∧ k.val + n - 98 < 99)) :
    winTerm x r k n = 0 := by unfold winTerm; rw [dif_neg h]

/-- The running sum along a row. -/
theorem cumsum_at (x : FVec Ideal S16384x99 .f32) (v : S_.Idx → EReal) (hv : ∀ i, v i = 0) (r : Fin 16384) (k : Fin 99) :
    Host.reduceWindowAdd (F := Ideal) (φ := .f32) ![1, 99] ![1, 1] ![0, 98] ![0, 0] x v reduceWindows_S16384x99_S16384x99_w1s1p0_0_w99s1p98_0 h_S_ (ix2 r k)
      = ∑ i : Fin 99, if i ≤ k then x (ix2 r i) else (0 : EReal) := by
  have e0 : Host.reduceWindowAdd (F := Ideal) (φ := .f32) ![1, 99] ![1, 1] ![0, 98] ![0, 0] x v reduceWindows_S16384x99_S16384x99_w1s1p0_0_w99s1p98_0 h_S_ (ix2 r k)
      = (List.finRange Win.numel).foldl (fun s n => s + winTerm x r k (Win.rowMajor.symm n 1).val) 0 := by
    show Host.reduceWindow (s := S16384x99) (t := S16384x99) (fun a b : EReal => a + b) ![1, 99] ![1, 1] ![0, 98] ![0, 0] x (fun _ : (⟨0, ![]⟩ : Shape).Idx => v (Shape.Idx.first h_S_))
      reduceWindows_S16384x99_S16384x99_w1s1p0_0_w99s1p98_0 (by decide) (ix2 r k) = _
    unfold Host.reduceWindow
    dsimp only
    rw [hv]
    refine congrArg (fun f => List.foldl f (0 : EReal) (List.finRange Win.numel)) (funext fun s => funext fun n => congrArg (s + ·) ?_)
    have h0 : (Win.rowMajor.symm n 0).val = 0 := Nat.lt_one_iff.mp (Win.rowMajor.symm n 0).isLt
    have hr := r.isLt
    split
    · next hin =>
      have c1 := hin 1
      change 98 ≤ k.val * 1 + (Win.rowMajor.symm n 1).val ∧ k.val * 1 + (Win.rowMajor.symm n 1).val - 98 < 99 at c1
      rw [Nat.mul_one] at c1
      refine Eq.trans (congrArg x (funext fun a => Fin.ext ?_)) (winTerm_in x r k _ c1).symm
      match a with
      | ⟨0, _⟩ => show r.val * 1 + (Win.rowMajor.symm n 0).val - 0 = r.val; rw [h0, Nat.mul_one]; rfl
      | ⟨1, _⟩ => show k.val * 1 + (Win.rowMajor.symm n 1).val - 98 = k.val + (Win.rowMajor.symm n 1).val - 98; rw [Nat.mul_one]
    · next hin =>
      refine (winTerm_out x r k _ fun c => hin fun a => ?_).symm
      match a with
      | ⟨0, _⟩ =>
        show 0 ≤ r.val * 1 + (Win.rowMajor.symm n 0).val ∧ r.val * 1 + (Win.rowMajor.symm n 0).val - 0 < 16384
        rw [h0, Nat.mul_one]; exact ⟨Nat.zero_le _, hr⟩
      | ⟨1, _⟩ =>
        show 98 ≤ k.val * 1 + (Win.rowMajor.symm n 1).val ∧ k.val * 1 + (Win.rowMajor.symm n 1).val - 98 < 99
        rw [Nat.mul_one]; exact c
  rw [e0, foldl_plus, zero_add, ← Fin.sum_univ_def, Equiv.sum_comp Win.rowMajor.symm fun p => winTerm x r k (p 1).val]
  rw [show (∑ p : Win.Idx, winTerm x r k (p 1).val) = _ from sum_idx2 (n0 := 1) (n1 := 99) (fun p => winTerm x r k (p 1).val), Fin.sum_univ_one]
  have e1 : ∀ b : Fin 99, winTerm x r k (ix2 (0 : Fin 1) b 1).val = if 98 ≤ k.val + b.val then (if h : k.val + b.val - 98 < 99 then x (ix2 r ⟨k.val + b.val - 98, h⟩) else 0) else 0 := fun b => by
    have hb : k.val + b.val - 98 < 99 := by omega
    by_cases h : 98 ≤ k.val + b.val
    · rw [if_pos h, dif_pos hb]
      exact dif_pos (c := 98 ≤ k.val + b.val ∧ k.val + b.val - 98 < 99) ⟨h, hb⟩
    · rw [if_neg h]
      exact dif_neg (c := 98 ≤ k.val + b.val ∧ k.val + b.val - 98 < 99) (fun c => h c.1)
  simp only [e1]
  rw [← Finset.sum_filter, ← Finset.sum_filter]
  refine Finset.sum_bij' (fun b _ => (⟨(k.val + b.val - 98) % 99, Nat.mod_lt _ (by decide)⟩ : Fin 99)) (fun i _ => (⟨(i.val + 98 - k.val) % 99, Nat.mod_lt _ (by decide)⟩ : Fin 99)) ?_ ?_ ?_ ?_ ?_
  · intro b hb
    have hb := (Finset.mem_filter.mp hb).2
    refine Finset.mem_filter.mpr ⟨Finset.mem_univ _, ?_⟩
    show (k.val + b.val - 98) % 99 ≤ k.val
    omega
  · intro i hi
    have hi : i.val ≤ k.val := (Finset.mem_filter.mp hi).2
    refine Finset.mem_filter.mpr ⟨Finset.mem_univ _, ?_⟩
    show 98 ≤ k.val + (i.val + 98 - k.val) % 99
    omega
  · intro b hb
    have hb := (Finset.mem_filter.mp hb).2
    refine Fin.ext ?_
    show ((k.val + b.val - 98) % 99 + 98 - k.val) % 99 = b.val
    omega
  · intro i hi
    have hi : i.val ≤ k.val := (Finset.mem_filter.mp hi).2
    refine Fin.ext ?_
    show (k.val + (i.val + 98 - k.val) % 99 - 98) % 99 = i.val
    omega
  · intro b hb
    have hb := (Finset.mem_filter.mp hb).2
    have h : k.val + b.val - 98 < 99 := by omega
    rw [dif_pos h]
    refine congrArg x (congrArg (ix2 r) (Fin.ext ?_))
    show k.val + b.val - 98 = (k.val + b.val - 98) % 99
    omega

/-- The read of a row's table at each of the row's queries. -/
theorem take_row {α : Type} (x : S16384x99.Idx → α) (idx : IVec S16384x200x1 32) (r : Fin 16384) (c : Fin 200) (n : Fin 99)
    (hn : (idx (ValueIdx.ix3 r c (0 : Fin 1))).toInt.toNat = n.val) :
    Host.gather gather_S16384x99_S16384x200x1_S16384x200_n_1_0_0_1_2_11 x idx (ix2 r c) = x (ix2 r n) := by
  unfold Host.gather
  refine congrArg x (funext fun a => Fin.ext ?_)
  generalize hd : gather_S16384x99_S16384x200x1_S16384x200_n_1_0_0_1_2_11 = d
  show d.start (ix2 r c) idx a + d.batchCoord (ix2 r c) a + d.offCoord (ix2 r c) a = _
  subst hd
  match a with
  | ⟨0, h0⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, h0⟩ : Fin 2) ∈ gather_S16384x99_S16384x200x1_S16384x200_n_1_0_0_1_2_11.operandBatchingDims from List.mem_singleton.mpr rfl)]
    rfl
  | ⟨1, h1⟩ =>
    rw [GatherDims.batchCoord_eq_zero _ _ _ (fun h => absurd (congrArg Fin.val (List.mem_singleton.mp h)) (show ¬ (1 : ℕ) = 0 by decide)),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ gather_S16384x99_S16384x200x1_S16384x200_n_1_0_0_1_2_11.startIndexMap from List.mem_singleton.mpr rfl)]
    have hsi : ∀ (z : S16384x200x1.Idx), (∀ b, (z b).val = (ValueIdx.ix3 r c (0 : Fin 1) b).val) → min (idx z).toInt.toNat 98 = n.val := fun z hz => by
      rw [show z = ValueIdx.ix3 r c (0 : Fin 1) from funext fun b => Fin.ext (hz b), hn]
      omega
    refine hsi _ fun b => ?_
    match b with
    | ⟨0, _⟩ => rfl
    | ⟨1, _⟩ => rfl
    | ⟨2, _⟩ => rfl

/-- The read of the knots at a query. -/
theorem take_knot {α : Type} (x : S99.Idx → α) (idx : IVec S16384x200x1 32) (r : Fin 16384) (c : Fin 200) (n : Fin 99)
    (hn : (idx (ValueIdx.ix3 r c (0 : Fin 1))).toInt.toNat = n.val) :
    Host.gather gather_S99_S16384x200x1_S16384x200_n_0_n_n_0_2_1 x idx (ix2 r c) = x (ValueIdx.ix1 n) := by
  unfold Host.gather
  refine congrArg x (funext fun a => Fin.ext ?_)
  generalize hd : gather_S99_S16384x200x1_S16384x200_n_0_n_n_0_2_1 = d
  show d.start (ix2 r c) idx a + d.batchCoord (ix2 r c) a + d.offCoord (ix2 r c) a = _
  subst hd
  match a with
  | ⟨0, h0⟩ =>
    rw [GatherDims.batchCoord_eq_zero _ _ _ (fun h => absurd h (by simp [gather_S99_S16384x200x1_S16384x200_n_0_n_n_0_2_1])),
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 1) ∈ gather_S99_S16384x200x1_S16384x200_n_0_n_n_0_2_1.startIndexMap from List.mem_singleton.mpr rfl)]
    have hsi : ∀ (z : S16384x200x1.Idx), (∀ b, (z b).val = (ValueIdx.ix3 r c (0 : Fin 1) b).val) → min (idx z).toInt.toNat 98 = n.val := fun z hz => by
      rw [show z = ValueIdx.ix3 r c (0 : Fin 1) from funext fun b => Fin.ext (hz b), hn]
      omega
    refine hsi _ fun b => ?_
    match b with
    | ⟨0, _⟩ => rfl
    | ⟨1, _⟩ => rfl
    | ⟨2, _⟩ => rfl

end Cert.Proof.Ref

end
-- ==== Proof.RefKnots.lean ====
/-
  The reference's knots, knot values and tail slopes at the ideal instance.
-/
module

public import proofs.«01_k».proof.Proof.Gen.ReferenceIdeal.Run
public import proofs.«01_k».proof.Proof.Cumsum

@[expose] public section

noncomputable section

namespace Cert.Proof.Ref

open Cert.ReferenceIdeal Cert.ReferenceIdeal.Gen Cert.ReferenceIdeal.Value
open Idealize.ShloMosaic Idealize.ShloMosaic.StableHlo
open Idealize.ShloMosaic.ValueIdx

variable (V0 : Valuation τ sig (Elt Ideal))

/-- The four arguments. -/
def rX : S16384x128.Idx → EReal := V0 (Proc.devRef .tc main_arg0)
def rQ : S16384x200.Idx → EReal := V0 (Proc.devRef .tc main_arg1)
def rW : S128x99.Idx → EReal := V0 (Proc.devRef .tc main_arg2)
def rB : S99.Idx → EReal := V0 (Proc.devRef .tc main_arg3)

/-- The outputs of the layer at a row. -/
def zR (r : Fin 16384) : Fin 99 → EReal :=
  layer (fun j : Fin 128 => rX V0 (ix2 r j)) (fun j i => rW V0 (ix2 j i)) (fun i => rB V0 (ix1 i))

theorem word_int : ∀ k : Fin 99, (BitVec.ofNat 32 k.val).toInt = k.val := by decide

theorem one_over (x : BitVec 32) (y : ℝ) (hx : Ideal.ofBits .f32 x = (y : EReal)) (hy : y ≠ 0) :
    Ideal.div (Ideal.ofBits .f32 0x3F800000#32) (Ideal.ofBits .f32 x) = ((1 / y : ℝ) : EReal) := by
  rw [lit_one, hx, div_reals _ _ hy]

theorem v6_at (k : Fin 99) : (res_main_v6 V0 : S99.Idx → EReal) (ix1 k) = (((k.val + 1) / 100 : ℝ) : EReal) := by
  unfold res_main_v6
  show Ideal.div ((((BitVec.ofNat 32 k.val).toInt : ℝ) : EReal) + Ideal.ofBits .f32 0x3F800000#32) (Ideal.ofBits .f32 0x42C80000#32) = _
  rw [word_int, lit_one, lit_hundred, ← EReal.coe_add, div_reals _ _ (by norm_num), Int.cast_natCast]

theorem v0_at (i : S_.Idx) : (res_main_v0 V0 : S_.Idx → EReal) i = ((1 / 10000 : ℝ) : EReal) :=
  one_over _ _ lit_ten_thousand (by norm_num)

theorem v10_at (r : Fin 16384) (i : Fin 99) : (res_main_v10 V0 : S16384x99.Idx → EReal) (ix2 r i) = zR V0 r i := by
  unfold res_main_v10 zR layer
  refine congrArg₂ (fun a b : EReal => a + b) ?_ ?_
  · simp only [Host.dotGeneral]
    rw [Ideal.dotGeneral_apply, ← Equiv.sum_comp (contrEquiv1 dot_S16384x128_S128x99_S16384x99_1_0_0_1_n_n 128 rfl rfl).symm]
    refine Finset.sum_congr rfl fun j _ => congrArg₂ (fun a b : EReal => a * b) (congrArg (rX V0) ?_) (congrArg (rW V0) ?_)
    · funext a; apply Fin.ext
      match a with
      | ⟨0, _⟩ => rfl
      | ⟨1, _⟩ => rfl
    · funext a; apply Fin.ext
      match a with
      | ⟨0, _⟩ => rfl
      | ⟨1, _⟩ => rfl
  · refine congrArg (rB V0) (funext fun a => Fin.ext ?_)
    match a with
    | ⟨0, _⟩ => rfl

theorem v12_at (r : Fin 16384) (k : Fin 99) : (res_main_v12 V0 : S16384x99.Idx → EReal) (ix2 r k) = knotSum (zR V0 r) k := by
  unfold res_main_v12
  refine (cumsum_at _ _ ?_ r k).trans ?_
  · exact fun _ => lit_zero
  unfold knotSum
  refine Finset.sum_congr rfl fun i _ => ?_
  refine congrArg (fun e : EReal => if i ≤ k then e else 0) ?_
  unfold res_main_call0_v3
  obtain ⟨z, ez⟩ : ∃ z : S16384x99.Idx → EReal, res_main_v10 V0 = z := ⟨_, rfl⟩
  have hz := v10_at V0 r i
  rw [ez] at hz ⊢
  show Scalar.select (Ideal.cmp .une (z (ix2 r i) - Ideal.ofBits .f32 0x00000000#32)
      (z (ix2 r i) - Ideal.ofBits .f32 0x00000000#32)) _
    (max (z (ix2 r i)) (Ideal.ofBits .f32 0x00000000#32) + Ideal.log1p (Ideal.exp (-
        max (z (ix2 r i) - Ideal.ofBits .f32 0x00000000#32) (-(z (ix2 r i) - Ideal.ofBits .f32 0x00000000#32))))) = _
  rw [hz, lit_zero]
  simp only [sub_zero]
  have hc : Ideal.cmp .une (zR V0 r i) (zR V0 r i) = 0#1 := by simp [Ideal.cmp]
  rw [hc, select_zero]
  rfl

/-- A knot as the scalar the reference slices out. -/
theorem knot_slice {α : Type} (z : S99.Idx → α) (o : Fin 99) (h : S99.Slices ![o.val] S1) (h' : S1.ShapeCasts S_) (i : S_.Idx) :
    shapeCast S_ (extractStridedSlice S1 ![o.val] z h) h' i = z (ix1 o) := by
  unfold shapeCast
  generalize Shape.reshapeEquiv h' i = j
  refine congrArg z (funext fun a => Fin.ext ?_)
  have hj : (j 0).val = 0 := Nat.lt_one_iff.mp (j 0).isLt
  match a with
  | ⟨0, _⟩ => show o.val + (j 0).val = o.val; rw [hj]; rfl

theorem col_slice {α : Type} (z : S16384x99.Idx → α) (o : Fin 99) (h : S16384x99.Slices ![0, o.val] S16384x1) (r : Fin 16384) :
    extractStridedSlice S16384x1 ![0, o.val] z h (ix2 r (0 : Fin 1)) = z (ix2 r o) :=
  congrArg z (funext fun a => Fin.ext (match a with | ⟨0, _⟩ => Nat.zero_add _ | ⟨1, _⟩ => rfl))

/-- The knot scalars as reals. -/
theorem knot_real (o : Fin 99) (h : S99.Slices ![o.val] S1) (h' : S1.ShapeCasts S_) (i : S_.Idx) :
    shapeCast S_ (extractStridedSlice S1 ![o.val] (res_main_v6 V0 : S99.Idx → EReal) h) h' i = (((o.val + 1) / 100 : ℝ) : EReal) :=
  (knot_slice _ o h h' i).trans (v6_at V0 o)

theorem beta_of (a b : ℝ) (hb : b + 1 / 10000 ≠ 0) (c : ℝ) (hc : (a + 1 / 10000) / (b + 1 / 10000) + 1 / 10000 = c) (h : 0 < c) :
    Ideal.log (Ideal.div ((a : EReal) + ((1 / 10000 : ℝ) : EReal)) ((b : EReal) + ((1 / 10000 : ℝ) : EReal)) + ((1 / 10000 : ℝ) : EReal)) = ((Real.log c : ℝ) : EReal) := by
  rw [← EReal.coe_add, ← EReal.coe_add, div_reals _ _ hb, ← EReal.coe_add, hc, log_pos_real _ h]

theorem v62_at (r : Fin 16384) : (res_main_v62 V0 : S16384x1.Idx → EReal) (ix2 r (0 : Fin 1))
    = Ideal.div 1 (Ideal.div ((Real.log (3010201 / 2010000) : ℝ) : EReal) (knotSum (zR V0 r) 1 - knotSum (zR V0 r) 0)) := by
  unfold res_main_v62
  refine congrArg₂ Ideal.div lit_one (congrArg₂ Ideal.div ?_ (congrArg₂ (fun a b : EReal => a - b) ?_ ?_))
  · refine Eq.trans (congrArg Ideal.log (congrArg₂ (fun a b : EReal => a + b) (congrArg₂ Ideal.div
      (congrArg₂ (fun a b : EReal => a + b) (knot_real V0 2 _ _ _) (v0_at V0 _)) (congrArg₂ (fun a b : EReal => a + b) (knot_real V0 1 _ _ _) (v0_at V0 _))) (v0_at V0 _))) ?_
    exact beta_of _ _ (by norm_num) _ (by norm_num) (by norm_num)
  · exact (col_slice _ 1 _ r).trans (v12_at V0 r 1)
  · exact (col_slice _ 0 _ r).trans (v12_at V0 r 0)

theorem v44_at (r : Fin 16384) : (res_main_v44 V0 : S16384x1.Idx → EReal) (ix2 r (0 : Fin 1))
    = Ideal.div 1 (Ideal.div ((Real.log (2010101 / 1010000) : ℝ) : EReal) (knotSum (zR V0 r) 97 - knotSum (zR V0 r) 98)) := by
  unfold res_main_v44
  refine congrArg₂ Ideal.div lit_one (congrArg₂ Ideal.div ?_ (congrArg₂ (fun a b : EReal => a - b) ?_ ?_))
  · refine Eq.trans (congrArg Ideal.log (congrArg₂ (fun a b : EReal => a + b) (congrArg₂ Ideal.div
      (congrArg₂ (fun a b : EReal => a + b) (congrArg₂ (fun a b : EReal => a - b) lit_one (knot_real V0 97 _ _ _)) (v0_at V0 _))
      (congrArg₂ (fun a b : EReal => a + b) (congrArg₂ (fun a b : EReal => a - b) lit_one (knot_real V0 98 _ _ _)) (v0_at V0 _))) (v0_at V0 _))) ?_
    simp only [← EReal.coe_sub]
    exact beta_of _ _ (by norm_num) _ (by norm_num) (by norm_num)
  · exact (col_slice _ 97 _ r).trans (v12_at V0 r 97)
  · exact (col_slice _ 98 _ r).trans (v12_at V0 r 98)

theorem v79_at (r : Fin 16384) (c : Fin 200) : res_main_v79 V0 (ix2 r c) = Ideal.cmp .olt (rQ V0 (ix2 r c)) ((1 / 100 : ℝ) : EReal) := by
  unfold res_main_v79
  refine congrArg (Ideal.cmp .olt (rQ V0 (ix2 r c))) ((knot_real V0 0 _ _ _).trans ?_)
  norm_num

theorem v83_at (r : Fin 16384) (c : Fin 200) : res_main_v83 V0 (ix2 r c) = Ideal.cmp .ogt (rQ V0 (ix2 r c)) ((99 / 100 : ℝ) : EReal) := by
  unfold res_main_v83
  refine congrArg (Ideal.cmp .ogt (rQ V0 (ix2 r c))) ((knot_real V0 98 _ _ _).trans ?_)
  norm_num

end Cert.Proof.Ref

end
-- ==== Proof.RefAt.lean ====
/-
  The reference's interval of a query, and its result at a row and a query, at the ideal instance.
-/
module

public import proofs.«01_k».proof.Proof.RefKnots
public import Idealize.ShloMosaic.Lib.IndicatorCount
public import Idealize.ShloMosaic.Lib.Pipeline.Value

@[expose] public section

noncomputable section

namespace Cert.Proof.Ref

open Cert.ReferenceIdeal Cert.ReferenceIdeal.Gen Cert.ReferenceIdeal.Value
open Idealize.ShloMosaic Idealize.ShloMosaic.StableHlo
open Idealize.ShloMosaic.ValueIdx

variable (V0 : Valuation τ sig (Elt Ideal))

/-! ## The knots at most a query -/

/-- The number of knots at most a query. -/
def cnt (y : EReal) : ℕ := (Finset.univ.filter fun k : Fin 99 => Ideal.cmp .ole (((k.val + 1) / 100 : ℝ) : EReal) y = 1#1).card

theorem cnt_le (y : EReal) : cnt y ≤ 99 := (Finset.card_le_univ _).trans (by simp)

theorem v93_at (r : Fin 16384) (c : Fin 200) : res_main_v93 V0 (ix2 r c) = BitVec.ofNat 32 (cnt (rQ V0 (ix2 r c))) := by
  have hr : S16384x200x99.Reduces [2] S16384x200 := by decide
  unfold res_main_v93
  refine (Host.reduce_eq_fold_single IntOp.addi _ _ reducesTo_S16384x200x99_S16384x200_d2 hr h_S_ (ix2 r c)).trans ?_
  refine Eq.trans ?_ (IndicatorCount.fold_addi_setWidth_eq_card (w := 32) (fun k : Fin 99 => Ideal.cmp .ole (((k.val + 1) / 100 : ℝ) : EReal) (rQ V0 (ix2 r c))) Finset.univ)
  refine congrArg (fun f : Fin 99 → BitVec 32 => Finset.univ.fold IntOp.addi 0#32 f) (funext fun k => ?_)
  refine congrArg (fun e : BitVec 1 => e.setWidth 32) (congrArg₂ (Ideal.cmp .ole) ?_ ?_)
  · refine Eq.trans (congrArg (res_main_v6 V0 : S99.Idx → EReal) (funext fun a => Fin.ext ?_)) (v6_at V0 k)
    match a with
    | ⟨0, _⟩ => rfl
  · refine congrArg (rQ V0) (funext fun a => Fin.ext ?_)
    match a with
    | ⟨0, _⟩ => rfl
    | ⟨1, _⟩ => rfl

/-- The right and the left knot of the interval. -/
def rightN (y : EReal) : Fin 99 := ⟨min (cnt y) 98, by omega⟩
def leftN (y : EReal) : Fin 99 := ⟨min (cnt y) 98 - 1, by omega⟩

theorem clamp_right : ∀ n : Fin 100, Scalar.select (IntOp.cmpi .sge (BitVec.ofNat 32 n.val) 99#32) 98#32 (BitVec.ofNat 32 n.val) = BitVec.ofNat 32 (min n.val 98) := by decide
theorem clamp_left : ∀ n : Fin 99, Scalar.select (IntOp.cmpi .sge (IntOp.subi (BitVec.ofNat 32 n.val) 1#32) 0#32) (IntOp.subi (BitVec.ofNat 32 n.val) 1#32) 0#32
    = BitVec.ofNat 32 (n.val - 1) := by decide
theorem wrap_none : ∀ n : Fin 99, Scalar.select (IntOp.cmpi .slt (BitVec.ofNat 32 n.val) 0#32) (IntOp.addi (BitVec.ofNat 32 n.val) 99#32) (BitVec.ofNat 32 n.val)
    = BitVec.ofNat 32 n.val := by decide
theorem in_range : ∀ n : Fin 99, IntOp.andi (IntOp.andi (IntOp.cmpi .sge (BitVec.ofNat 32 n.val) 0#32) (IntOp.cmpi .sle (BitVec.ofNat 32 n.val) 98#32)) 1#1 = 1#1 := by decide

theorem v96_at (r : Fin 16384) (c : Fin 200) : res_main_v96 V0 (ix2 r c) = BitVec.ofNat 32 (rightN (rQ V0 (ix2 r c))).val := by
  unfold res_main_v96
  show Scalar.select (IntOp.cmpi .sge (res_main_v93 V0 (ix2 r c)) 99#32) 98#32 (res_main_v93 V0 (ix2 r c)) = _
  rw [v93_at]
  exact clamp_right ⟨cnt (rQ V0 (ix2 r c)), Nat.lt_succ_of_le (cnt_le _)⟩

theorem v103_at (r : Fin 16384) (c : Fin 200) : res_main_v103 V0 (ix2 r c) = BitVec.ofNat 32 (leftN (rQ V0 (ix2 r c))).val := by
  unfold res_main_v103
  show Scalar.select (IntOp.cmpi .sge (IntOp.subi (res_main_v96 V0 (ix2 r c)) 1#32) 0#32) (IntOp.subi (res_main_v96 V0 (ix2 r c)) 1#32) 0#32 = _
  rw [v96_at]
  exact clamp_left (rightN (rQ V0 (ix2 r c)))

/-! ## The reads at the interval's knots -/

/-- The index of a read: an index below zero counts from the end. -/
def wrapped (v : IVec S16384x200 32) : IVec S16384x200 32 :=
  select (cmpi .slt v (broadcastInDim S16384x200 ![] bcast_S_S16384x200 (constantI S_ 32 0#32)))
    (addi v (broadcastInDim S16384x200 ![] bcast_S_S16384x200 (constantI S_ 32 99#32))) v

theorem wrapped_at (v : IVec S16384x200 32) (r : Fin 16384) (c : Fin 200) (n : Fin 99) (h : v (ix2 r c) = BitVec.ofNat 32 n.val) :
    wrapped v (ix2 r c) = BitVec.ofNat 32 n.val := by
  show Scalar.select (IntOp.cmpi .slt (v (ix2 r c)) 0#32) (IntOp.addi (v (ix2 r c)) 99#32) (v (ix2 r c)) = _
  rw [h]
  exact wrap_none n

theorem cast_col (v : IVec S16384x200 32) (r : Fin 16384) (c : Fin 200) :
    shapeCast S16384x200x1 v shapeCasts_S16384x200_S16384x200x1 (ix3 r c (0 : Fin 1)) = v (ix2 r c) :=
  shapeCast_apply v _ _ _ (by
    rw [Shape.rowMajor_val_two, Shape.rowMajor_val_three]
    show r.val * 200 + c.val = (r.val * 200 + c.val) * 1 + 0
    omega)

theorem idx_col (v : IVec S16384x200 32) (r : Fin 16384) (c : Fin 200) :
    broadcastInDim S16384x200x1 ![0, 1] bcast_S16384x200_S16384x200x1_0_1 v (ix3 r c (0 : Fin 1)) = v (ix2 r c) :=
  congrArg v (funext fun a => Fin.ext (match a with | ⟨0, _⟩ => rfl | ⟨1, _⟩ => rfl))

theorem knot_int (n : Fin 99) : (BitVec.ofNat 32 n.val).toInt.toNat = n.val := by rw [word_int]; exact Int.toNat_natCast _

/-- A knot value read at an index that is in range. -/
theorem read_val (v : IVec S16384x200 32) (r : Fin 16384) (c : Fin 200) (n : Fin 99) (h : v (ix2 r c) = BitVec.ofNat 32 n.val) :
    (select (Host.reduce IntOp.andi (andi (cmpi .sge (shapeCast S16384x200x1 (wrapped v) shapeCasts_S16384x200_S16384x200x1) (broadcastInDim S16384x200x1 ![] bcast_S_S16384x200x1 (constantI S_ 32 0#32)))
        (cmpi .sle (shapeCast S16384x200x1 (wrapped v) shapeCasts_S16384x200_S16384x200x1) (broadcastInDim S16384x200x1 ![0, 1, 2] bcast_S1x1x1_S16384x200x1_0_1_2
          (broadcastInDim S1x1x1 ![2] bcast_S1_S1x1x1_2 (constantI S1 32 98#32))))) (constantI S_ 1 1#1) reducesTo_S16384x200x1_S16384x200_d2 h_S_)
      (Host.gather gather_S16384x99_S16384x200x1_S16384x200_n_1_0_0_1_2_11 (res_main_v12 V0) (shapeCast S16384x200x1 (wrapped v) shapeCasts_S16384x200_S16384x200x1))
      (broadcastInDim S16384x200 ![] bcast_S_S16384x200 (constant (F := Ideal) S_ .f32 0x7FC00000#32)) : S16384x200.Idx → EReal) (ix2 r c)
      = knotSum (zR V0 r) n := by
  have hi : shapeCast S16384x200x1 (wrapped v) shapeCasts_S16384x200_S16384x200x1 (ix3 r c (0 : Fin 1)) = BitVec.ofNat 32 n.val := (cast_col _ r c).trans (wrapped_at v r c n h)
  refine Eq.trans (congrArg₂ (fun (t : BitVec 1) (e : EReal) => Scalar.select t e _) ?_ ((take_row _ _ r c n ?_).trans (v12_at V0 r n))) (select_one _ _)
  · have hr : S16384x200x1.Reduces [2] S16384x200 := by decide
    refine (Host.reduce_eq_fold_single IntOp.andi _ _ reducesTo_S16384x200x1_S16384x200_d2 hr h_S_ (ix2 r c)).trans ?_
    have hl : hr.lift (ix2 r c) (0 : Fin 1) = ix3 r c (0 : Fin 1) := funext fun a => Fin.ext (match a with | ⟨0, _⟩ => rfl | ⟨1, _⟩ => rfl | ⟨2, _⟩ => rfl)
    refine (Finset.fold_singleton (op := IntOp.andi) (a := (0 : Fin 1))).trans ?_
    refine Eq.trans ?_ (in_range n)
    rw [← hi, ← hl]
    rfl
  · rw [hi]; exact knot_int n

/-- A knot read at an index that is in range. -/
theorem read_knot (v : IVec S16384x200 32) (r : Fin 16384) (c : Fin 200) (n : Fin 99) (h : v (ix2 r c) = BitVec.ofNat 32 n.val) :
    (Host.gather gather_S99_S16384x200x1_S16384x200_n_0_n_n_0_2_1 (res_main_v6 V0 : S99.Idx → EReal)
      (broadcastInDim S16384x200x1 ![0, 1] bcast_S16384x200_S16384x200x1_0_1 (wrapped v))) (ix2 r c) = (((n.val + 1) / 100 : ℝ) : EReal) :=
  (take_knot _ _ r c n (by rw [idx_col, wrapped_at v r c n h]; exact knot_int n)).trans (v6_at V0 n)

theorem v104_at (r : Fin 16384) (c : Fin 200) : (res_main_v104 V0 : S16384x200.Idx → EReal) (ix2 r c) = knotSum (zR V0 r) (leftN (rQ V0 (ix2 r c))) := by
  unfold res_main_v104 res_main_call4_v5
  exact read_val V0 (res_main_v103 V0) r c _ (v103_at V0 r c)

theorem v112_at (r : Fin 16384) (c : Fin 200) : (res_main_v112 V0 : S16384x200.Idx → EReal) (ix2 r c) = ((((leftN (rQ V0 (ix2 r c))).val + 1) / 100 : ℝ) : EReal) := by
  unfold res_main_v112
  exact read_knot V0 (res_main_v103 V0) r c _ (v103_at V0 r c)

/-! ## The result -/

/-- A tail's value from the query's logarithm, the slope and the end knot's value. -/
def tailR (u s n : EReal) : EReal := u * s + (-s * ((Real.log (1 / 100) : ℝ) : EReal) + n)

theorem one_sub_last : ((1 : ℝ) : EReal) - ((((98 : Fin 99).val + 1) / 100 : ℝ) : EReal) = ((1 / 100 : ℝ) : EReal) := by
  rw [← EReal.coe_sub]; norm_num

/-- The reference's last operations, of the values they read: the centre times its flag, and the tails times theirs. -/
def assembled (q a b g s : S16384x200.Idx → EReal) (e w0 w98 : S_.Idx → EReal) (t79 t83 : IVec S16384x200 1) (s62 s44 n0 n98 : S16384x1.Idx → EReal) :
    FVec Ideal S16384x200 .f32 :=
  addf (φ := .f32) (addf (φ := .f32) (mulf (φ := .f32) (addf (φ := .f32) a (mulf (φ := .f32) (Host.divf (φ := .f32) (subf (φ := .f32) q b)
      (addf (φ := .f32) (subf (φ := .f32) g b) (broadcastInDim S16384x200 ![] bcast_S_S16384x200 e))) (subf (φ := .f32) s a))) (uitofp .f32 (andi (noti t79) (noti t83))))
    (mulf (φ := .f32) (uitofp .f32 t79) (addf (φ := .f32) (mulf (φ := .f32) (Host.log (φ := .f32) q) (broadcastInDim S16384x200 ![0, 1] bcast_S16384x1_S16384x200_0_1 s62))
      (broadcastInDim S16384x200 ![0, 1] bcast_S16384x1_S16384x200_0_1 (addf (φ := .f32) (mulf (φ := .f32) (Host.negf (φ := .f32) s62) (broadcastInDim S16384x1 ![] bcast_S_S16384x1 w0)) n0)))))
    (mulf (φ := .f32) (uitofp .f32 t83) (addf (φ := .f32) (mulf (φ := .f32) (Host.log (φ := .f32) (subf (φ := .f32) (broadcastInDim S16384x200 ![] bcast_S_S16384x200 (constant S_ .f32 0x3F800000#32)) q))
        (broadcastInDim S16384x200 ![0, 1] bcast_S16384x1_S16384x200_0_1 s44))
      (broadcastInDim S16384x200 ![0, 1] bcast_S16384x1_S16384x200_0_1 (addf (φ := .f32) (mulf (φ := .f32) (Host.negf (φ := .f32) s44) (broadcastInDim S16384x1 ![] bcast_S_S16384x1 w98)) n98))))

theorem assembled_at (q a b g s : S16384x200.Idx → EReal) (e w0 w98 : S_.Idx → EReal) (t79 t83 : IVec S16384x200 1) (s62 s44 n0 n98 : S16384x1.Idx → EReal)
    (r : Fin 16384) (c : Fin 200) (e' w : EReal) (he : ∀ i, e i = e') (h0 : ∀ i, w0 i = w) (h98 : ∀ i, w98 i = w) :
    (assembled q a b g s e w0 w98 t79 t83 s62 s44 n0 n98 : S16384x200.Idx → EReal) (ix2 r c)
      = ((a (ix2 r c) + Ideal.div (q (ix2 r c) - b (ix2 r c)) (g (ix2 r c) - b (ix2 r c) + e') * (s (ix2 r c) - a (ix2 r c)))
          * (((IntOp.andi (~~~(t79 (ix2 r c))) (~~~(t83 (ix2 r c)))).toNat : ℝ) : EReal)
        + (((t79 (ix2 r c)).toNat : ℝ) : EReal) * (Ideal.log (q (ix2 r c)) * s62 (ix2 r (0 : Fin 1)) + (-(s62 (ix2 r (0 : Fin 1))) * w + n0 (ix2 r (0 : Fin 1)))))
        + (((t83 (ix2 r c)).toNat : ℝ) : EReal) * (Ideal.log (1 - q (ix2 r c)) * s44 (ix2 r (0 : Fin 1)) + (-(s44 (ix2 r (0 : Fin 1))) * w + n98 (ix2 r (0 : Fin 1)))) := by
  have bc : ∀ z : S16384x1.Idx → EReal, broadcastInDim S16384x200 ![0, 1] bcast_S16384x1_S16384x200_0_1 z (ix2 r c) = z (ix2 r (0 : Fin 1)) := fun z =>
    congrArg z (funext fun a => Fin.ext (match a with | ⟨0, _⟩ => rfl | ⟨1, _⟩ => rfl))
  unfold assembled
  refine congrArg₂ (fun a b : EReal => a + b) (congrArg₂ (fun a b : EReal => a + b) (congrArg₂ (fun a b : EReal => a * b) ?_ rfl) (congrArg₂ (fun a b : EReal => a * b) rfl ?_))
    (congrArg₂ (fun a b : EReal => a * b) rfl ?_)
  · exact congrArg₂ (fun a b : EReal => a + b) rfl (congrArg₂ (fun a b : EReal => a * b) (congrArg₂ Ideal.div rfl (congrArg₂ (fun a b : EReal => a + b) rfl (he _))) rfl)
  · exact congrArg₂ (fun a b : EReal => a + b) (congrArg₂ (fun a b : EReal => a * b) rfl (bc _)) ((bc _).trans
      (congrArg₂ (fun a b : EReal => a + b) (congrArg₂ (fun a b : EReal => a * b) rfl (h0 _)) rfl))
  · exact congrArg₂ (fun a b : EReal => a + b) (congrArg₂ (fun a b : EReal => a * b) (congrArg Ideal.log (congrArg₂ (fun a b : EReal => a - b) lit_one rfl)) (bc _)) ((bc _).trans
      (congrArg₂ (fun a b : EReal => a + b) (congrArg₂ (fun a b : EReal => a * b) rfl (h98 _)) rfl))

/-- The right knot and the right knot value, as the reference reads them. -/
def rightK : S16384x200.Idx → EReal := Host.gather gather_S99_S16384x200x1_S16384x200_n_0_n_n_0_2_1 (res_main_v6 V0)
  (broadcastInDim S16384x200x1 ![0, 1] bcast_S16384x200_S16384x200x1_0_1 (wrapped (res_main_v96 V0)))

def rightV : S16384x200.Idx → EReal :=
  select (Host.reduce IntOp.andi (andi (cmpi .sge (res_main_call5_v5 V0) (broadcastInDim S16384x200x1 ![] bcast_S_S16384x200x1 (constantI S_ 32 0#32)))
      (cmpi .sle (res_main_call5_v5 V0) (broadcastInDim S16384x200x1 ![0, 1, 2] bcast_S1x1x1_S16384x200x1_0_1_2
        (broadcastInDim S1x1x1 ![2] bcast_S1_S1x1x1_2 (constantI S1 32 98#32))))) (constantI S_ 1 1#1) reducesTo_S16384x200x1_S16384x200_d2 h_S_)
    (Host.gather gather_S16384x99_S16384x200x1_S16384x200_n_1_0_0_1_2_11 (res_main_v12 V0) (res_main_call5_v5 V0))
    (broadcastInDim S16384x200 ![] bcast_S_S16384x200 (constant (F := Ideal) S_ .f32 0x7FC00000#32))

theorem rightV_at (r : Fin 16384) (c : Fin 200) : rightV V0 (ix2 r c) = knotSum (zR V0 r) (rightN (rQ V0 (ix2 r c))) := by
  unfold rightV res_main_call5_v5
  exact read_val V0 (res_main_v96 V0) r c _ (v96_at V0 r c)

theorem rightK_at (r : Fin 16384) (c : Fin 200) : rightK V0 (ix2 r c) = ((((rightN (rQ V0 (ix2 r c))).val + 1) / 100 : ℝ) : EReal) :=
  read_knot V0 (res_main_v96 V0) r c _ (v96_at V0 r c)

/-- The logarithms of the end knot and of one less the other. -/
def logFirst : S_.Idx → EReal := Host.log (F := Ideal) (φ := .f32) (shapeCast S_ (extractStridedSlice S1 ![0] (res_main_v6 V0) slices_S99_S1_0) shapeCasts_S1_S_)
def logLast : S_.Idx → EReal := Host.log (F := Ideal) (φ := .f32) (subf (φ := .f32) (constant S_ .f32 0x3F800000#32)
  (shapeCast S_ (extractStridedSlice S1 ![98] (res_main_v6 V0) slices_S99_S1_98) shapeCasts_S1_S_))

theorem logFirst_at (i : S_.Idx) : logFirst V0 i = ((Real.log (1 / 100) : ℝ) : EReal) := by
  refine (congrArg Ideal.log (knot_real V0 0 _ _ _)).trans ((log_pos_real _ (by norm_num)).trans ?_)
  norm_num

theorem logLast_at (i : S_.Idx) : logLast V0 i = ((Real.log (1 / 100) : ℝ) : EReal) :=
  (congrArg Ideal.log ((congrArg₂ (fun a b : EReal => a - b) lit_one (knot_real V0 98 _ _ _)).trans one_sub_last)).trans (log_pos_real _ (by norm_num))

theorem val3_assembled : val3 V0 (Proc.devRef .tc main_v135)
    = assembled (rQ V0) (res_main_v104 V0) (res_main_v112 V0) (rightK V0) (rightV V0)
      (Host.divf (F := Ideal) (φ := .f32) (constant S_ .f32 0x3F800000#32) (constant S_ .f32 0x447A0000#32)) (logFirst V0) (logLast V0)
      (res_main_v79 V0) (res_main_v83 V0) (res_main_v62 V0) (res_main_v44 V0)
      (extractStridedSlice S16384x1 ![0, 0] (res_main_v12 V0) slices_S16384x99_S16384x1_0_0)
      (extractStridedSlice S16384x1 ![0, 98] (res_main_v12 V0) slices_S16384x99_S16384x1_0_98) := by
  rw [val3_main_v135]
  rfl

theorem ref_at (r : Fin 16384) (c : Fin 200) :
    (val3 V0 (Proc.devRef .tc main_v135) : S16384x200.Idx → EReal) (ix2 r c)
      = ((knotSum (zR V0 r) (leftN (rQ V0 (ix2 r c))) + Ideal.div (rQ V0 (ix2 r c) - ((((leftN (rQ V0 (ix2 r c))).val + 1) / 100 : ℝ) : EReal))
            (((((rightN (rQ V0 (ix2 r c))).val + 1) / 100 : ℝ) : EReal) - ((((leftN (rQ V0 (ix2 r c))).val + 1) / 100 : ℝ) : EReal) + ((1 / 1000 : ℝ) : EReal))
              * (knotSum (zR V0 r) (rightN (rQ V0 (ix2 r c))) - knotSum (zR V0 r) (leftN (rQ V0 (ix2 r c)))))
          * (((IntOp.andi (~~~(Ideal.cmp .olt (rQ V0 (ix2 r c)) ((1 / 100 : ℝ) : EReal))) (~~~(Ideal.cmp .ogt (rQ V0 (ix2 r c)) ((99 / 100 : ℝ) : EReal)))).toNat : ℝ) : EReal)
        + (((Ideal.cmp .olt (rQ V0 (ix2 r c)) ((1 / 100 : ℝ) : EReal)).toNat : ℝ) : EReal)
          * tailR (Ideal.log (rQ V0 (ix2 r c))) (Ideal.div 1 (Ideal.div ((Real.log (3010201 / 2010000) : ℝ) : EReal) (knotSum (zR V0 r) 1 - knotSum (zR V0 r) 0)))
            (knotSum (zR V0 r) 0))
        + (((Ideal.cmp .ogt (rQ V0 (ix2 r c)) ((99 / 100 : ℝ) : EReal)).toNat : ℝ) : EReal)
          * tailR (Ideal.log (1 - rQ V0 (ix2 r c))) (Ideal.div 1 (Ideal.div ((Real.log (2010101 / 1010000) : ℝ) : EReal) (knotSum (zR V0 r) 97 - knotSum (zR V0 r) 98)))
            (knotSum (zR V0 r) 98) := by
  rw [val3_assembled]
  refine (assembled_at _ _ _ _ _ _ _ _ _ _ _ _ _ _ r c _ _ (fun _ => one_over _ _ lit_thousand (by norm_num)) (logFirst_at V0) (logLast_at V0)).trans ?_
  rw [v104_at, v112_at, rightK_at, rightV_at, v79_at, v83_at, v62_at, v44_at]
  rw [show extractStridedSlice S16384x1 ![0, 0] (res_main_v12 V0) slices_S16384x99_S16384x1_0_0 (ix2 r (0 : Fin 1)) = knotSum (zR V0 r) 0 from (col_slice _ 0 _ r).trans (v12_at V0 r 0),
    show extractStridedSlice S16384x1 ![0, 98] (res_main_v12 V0) slices_S16384x99_S16384x1_0_98 (ix2 r (0 : Fin 1)) = knotSum (zR V0 r) 98 from (col_slice _ 98 _ r).trans (v12_at V0 r 98)]
  rfl

end Cert.Proof.Ref

end
-- ==== Proof.Equal.lean ====
/-
  The two programs' results at a place are equal: in the centre, in the left tail, in the right tail.
-/
module

public import proofs.«01_k».proof.Proof.KernelAt
public import proofs.«01_k».proof.Proof.RefAt

@[expose] public section

noncomputable section

namespace Cert.Proof

open Cert.Proof.Ref
open Idealize.ShloMosaic hiding ix2
open Idealize.ShloMosaic.ValueIdx

/-- The kernel's result at a query, from the row's knot values. -/
def kerV (y : EReal) (K : Fin 99 → EReal) (l : Fin 98) : EReal :=
  Scalar.select (IntOp.ori (Ideal.cmp .olt y ((1 / 100 : ℝ) : EReal)) (Ideal.cmp .ogt y ((99 / 100 : ℝ) : EReal)))
    (Scalar.select (Ideal.cmp .olt y ((1 / 100 : ℝ) : EReal)) (tailV (Ideal.log y) (K 1) (K 0) (Real.log (3010201 / 2010000)))
      (tailV (Ideal.log (1 - y)) (K 97) (K 98) (Real.log (2010101 / 1010000))))
    (K ⟨l.val, by omega⟩ + ((y * Ideal.ofBits .f32 0x42C80000#32 - (((IntOp.addi (laneOf y) 1#32).toInt : ℝ) : EReal)) * ((10 / 11 : ℝ) : EReal))
      * (K ⟨l.val + 1, by omega⟩ - K ⟨l.val, by omega⟩))

/-- The reference's result at a query, from the row's knot values. -/
def refV (y : EReal) (K : Fin 99 → EReal) : EReal :=
  ((K (leftN y) + Ideal.div (y - ((((leftN y).val + 1) / 100 : ℝ) : EReal))
      (((((rightN y).val + 1) / 100 : ℝ) : EReal) - ((((leftN y).val + 1) / 100 : ℝ) : EReal) + ((1 / 1000 : ℝ) : EReal)) * (K (rightN y) - K (leftN y)))
    * (((IntOp.andi (~~~(Ideal.cmp .olt y ((1 / 100 : ℝ) : EReal))) (~~~(Ideal.cmp .ogt y ((99 / 100 : ℝ) : EReal)))).toNat : ℝ) : EReal)
  + (((Ideal.cmp .olt y ((1 / 100 : ℝ) : EReal)).toNat : ℝ) : EReal)
    * tailR (Ideal.log y) (Ideal.div 1 (Ideal.div ((Real.log (3010201 / 2010000) : ℝ) : EReal) (K 1 - K 0))) (K 0))
  + (((Ideal.cmp .ogt y ((99 / 100 : ℝ) : EReal)).toNat : ℝ) : EReal)
    * tailR (Ideal.log (1 - y)) (Ideal.div 1 (Ideal.div ((Real.log (2010101 / 1010000) : ℝ) : EReal) (K 97 - K 98))) (K 98)

theorem log_first_neg : Real.log (1 / 100) < 0 := Real.log_neg (by norm_num) (by norm_num)

theorem tails (u p n : EReal) (c : ℝ) (hc : 0 < c) (hu : u < 0) (hp : 0 ≤ p) (hn : 0 ≤ n) :
    tailV u p n c = tailR u (Ideal.div 1 (Ideal.div (c : EReal) (p - n))) n := tail_same u p n c _ hc log_first_neg hu hp hn

/-! ## A comparison's word -/

theorem bit_true (p : Prop) [Decidable p] (h : p) : BitVec.ofBool (decide p) = 1#1 := by rw [decide_eq_true h]; rfl
theorem bit_false (p : Prop) [Decidable p] (h : ¬ p) : BitVec.ofBool (decide p) = 0#1 := by rw [decide_eq_false h]; rfl

/-! ## The words of a query in the centre -/

theorem lane_words : ∀ n : Fin 100, 1 ≤ n.val →
    (IntOp.minsi (IntOp.maxsi (IntOp.subi (BitVec.ofNat 32 n.val) 1#32) 0#32) 97#32) = BitVec.ofNat 32 (min n.val 98 - 1)
      ∧ (IntOp.addi (BitVec.ofNat 32 (min n.val 98 - 1)) 1#32).toInt = min n.val 98 ∧ (BitVec.ofNat 32 (min n.val 98 - 1)).toNat = min n.val 98 - 1 := by decide

theorem trunc_real (s : ℝ) (h1 : 1 ≤ ⌊100 * s⌋.toNat) (h2 : ⌊100 * s⌋.toNat ≤ 99) (h3 : ⌊100 * s⌋ = (⌊100 * s⌋.toNat : ℤ)) :
    Ideal.fptosi 32 ((s : EReal) * Ideal.ofBits .f32 0x42C80000#32) = BitVec.ofNat 32 ⌊100 * s⌋.toNat := by
  rw [lit_hundred, ← EReal.coe_mul, mul_comm s 100]
  have h0 : (0 : ℝ) ≤ 100 * s := by
    have : (1 : ℤ) ≤ ⌊100 * s⌋ := by omega
    have := Int.le_floor.mp this
    push_cast at this
    linarith
  show BitVec.ofInt 32 (max _ (min _ (if 0 ≤ 100 * s then ⌊100 * s⌋ else ⌈100 * s⌉))) = _
  rw [if_pos h0, h3, min_eq_right (by push_cast; omega), max_eq_right (by push_cast; omega)]
  exact BitVec.ofInt_natCast ..

theorem cnt_real (s : ℝ) (n : ℕ) (hn : n ≤ 99) (h : ∀ k : ℕ, ((k : ℝ) + 1) / 100 ≤ s ↔ k < n) : cnt (s : EReal) = n := by
  have e : ∀ k : Fin 99, Ideal.cmp .ole ((((k.val : ℝ) + 1) / 100 : ℝ) : EReal) (s : EReal) = 1#1 ↔ k.val < n := fun k => by
    rw [← h k.val, ← EReal.coe_le_coe_iff]
    exact ⟨fun c => by_contra fun hc => absurd (c.symm.trans (bit_false _ hc)) (by decide), fun hc => bit_true _ hc⟩
  unfold cnt
  simp only [e]
  rw [Fin.card_filter_val_lt]
  exact min_eq_right hn

/-! ## The cases -/

theorem same_value (y : EReal) (K : Fin 99 → EReal) (hK : ∀ k, 0 ≤ K k) (l : Fin 98) (hl : (laneOf y).toNat = l.val) : kerV y K l = refV y K := by
  unfold kerV refV
  by_cases h0 : y < ((1 / 100 : ℝ) : EReal)
  · have hg : ¬ ((99 / 100 : ℝ) : EReal) < y := fun h => absurd (EReal.coe_lt_coe_iff.mp (h.trans h0)) (by norm_num)
    have c0 : Ideal.cmp .olt y ((1 / 100 : ℝ) : EReal) = 1#1 := bit_true _ h0
    have c1 : Ideal.cmp .ogt y ((99 / 100 : ℝ) : EReal) = 0#1 := bit_false _ hg
    rw [c0, c1, show IntOp.ori 1#1 0#1 = 1#1 from rfl, select_one, select_one, show (IntOp.andi (~~~(1#1)) (~~~(0#1))).toNat = 0 from rfl,
      show (1#1).toNat = 1 from rfl, show (0#1).toNat = 0 from rfl]
    simp only [Nat.cast_zero, Nat.cast_one, EReal.coe_zero, EReal.coe_one, mul_zero, zero_mul, one_mul, zero_add, add_zero]
    exact tails _ _ _ _ (Real.log_pos (by norm_num)) (log_neg_of_lt_one _ (h0.trans (by exact_mod_cast (by norm_num : (1 / 100 : ℝ) < 1)))) (hK _) (hK _)
  · have c0 : Ideal.cmp .olt y ((1 / 100 : ℝ) : EReal) = 0#1 := bit_false _ h0
    by_cases h1 : ((99 / 100 : ℝ) : EReal) < y
    · have c1 : Ideal.cmp .ogt y ((99 / 100 : ℝ) : EReal) = 1#1 := bit_true _ h1
      rw [c0, c1, show IntOp.ori 0#1 1#1 = 1#1 from rfl, select_one, select_zero, show (IntOp.andi (~~~(0#1)) (~~~(1#1))).toNat = 0 from rfl,
        show (1#1).toNat = 1 from rfl, show (0#1).toNat = 0 from rfl]
      simp only [Nat.cast_zero, Nat.cast_one, EReal.coe_zero, EReal.coe_one, mul_zero, zero_mul, one_mul, zero_add, add_zero]
      refine tails _ _ _ _ (Real.log_pos (by norm_num)) (log_neg_of_lt_one _ ?_) (hK _) (hK _)
      induction y with
      | bot => simp at h1
      | top => rw [EReal.sub_top]; exact bot_lt_iff_ne_bot.mpr (by exact EReal.coe_ne_bot 1)
      | coe s =>
        have hs := EReal.coe_lt_coe_iff.mp h1
        rw [show (1 : EReal) = ((1 : ℝ) : EReal) from rfl, ← EReal.coe_sub]
        exact EReal.coe_lt_coe_iff.mpr (by linarith)
    · have c1 : Ideal.cmp .ogt y ((99 / 100 : ℝ) : EReal) = 0#1 := bit_false _ h1
      rw [c0, c1, show IntOp.ori 0#1 0#1 = 0#1 from rfl, select_zero, show (IntOp.andi (~~~(0#1)) (~~~(0#1))).toNat = 1 from rfl, show (0#1).toNat = 0 from rfl]
      simp only [Nat.cast_zero, Nat.cast_one, EReal.coe_zero, EReal.coe_one, mul_one, zero_mul, add_zero]
      induction y with
      | bot => exact absurd (EReal.bot_lt_coe _) h0
      | top => exact absurd (EReal.coe_lt_top _) h1
      | coe s =>
        have s0 : 1 / 100 ≤ s := not_lt.mp fun h => h0 (EReal.coe_lt_coe_iff.mpr h)
        have s1 : s ≤ 99 / 100 := not_lt.mp fun h => h1 (EReal.coe_lt_coe_iff.mpr h)
        obtain ⟨n1, n99, hn, hk⟩ := knots_le s s0 s1
        have hf := trunc_real s n1 n99 hn
        have hc := cnt_real s _ n99 hk
        generalize ⌊100 * s⌋.toNat = n at n1 n99 hf hc
        obtain ⟨w1, w2, w3⟩ := lane_words ⟨n, by omega⟩ n1
        have hlane : laneOf (s : EReal) = BitVec.ofNat 32 (min n 98 - 1) := by unfold laneOf; rw [hf]; exact w1
        have hl' : l.val = min n 98 - 1 := by rw [← hl, hlane]; exact w3
        have eL : leftN (s : EReal) = ⟨l.val, by omega⟩ := Fin.ext (by show min (cnt (s : EReal)) 98 - 1 = l.val; rw [hc, hl'])
        have eR : rightN (s : EReal) = ⟨l.val + 1, by omega⟩ := Fin.ext (by show min (cnt (s : EReal)) 98 = l.val + 1; rw [hc, hl']; omega)
        have wI : (IntOp.addi (laneOf (s : EReal)) 1#32).toInt = ((l.val + 1 : ℕ) : ℤ) := by rw [hlane, hl']; refine w2.trans ?_; show ((min n 98 : ℕ) : ℤ) = _; omega
        rw [eL, eR, wI, lit_hundred]
        refine congrArg₂ (fun a b : EReal => a + b) rfl (congrArg₂ (fun a b : EReal => a * b) ?_ rfl)
        simp only [← EReal.coe_mul, ← EReal.coe_sub, ← EReal.coe_add]
        have hne : ((((l.val + 1 : ℕ) : ℝ) + 1) / 100 - ((l.val : ℝ) + 1) / 100 + 1 / 1000 : ℝ) ≠ 0 := by push_cast; ring_nf; norm_num
        rw [div_reals _ _ hne]
        have e := ratio_same s l.val
        refine congrArg (fun t : ℝ => (t : EReal)) ?_
        push_cast
        rw [e]
        ring

end Cert.Proof

end
-- ==== Proof.Algebraic.lean ====
/-
  The algebraic claim: from equal arguments the kernel and the reference end with equal results.
-/
module

public import proofs.«01_k».proof.Proof.Equal
public import proofs.«01_k».proof.Defs
public import proofs.«01_k».proof.Proof.Gen.KernelIdeal
public import proofs.«01_k».proof.Proof.Gen.ReferenceIdeal
public import proofs.«01_k».proof.Proof.Gen.ReferenceIdeal.Run
public import Idealize.ShloMosaic.Adequacy

@[expose] public section

noncomputable section

namespace Cert.Proof

open Cert.KernelIdeal Cert.KernelIdeal.Gen
open Cert.Proof.Ref
open Idealize.ShloMosaic hiding ix2
open Idealize.ShloMosaic.ValueIdx Idealize.SL.Sem

variable (m : (ℓ : Loc nD τ sig) → Buf (Elt Ideal) ℓ) (d : Dev nD)

/-! ## The kernel's arguments -/

def kX : S16384x128.Idx → EReal := m (tl d main_arg0)
def kQ : S16384x200.Idx → EReal := m (tl d main_arg1)
def kW : S128x99.Idx → EReal := m (tl d main_arg2)
def kB : S99.Idx → EReal := m (tl d main_arg3)

/-- The outputs of the layer at a row. -/
def zK (r : Fin 16384) : Fin 99 → EReal :=
  layer (fun j : Fin 128 => kX m d (ix2 r j)) (fun j i => kW m d (ix2 j i)) (fun i => kB m d (ValueIdx.ix1 i))

/-- The weights and the bias as the kernels read them. -/
def kW128 : S128x128.Idx → EReal := V₁ m d (Proc.devRef .tc main_v2)
def kB128 : S1x128.Idx → EReal := V₁ m d (Proc.devRef .tc main_v7)

theorem A1_eq : A1 m d = F1g (F := Ideal) (kX m d) (kQ m d) (kW128 m d) (kB128 m d) := by
  refine (Vout_1 (V₁ m d)).trans ?_
  rw [V₁_keep m d main_arg0 (by decide), V₁_keep m d main_arg1 (by decide)]
  rfl

theorem A2_eq : A2 m d = F2g (F := Ideal) (kQ m d) := by
  refine (Vout_2 (V₁ m d)).trans ?_
  rw [V₁_keep m d main_arg1 (by decide)]
  rfl

theorem AQ_eq : AQ m d = FQg (F := Ideal) (kX m d) (kW128 m d) (kB128 m d) := by
  refine (Vout_0 (V₁ m d)).trans ?_
  rw [V₁_keep m d main_arg0 (by decide)]
  rfl

theorem preP_eq (r : Fin 16384) : preP (kX m d) (kW128 m d) (kB128 m d) r = zK m d r := by
  have hW : (fun (j : Fin 128) (i : Fin 99) => kW128 m d (ix2 j ⟨i.val, by omega⟩)) = fun j i => kW m d (ix2 j i) :=
    funext fun j => funext fun i => V₁_W m d j i
  have hB : (fun i : Fin 99 => kB128 m d (ix2 (0 : Fin 1) ⟨i.val, by omega⟩)) = fun i => kB m d (ValueIdx.ix1 i) :=
    funext fun i => V₁_b m d i
  unfold preP zK
  rw [hW, hB]

theorem lane_lt (y : EReal) : (laneOf y).toNat < 98 :=
  (congrArg BitVec.toNat (pay9_real (fun _ => y) (ix2 (0 : Fin 512) (0 : Fin 200)))).symm.trans_lt
    (lane_le (F := Ideal) (fun _ => y) (ix2 (0 : Fin 512) (0 : Fin 200)))

/-- The kernel's result at a place. -/
theorem res_at (r : Fin 16384) (c : Fin 200) (l : Fin 98) (hl : (laneOf (kQ m d (ix2 r c))).toNat = l.val) :
    Res (F := Ideal) m d (ix2 r c) = kerV (kQ m d (ix2 r c)) (knotSum (zK m d r)) l := by
  refine Eq.trans ?_ ((scVal_at (kX m d) (kQ m d) (kW128 m d) (kB128 m d) r c l hl).trans ?_)
  · unfold Res
    rw [A1_eq, A2_eq, AQ_eq]
  · rw [preP_eq]
    rfl

/-! ## The two results -/

variable (V0 : Valuation Cert.ReferenceIdeal.τ Cert.ReferenceIdeal.sig (Elt Ideal))

theorem zR_eq (hX : rX V0 = kX m d) (hW : rW V0 = kW m d) (hB : rB V0 = kB m d) (r : Fin 16384) : zR V0 r = zK m d r := by
  unfold zR zK
  rw [hX, hW, hB]

theorem results_at (hX : rX V0 = kX m d) (hQ : Ref.rQ V0 = kQ m d) (hW : rW V0 = kW m d) (hB : rB V0 = kB m d) (r : Fin 16384) (c : Fin 200) :
    (Cert.ReferenceIdeal.Value.val3 V0 (Proc.devRef .tc Cert.ReferenceIdeal.main_v135) : S16384x200.Idx → EReal) (ix2 r c)
      = Res (F := Ideal) m d (ix2 r c) := by
  have hr : (Cert.ReferenceIdeal.Value.val3 V0 (Proc.devRef .tc Cert.ReferenceIdeal.main_v135) : S16384x200.Idx → EReal) (ix2 r c)
      = refV (Ref.rQ V0 (ix2 r c)) (knotSum (zR V0 r)) := ref_at V0 r c
  refine hr.trans ?_
  rw [hQ, zR_eq m d V0 hX hW hB, res_at m d r c ⟨_, lane_lt _⟩ rfl]
  exact (same_value _ _ (fun k => knotSum_nonneg _ k) _ rfl).symm

/-- Two arrays of the result's shape that agree at every row and query. -/
theorem ext_at (f g : S16384x200.Idx → EReal) (h : ∀ (r : Fin 16384) (c : Fin 200), f (ix2 r c) = g (ix2 r c)) : f = g := funext fun x => by
  have hx : x = ix2 (x 0) (x 1) := funext fun a => Fin.ext (match a with | ⟨0, _⟩ => rfl | ⟨1, _⟩ => rfl)
  rw [hx]
  exact h _ _

theorem results_eq (hX : rX V0 = kX m d) (hQ : Ref.rQ V0 = kQ m d) (hW : rW V0 = kW m d) (hB : rB V0 = kB m d) :
    (Cert.ReferenceIdeal.Value.val3 V0 (Proc.devRef .tc Cert.ReferenceIdeal.main_v135) : S16384x200.Idx → EReal) = Res (F := Ideal) m d :=
  ext_at _ _ (results_at m d V0 hX hQ hW hB)

/-- The reference's run: it ends with the kernel's result, its arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg)
    (hX : ∀ c : Dev nD, rX (StableHlo.launchContents m' c) = kX m c) (hQ : ∀ c : Dev nD, Ref.rQ (StableHlo.launchContents m' c) = kQ m c)
    (hW : ∀ c : Dev nD, rW (StableHlo.launchContents m' c) = kW m c) (hB : ∀ c : Dev nD, rB (StableHlo.launchContents m' c) = kB m c) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v135) = Res (F := Ideal) m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun r h c => ?_) (Cert.ReferenceIdeal.Value.run (F := Ideal) m' g')
  have h' := h c
  rw [← Cert.ReferenceIdeal.Value.val3_main_v135 (StableHlo.launchContents m' c)] at h'
  exact ⟨h'.1.trans (results_eq m c _ (hX c) (hQ c) (hW c) (hB c)), h'.2⟩

theorem algebraic : Cert.algebraic_KernelIdeal_ReferenceIdeal := fun m g m' g' _ hm =>
  ⟨fun c => Res (F := Ideal) m c,
    (θ_run Cert.KernelIdeal.defs _ _).mono (fun _ h => h.1) (run_main (F := Ideal) m g),
    ref_run m m' g' (fun c => (hm c).1) (fun c => (hm c).2.1) (fun c => (hm c).2.2.1) (fun c => (hm c).2.2.2)⟩

end Cert.Proof

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_p, frame_pi, frame_ri, preserves, algebraic⟩

end Cert.Proof

end
